-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Recurrent (m : (ℓ : Loc Cert.Recurrent.nD Cert.Recurrent.τ Cert.Recurrent.sig) → Buf (Elt Bits) ℓ) : Prop :=
  True

def Pre_RecurrentIdeal (m : (ℓ : Loc Cert.RecurrentIdeal.nD Cert.RecurrentIdeal.τ Cert.RecurrentIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Recurrent [hRecurrent : Cert.Recurrent.Facts] : Prop :=
  ∀ (m : (ℓ : Loc Cert.Recurrent.nD Cert.Recurrent.τ Cert.Recurrent.sig) → Buf (Elt Bits) ℓ) (g : Dev Cert.Recurrent.nD → PrngReg), Pre_Recurrent m →
    θ_run (Cert.Recurrent.defs (F := Bits)) (onTc (τ := Cert.Recurrent.τ) (Cert.Recurrent.main (F := Bits))) ⟨m, fun _ => 0, g⟩ (fun r => (∀ c : Dev Cert.Recurrent.nD,
      r.2.mem ((c.tc : Thread Cert.Recurrent.nD Cert.Recurrent.τ).loc Cert.Recurrent.main_arg0) = m ((c.tc : Thread Cert.Recurrent.nD Cert.Recurrent.τ).loc Cert.Recurrent.main_arg0)
      ∧ r.2.mem ((c.tc : Thread Cert.Recurrent.nD Cert.Recurrent.τ).loc Cert.Recurrent.main_arg1) = m ((c.tc : Thread Cert.Recurrent.nD Cert.Recurrent.τ).loc Cert.Recurrent.main_arg1)
      ∧ r.2.mem ((c.tc : Thread Cert.Recurrent.nD Cert.Recurrent.τ).loc Cert.Recurrent.main_arg2) = m ((c.tc : Thread Cert.Recurrent.nD Cert.Recurrent.τ).loc Cert.Recurrent.main_arg2)
      ∧ r.2.mem ((c.tc : Thread Cert.Recurrent.nD Cert.Recurrent.τ).loc Cert.Recurrent.main_arg3) = m ((c.tc : Thread Cert.Recurrent.nD Cert.Recurrent.τ).loc Cert.Recurrent.main_arg3)
      ∧ r.2.mem ((c.tc : Thread Cert.Recurrent.nD Cert.Recurrent.τ).loc Cert.Recurrent.main_arg4) = m ((c.tc : Thread Cert.Recurrent.nD Cert.Recurrent.τ).loc Cert.Recurrent.main_arg4)
      ∧ r.2.mem ((c.tc : Thread Cert.Recurrent.nD Cert.Recurrent.τ).loc Cert.Recurrent.main_arg5) = m ((c.tc : Thread Cert.Recurrent.nD Cert.Recurrent.τ).loc Cert.Recurrent.main_arg5)
      ∧ r.2.mem ((c.tc : Thread Cert.Recurrent.nD Cert.Recurrent.τ).loc Cert.Recurrent.main_arg6) = m ((c.tc : Thread Cert.Recurrent.nD Cert.Recurrent.τ).loc Cert.Recurrent.main_arg6)
      ∧ r.2.mem ((c.tc : Thread Cert.Recurrent.nD Cert.Recurrent.τ).loc Cert.Recurrent.main_arg7) = m ((c.tc : Thread Cert.Recurrent.nD Cert.Recurrent.τ).loc Cert.Recurrent.main_arg7)
      ∧ r.2.mem ((c.tc : Thread Cert.Recurrent.nD Cert.Recurrent.τ).loc Cert.Recurrent.main_arg8) = m ((c.tc : Thread Cert.Recurrent.nD Cert.Recurrent.τ).loc Cert.Recurrent.main_arg8)
      ∧ r.2.mem ((c.tc : Thread Cert.Recurrent.nD Cert.Recurrent.τ).loc Cert.Recurrent.main_arg9) = m ((c.tc : Thread Cert.Recurrent.nD Cert.Recurrent.τ).loc Cert.Recurrent.main_arg9)
      ∧ r.2.mem ((c.tc : Thread Cert.Recurrent.nD Cert.Recurrent.τ).loc Cert.Recurrent.main_arg10) = m ((c.tc : Thread Cert.Recurrent.nD Cert.Recurrent.τ).loc Cert.Recurrent.main_arg10))
      ∧ r.2.sem = fun _ => 0)

def quiescent_RecurrentIdeal [hRecurrentIdeal : Cert.RecurrentIdeal.Facts] : Prop :=
  ∀ (m : (ℓ : Loc Cert.RecurrentIdeal.nD Cert.RecurrentIdeal.τ Cert.RecurrentIdeal.sig) → Buf (Elt Ideal) ℓ) (g : Dev Cert.RecurrentIdeal.nD → PrngReg), Pre_RecurrentIdeal m →
    θ_run (Cert.RecurrentIdeal.defs (F := Ideal)) (onTc (τ := Cert.RecurrentIdeal.τ) (Cert.RecurrentIdeal.main (F := Ideal))) ⟨m, fun _ => 0, g⟩ (fun r => (∀ c : Dev Cert.RecurrentIdeal.nD,
      r.2.mem ((c.tc : Thread Cert.RecurrentIdeal.nD Cert.RecurrentIdeal.τ).loc Cert.RecurrentIdeal.main_arg0) = m ((c.tc : Thread Cert.RecurrentIdeal.nD Cert.RecurrentIdeal.τ).loc Cert.RecurrentIdeal.main_arg0)
      ∧ r.2.mem ((c.tc : Thread Cert.RecurrentIdeal.nD Cert.RecurrentIdeal.τ).loc Cert.RecurrentIdeal.main_arg1) = m ((c.tc : Thread Cert.RecurrentIdeal.nD Cert.RecurrentIdeal.τ).loc Cert.RecurrentIdeal.main_arg1)
      ∧ r.2.mem ((c.tc : Thread Cert.RecurrentIdeal.nD Cert.RecurrentIdeal.τ).loc Cert.RecurrentIdeal.main_arg2) = m ((c.tc : Thread Cert.RecurrentIdeal.nD Cert.RecurrentIdeal.τ).loc Cert.RecurrentIdeal.main_arg2)
      ∧ r.2.mem ((c.tc : Thread Cert.RecurrentIdeal.nD Cert.RecurrentIdeal.τ).loc Cert.RecurrentIdeal.main_arg3) = m ((c.tc : Thread Cert.RecurrentIdeal.nD Cert.RecurrentIdeal.τ).loc Cert.RecurrentIdeal.main_arg3)
      ∧ r.2.mem ((c.tc : Thread Cert.RecurrentIdeal.nD Cert.RecurrentIdeal.τ).loc Cert.RecurrentIdeal.main_arg4) = m ((c.tc : Thread Cert.RecurrentIdeal.nD Cert.RecurrentIdeal.τ).loc Cert.RecurrentIdeal.main_arg4)
      ∧ r.2.mem ((c.tc : Thread Cert.RecurrentIdeal.nD Cert.RecurrentIdeal.τ).loc Cert.RecurrentIdeal.main_arg5) = m ((c.tc : Thread Cert.RecurrentIdeal.nD Cert.RecurrentIdeal.τ).loc Cert.RecurrentIdeal.main_arg5)
      ∧ r.2.mem ((c.tc : Thread Cert.RecurrentIdeal.nD Cert.RecurrentIdeal.τ).loc Cert.RecurrentIdeal.main_arg6) = m ((c.tc : Thread Cert.RecurrentIdeal.nD Cert.RecurrentIdeal.τ).loc Cert.RecurrentIdeal.main_arg6)
      ∧ r.2.mem ((c.tc : Thread Cert.RecurrentIdeal.nD Cert.RecurrentIdeal.τ).loc Cert.RecurrentIdeal.main_arg7) = m ((c.tc : Thread Cert.RecurrentIdeal.nD Cert.RecurrentIdeal.τ).loc Cert.RecurrentIdeal.main_arg7)
      ∧ r.2.mem ((c.tc : Thread Cert.RecurrentIdeal.nD Cert.RecurrentIdeal.τ).loc Cert.RecurrentIdeal.main_arg8) = m ((c.tc : Thread Cert.RecurrentIdeal.nD Cert.RecurrentIdeal.τ).loc Cert.RecurrentIdeal.main_arg8)
      ∧ r.2.mem ((c.tc : Thread Cert.RecurrentIdeal.nD Cert.RecurrentIdeal.τ).loc Cert.RecurrentIdeal.main_arg9) = m ((c.tc : Thread Cert.RecurrentIdeal.nD Cert.RecurrentIdeal.τ).loc Cert.RecurrentIdeal.main_arg9)
      ∧ r.2.mem ((c.tc : Thread Cert.RecurrentIdeal.nD Cert.RecurrentIdeal.τ).loc Cert.RecurrentIdeal.main_arg10) = m ((c.tc : Thread Cert.RecurrentIdeal.nD Cert.RecurrentIdeal.τ).loc Cert.RecurrentIdeal.main_arg10))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v60) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Recurrent_RecurrentIdeal : Prop :=
  True

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)
      ∧ m' ((c.tc : Thread Cert.ProjectionsReferenceIdeal.nD Cert.ProjectionsReferenceIdeal.τ).loc Cert.ProjectionsReferenceIdeal.main_arg7) = m ((c.tc : Thread Cert.ProjectionsIdeal.nD Cert.ProjectionsIdeal.τ).loc Cert.ProjectionsIdeal.main_arg7)) →
    ∃ (v0 : (c : Dev Cert.ProjectionsIdeal.nD) → Buf (Elt Ideal) ((c.tc : Thread Cert.ProjectionsIdeal.nD Cert.ProjectionsIdeal.τ).loc Cert.ProjectionsIdeal.main_v7_1)) (v1 : (c : Dev Cert.ProjectionsIdeal.nD) → Buf (Elt Ideal) ((c.tc : Thread Cert.ProjectionsIdeal.nD Cert.ProjectionsIdeal.τ).loc Cert.ProjectionsIdeal.main_v7_2)) (v2 : (c : Dev Cert.ProjectionsIdeal.nD) → Buf (Elt Ideal) ((c.tc : Thread Cert.ProjectionsIdeal.nD Cert.ProjectionsIdeal.τ).loc Cert.ProjectionsIdeal.main_v7_3)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v7_1) = v0 c
          ∧ r.2.mem ((c.tc : Thread Cert.ProjectionsIdeal.nD Cert.ProjectionsIdeal.τ).loc Cert.ProjectionsIdeal.main_v7_2) = v1 c
          ∧ r.2.mem ((c.tc : Thread Cert.ProjectionsIdeal.nD Cert.ProjectionsIdeal.τ).loc Cert.ProjectionsIdeal.main_v7_3) = v2 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v9) = v0 c
          ∧ r.2.mem ((c.tc : Thread Cert.ProjectionsReferenceIdeal.nD Cert.ProjectionsReferenceIdeal.τ).loc Cert.ProjectionsReferenceIdeal.main_v10) = v1 c
          ∧ r.2.mem ((c.tc : Thread Cert.ProjectionsReferenceIdeal.nD Cert.ProjectionsReferenceIdeal.τ).loc Cert.ProjectionsReferenceIdeal.main_v11) = v2 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6)
          ∧ r.2.mem ((c.tc : Thread Cert.ProjectionsReferenceIdeal.nD Cert.ProjectionsReferenceIdeal.τ).loc Cert.ProjectionsReferenceIdeal.main_arg7) = m' ((c.tc : Thread Cert.ProjectionsReferenceIdeal.nD Cert.ProjectionsReferenceIdeal.τ).loc Cert.ProjectionsReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hRecurrent : Cert.Recurrent.Facts) (hRecurrentIdeal : Cert.RecurrentIdeal.Facts) (hProjections : Cert.Projections.Facts) (hProjectionsIdeal : Cert.ProjectionsIdeal.Facts) (hProjectionsReferenceIdeal : Cert.ProjectionsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Recurrent (hRecurrent := hRecurrent)
    ∧ quiescent_RecurrentIdeal (hRecurrentIdeal := hRecurrentIdeal)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Recurrent_RecurrentIdeal
    ∧ preserves_Projections_ProjectionsIdeal
    ∧ algebraic_ProjectionsIdeal_ProjectionsReferenceIdeal (hProjectionsIdeal := hProjectionsIdeal) (hProjectionsReferenceIdeal := hProjectionsReferenceIdeal)
-- ==== Pre_finite.lean ====
abbrev S8x2048x1024 : Shape := ⟨3, ![8, 2048, 1024]⟩
abbrev S8x2048x16 : Shape := ⟨3, ![8, 2048, 16]⟩
abbrev S8x2048x16x64 : Shape := ⟨4, ![8, 2048, 16, 64]⟩
abbrev S_ : Shape := ⟨0, ![]⟩
abbrev S8x2048x16x1 : Shape := ⟨4, ![8, 2048, 16, 1]⟩

class Facts : Prop where
  shapeCasts_S8x2048x1024_S8x2048x16x64 : S8x2048x1024.ShapeCasts S8x2048x16x64
  bcast_S_S8x2048x16x64 : S_.BroadcastsInDim S8x2048x16x64 (![] : Fin 0 → Fin S8x2048x16x64.rank)
  bcast_S8x2048x16_S8x2048x16x1_0_1_2 : S8x2048x16.BroadcastsInDim S8x2048x16x1 (![0, 1, 2] : Fin 3 → Fin S8x2048x16x1.rank)
  bcast_S_S8x2048x16x1 : S_.BroadcastsInDim S8x2048x16x1 (![] : Fin 0 → Fin S8x2048x16x1.rank)
  bcast_S8x2048x16x1_S8x2048x16x64_0_1_2_3 : S8x2048x16x1.BroadcastsInDim S8x2048x16x64 (![0, 1, 2, 3] : Fin 4 → Fin S8x2048x16x64.rank)

variable [Facts]

def fn {F : FTy → Type} [FloatOps F] (main_arg0 : FVec F S8x2048x1024 .f32) (main_arg1 : FVec F S8x2048x1024 .f32) (main_arg2 : FVec F S8x2048x1024 .f32) (main_arg3 : FVec F S8x2048x16 .f32) : IVec S8x2048x16x64 1 :=
  let main_v0 : FVec F S8x2048x16x64 .f32 := shapeCast S8x2048x16x64 main_arg0 shapeCasts_S8x2048x1024_S8x2048x16x64
  let main_v1 : FVec F S8x2048x16x64 .f32 := Host.absf main_v0
  let main_cst : FVec F S_ .f32 := constant S_ .f32 0x7F800000#32
  let main_v2 : FVec F S8x2048x16x64 .f32 := broadcastInDim S8x2048x16x64 ![] bcast_S_S8x2048x16x64 main_cst
  let main_v3 : IVec S8x2048x16x64 1 := cmpf .olt main_v1 main_v2
  let main_v4 : FVec F S8x2048x16x64 .f32 := shapeCast S8x2048x16x64 main_arg1 shapeCasts_S8x2048x1024_S8x2048x16x64
  let main_v5 : FVec F S8x2048x16x64 .f32 := Host.absf main_v4
  let main_cst_0 : FVec F S_ .f32 := constant S_ .f32 0x7F800000#32
  let main_v6 : FVec F S8x2048x16x64 .f32 := broadcastInDim S8x2048x16x64 ![] bcast_S_S8x2048x16x64 main_cst_0
  let main_v7 : IVec S8x2048x16x64 1 := cmpf .olt main_v5 main_v6
  let main_v8 : IVec S8x2048x16x64 1 := andi main_v3 main_v7
  let main_v9 : FVec F S8x2048x16 .f32 := Host.absf main_arg3
  let main_v10 : FVec F S8x2048x16x1 .f32 := broadcastInDim S8x2048x16x1 ![0, 1, 2] bcast_S8x2048x16_S8x2048x16x1_0_1_2 main_v9
  let main_cst_1 : FVec F S_ .f32 := constant S_ .f32 0x7F800000#32
  let main_v11 : FVec F S8x2048x16x1 .f32 := broadcastInDim S8x2048x16x1 ![] bcast_S_S8x2048x16x1 main_cst_1
  let main_v12 : IVec S8x2048x16x1 1 := cmpf .olt main_v10 main_v11
  let main_v13 : IVec S8x2048x16x64 1 := broadcastInDim S8x2048x16x64 ![0, 1, 2, 3] bcast_S8x2048x16x1_S8x2048x16x64_0_1_2_3 main_v12
  let main_v14 : IVec S8x2048x16x64 1 := andi main_v8 main_v13
  main_v14
-- ==== Kernel.lean ====
abbrev S8x2048x1024 : Shape := ⟨3, ![8, 2048, 1024]⟩
abbrev S8x2048x16 : Shape := ⟨3, ![8, 2048, 16]⟩
abbrev S_ : Shape := ⟨0, ![]⟩
abbrev S8x2048x16x1 : Shape := ⟨4, ![8, 2048, 16, 1]⟩
abbrev S8x2048x16x3 : Shape := ⟨4, ![8, 2048, 16, 3]⟩
abbrev S8x2048x48 : Shape := ⟨3, ![8, 2048, 48]⟩
abbrev S8x2048x64 : Shape := ⟨3, ![8, 2048, 64]⟩
abbrev S8x2048x128 : Shape := ⟨3, ![8, 2048, 128]⟩
abbrev S1x2048x256 : Shape := ⟨3, ![1, 2048, 256]⟩
abbrev S1x2048x128 : Shape := ⟨3, ![1, 2048, 128]⟩
abbrev S4x256x2048 : Shape := ⟨3, ![4, 256, 2048]⟩
abbrev S2x2048x384 : Shape := ⟨3, ![2, 2048, 384]⟩
abbrev S4x128x2048 : Shape := ⟨3, ![4, 128, 2048]⟩
abbrev S2048x256 : Shape := ⟨2, ![2048, 256]⟩
abbrev S1x128 : Shape := ⟨2, ![1, 128]⟩
abbrev S128x1 : Shape := ⟨2, ![128, 1]⟩
abbrev S256x256 : Shape := ⟨2, ![256, 256]⟩
abbrev S2048x128 : Shape := ⟨2, ![2048, 128]⟩
abbrev S128x2048 : Shape := ⟨2, ![128, 2048]⟩
abbrev S1x128x2048 : Shape := ⟨3, ![1, 128, 2048]⟩
abbrev S1x256x128 : Shape := ⟨3, ![1, 256, 128]⟩
abbrev S256x128 : Shape := ⟨2, ![256, 128]⟩
abbrev S1x256x256 : Shape := ⟨3, ![1, 256, 256]⟩
abbrev S1x512x128 : Shape := ⟨3, ![1, 512, 128]⟩
abbrev S512x128 : Shape := ⟨2, ![512, 128]⟩
abbrev S512x256 : Shape := ⟨2, ![512, 256]⟩
abbrev S128x256 : Shape := ⟨2, ![128, 256]⟩
abbrev S16x8x256 : Shape := ⟨3, ![16, 8, 256]⟩
abbrev S8x256 : Shape := ⟨2, ![8, 256]⟩
abbrev S256 : Shape := ⟨1, ![256]⟩
abbrev S1x256 : Shape := ⟨2, ![1, 256]⟩
abbrev S1x128x256 : Shape := ⟨3, ![1, 128, 256]⟩
abbrev S1x768x128 : Shape := ⟨3, ![1, 768, 128]⟩
abbrev S768x128 : Shape := ⟨2, ![768, 128]⟩
abbrev S768x256 : Shape := ⟨2, ![768, 256]⟩
abbrev S1x128x512 : Shape := ⟨3, ![1, 128, 512]⟩
abbrev S128x512 : Shape := ⟨2, ![128, 512]⟩
abbrev S1x1024x128 : Shape := ⟨3, ![1, 1024, 128]⟩
abbrev S1024x128 : Shape := ⟨2, ![1024, 128]⟩
abbrev S1024x256 : Shape := ⟨2, ![1024, 256]⟩
abbrev S1x128x768 : Shape := ⟨3, ![1, 128, 768]⟩
abbrev S128x768 : Shape := ⟨2, ![128, 768]⟩
abbrev S1x1280x128 : Shape := ⟨3, ![1, 1280, 128]⟩
abbrev S1280x128 : Shape := ⟨2, ![1280, 128]⟩
abbrev S1280x256 : Shape := ⟨2, ![1280, 256]⟩
abbrev S1x128x1024 : Shape := ⟨3, ![1, 128, 1024]⟩
abbrev S128x1024 : Shape := ⟨2, ![128, 1024]⟩
abbrev S1x1536x128 : Shape := ⟨3, ![1, 1536, 128]⟩
abbrev S1536x128 : Shape := ⟨2, ![1536, 128]⟩
abbrev S1536x256 : Shape := ⟨2, ![1536, 256]⟩
abbrev S1x128x1280 : Shape := ⟨3, ![1, 128, 1280]⟩
abbrev S128x1280 : Shape := ⟨2, ![128, 1280]⟩
abbrev S1x1792x128 : Shape := ⟨3, ![1, 1792, 128]⟩
abbrev S1792x128 : Shape := ⟨2, ![1792, 128]⟩
abbrev S1792x256 : Shape := ⟨2, ![1792, 256]⟩
abbrev S1x128x1536 : Shape := ⟨3, ![1, 128, 1536]⟩
abbrev S128x1536 : Shape := ⟨2, ![128, 1536]⟩
abbrev S1x128x1792 : Shape := ⟨3, ![1, 128, 1792]⟩
abbrev S128x1792 : Shape := ⟨2, ![128, 1792]⟩

abbrev nBuf : Space → Nat
  | .hbm => 53
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x16, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S8x2048x16, .f32⟩
  | .hbm, ⟨17, _⟩ => ⟨S8x2048x16, .f32⟩
  | .hbm, ⟨18, _⟩ => ⟨S8x2048x16, .f32⟩
  | .hbm, ⟨19, _⟩ => ⟨S8x2048x16, .f32⟩
  | .hbm, ⟨20, _⟩ => ⟨S_, .f32⟩
  | .hbm, ⟨21, _⟩ => ⟨S_, .f32⟩
  | .hbm, ⟨22, _⟩ => ⟨S8x2048x16, .f32⟩
  | .hbm, ⟨23, _⟩ => ⟨S8x2048x16, .bf16⟩
  | .hbm, ⟨24, _⟩ => ⟨S8x2048x16, .f32⟩
  | .hbm, ⟨25, _⟩ => ⟨S8x2048x16, .f32⟩
  | .hbm, ⟨26, _⟩ => ⟨S8x2048x16, .bf16⟩
  | .hbm, ⟨27, _⟩ => ⟨S8x2048x16, .f32⟩
  | .hbm, ⟨28, _⟩ => ⟨S8x2048x16, .f32⟩
  | .hbm, ⟨29, _⟩ => ⟨S8x2048x16, .bf16⟩
  | .hbm, ⟨30, _⟩ => ⟨S8x2048x16, .f32⟩
  | .hbm, ⟨31, _⟩ => ⟨S8x2048x16, .f32⟩
  | .hbm, ⟨32, _⟩ => ⟨S8x2048x16x1, .bf16⟩
  | .hbm, ⟨33, _⟩ => ⟨S8x2048x16x1, .bf16⟩
  | .hbm, ⟨34, _⟩ => ⟨S8x2048x16x1, .bf16⟩
  | .hbm, ⟨35, _⟩ => ⟨S8x2048x16x3, .bf16⟩
  | .hbm, ⟨36, _⟩ => ⟨S8x2048x48, .bf16⟩
  | .hbm, ⟨37, _⟩ => ⟨S8x2048x48, .f32⟩
  | .hbm, ⟨38, _⟩ => ⟨S8x2048x48, .f32⟩
  | .hbm, ⟨39, _⟩ => ⟨S_, .i32⟩
  | .hbm, ⟨40, _⟩ => ⟨S_, .f32⟩
  | .hbm, ⟨41, _⟩ => ⟨S8x2048x64, .f32⟩
  | .hbm, ⟨42, _⟩ => ⟨S_, .i32⟩
  | .hbm, ⟨43, _⟩ => ⟨S_, .f32⟩
  | .hbm, ⟨44, _⟩ => ⟨S8x2048x64, .f32⟩
  | .hbm, ⟨45, _⟩ => ⟨S8x2048x128, .f32⟩
  | .hbm, ⟨46, _⟩ => ⟨S8x2048x128, .bf16⟩
  | .hbm, ⟨47, _⟩ => ⟨S8x2048x1024, .f32⟩
  | .hbm, ⟨48, _⟩ => ⟨S8x2048x1024, .f32⟩
  | .hbm, ⟨49, _⟩ => ⟨S8x2048x1024, .bf16⟩
  | .hbm, ⟨50, _⟩ => ⟨S8x2048x1024, .bf16⟩
  | .hbm, ⟨51, _⟩ => ⟨S8x2048x1024, .bf16⟩
  | .hbm, ⟨52, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x256, .bf16⟩
  | .local _ .vmem, ⟨9, _⟩ => ⟨S1x2048x256, .bf16⟩
  | .local _ .vmem, ⟨10, _⟩ => ⟨S4x256x2048, .bf16⟩
  | .local _ .vmem, ⟨11, _⟩ => ⟨S2x2048x384, .bf16⟩
  | .local _ .vmem, ⟨12, _⟩ => ⟨S4x128x2048, .bf16⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call1_v0 : Ref sig .tc := ⟨.hbm, 40, rfl⟩
abbrev main_v29 : Ref sig .tc := ⟨.hbm, 41, rfl⟩
abbrev main_c_3 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8x2048x16 : Shape := ⟨3, ![8, 2048, 16]⟩
abbrev S8x2048x16x64 : Shape := ⟨4, ![8, 2048, 16, 64]⟩
abbrev S8x16x2048x64 : Shape := ⟨4, ![8, 16, 2048, 64]⟩
abbrev S_ : Shape := ⟨0, ![]⟩
abbrev S8x16x2048 : Shape := ⟨3, ![8, 16, 2048]⟩
abbrev S8x16x2048x2048 : Shape := ⟨4, ![8, 16, 2048, 2048]⟩
abbrev S8x16x2048x1 : Shape := ⟨4, ![8, 16, 2048, 1]⟩
abbrev S8x16x1x2048 : Shape := ⟨4, ![8, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x16, .f32⟩
  | .hbm, ⟨4, _⟩ => ⟨S8x2048x16x64, .f32⟩
  | .hbm, ⟨5, _⟩ => ⟨S8x16x2048x64, .f32⟩
  | .hbm, ⟨6, _⟩ => ⟨S8x2048x16x64, .f32⟩
  | .hbm, ⟨7, _⟩ => ⟨S8x16x2048x64, .f32⟩
  | .hbm, ⟨8, _⟩ => ⟨S8x2048x16x64, .f32⟩
  | .hbm, ⟨9, _⟩ => ⟨S8x16x2048x64, .f32⟩
  | .hbm, ⟨10, _⟩ => ⟨S8x2048x16, .f32⟩
  | .hbm, ⟨11, _⟩ => ⟨S_, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S8x2048x16, .i1⟩
  | .hbm, ⟨17, _⟩ => ⟨S8x2048x16, .f32⟩
  | .hbm, ⟨18, _⟩ => ⟨S8x2048x16, .f32⟩
  | .hbm, ⟨19, _⟩ => ⟨S8x2048x16, .f32⟩
  | .hbm, ⟨20, _⟩ => ⟨S8x2048x16, .f32⟩
  | .hbm, ⟨21, _⟩ => ⟨S8x2048x16, .f32⟩
  | .hbm, ⟨22, _⟩ => ⟨S8x2048x16, .f32⟩
  | .hbm, ⟨23, _⟩ => ⟨S8x2048x16, .f32⟩
  | .hbm, ⟨24, _⟩ => ⟨S8x2048x16, .f32⟩
  | .hbm, ⟨25, _⟩ => ⟨S8x2048x16, .f32⟩
  | .hbm, ⟨26, _⟩ => ⟨S_, .f32⟩
  | .hbm, ⟨27, _⟩ => ⟨S_, .f32⟩
  | .hbm, ⟨28, _⟩ => ⟨S8x2048x16, .f32⟩
  | .hbm, ⟨29, _⟩ => ⟨S8x16x2048, .f32⟩
  | .hbm, ⟨30, _⟩ => ⟨S8x16x2048x2048, .f32⟩
  | .hbm, ⟨31, _⟩ => ⟨S_, .f32⟩
  | .hbm, ⟨32, _⟩ => ⟨S8x16x2048x2048, .f32⟩
  | .hbm, ⟨33, _⟩ => ⟨S8x16x2048x2048, .f32⟩
  | .hbm, ⟨34, _⟩ => ⟨S8x16x2048x1, .f32⟩
  | .hbm, ⟨35, _⟩ => ⟨S8x16x2048x2048, .f32⟩
  | .hbm, ⟨36, _⟩ => ⟨S8x16x2048x2048, .f32⟩
  | .hbm, ⟨37, _⟩ => ⟨S8x16x1x2048, .f32⟩
  | .hbm, ⟨38, _⟩ => ⟨S8x16x2048x2048, .f32⟩
  | .hbm, ⟨39, _⟩ => ⟨S8x16x2048x2048, .f32⟩
  | .hbm, ⟨40, _⟩ => ⟨S2048, .i32⟩
  | .hbm, ⟨41, _⟩ => ⟨S2048x1, .i32⟩
  | .hbm, ⟨42, _⟩ => ⟨S2048, .i32⟩
  | .hbm, ⟨43, _⟩ => ⟨S1x2048, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S_, .f32⟩
  | .hbm, ⟨48, _⟩ => ⟨S_, .f32⟩
  | .hbm, ⟨49, _⟩ => ⟨S8x16x2048x2048, .i1⟩
  | .hbm, ⟨50, _⟩ => ⟨S8x16x2048x2048, .f32⟩
  | .hbm, ⟨51, _⟩ => ⟨S8x16x2048x2048, .f32⟩
  | .hbm, ⟨52, _⟩ => ⟨S_, .f32⟩
  | .hbm, ⟨53, _⟩ => ⟨S8x16x2048, .f32⟩
  | .hbm, ⟨54, _⟩ => ⟨S8x16x2048x1, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S_, .f32⟩
  | .hbm, ⟨59, _⟩ => ⟨S8x16x2048, .f32⟩
  | .hbm, ⟨60, _⟩ => ⟨S8x16x2048x1, .f32⟩
  | .hbm, ⟨61, _⟩ => ⟨S8x16x2048x2048, .f32⟩
  | .hbm, ⟨62, _⟩ => ⟨S8x16x2048x2048, .f32⟩
  | .hbm, ⟨63, _⟩ => ⟨S8x16x2048x64, .f32⟩
  | .hbm, ⟨64, _⟩ => ⟨S8x2048x16x64, .f32⟩
  | .hbm, ⟨65, _⟩ => ⟨S8x2048x1024, .f32⟩
  | .hbm, ⟨66, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v6 : Ref sig .tc := ⟨.hbm, 25, rfl⟩
abbrev main_call1_call0_cst : Ref sig .tc := ⟨.hbm, 26, rfl⟩
abbrev main_call1_call0_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Merge.lean ====
abbrev S8x2048x1024 : Shape := ⟨3, ![8, 2048, 1024]⟩
abbrev S1024x12304 : Shape := ⟨2, ![1024, 12304]⟩
abbrev S12304 : Shape := ⟨1, ![12304]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S1x1024 : Shape := ⟨2, ![1, 1024]⟩
abbrev S1x512x1024 : Shape := ⟨3, ![1, 512, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S1024x12304, .f32⟩
  | .hbm, ⟨5, _⟩ => ⟨S12304, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x12304, .bf16⟩
  | .hbm, ⟨12, _⟩ => ⟨S1024x4096, .bf16⟩
  | .hbm, ⟨13, _⟩ => ⟨S4096, .f32⟩
  | .hbm, ⟨14, _⟩ => ⟨S1x4096, .f32⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x4096, .bf16⟩
  | .local _ .vmem, ⟨9, _⟩ => ⟨S1x4096, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S8x2048x1024 : Shape := ⟨3, ![8, 2048, 1024]⟩
abbrev S1024x12304 : Shape := ⟨2, ![1024, 12304]⟩
abbrev S12304 : Shape := ⟨1, ![12304]⟩
abbrev S1024x1024 : Shape := ⟨2, ![1024, 1024]⟩
abbrev S1024 : Shape := ⟨1, ![1024]⟩
abbrev S8x2048x12304 : Shape := ⟨3, ![8, 2048, 12304]⟩
abbrev S1x1x12304 : Shape := ⟨3, ![1, 1, 12304]⟩
abbrev S8x2048x3072 : Shape := ⟨3, ![8, 2048, 3072]⟩
abbrev S_ : Shape := ⟨0, ![]⟩
abbrev S8x2048x3x1024 : Shape := ⟨4, ![8, 2048, 3, 1024]⟩
abbrev S8x2048x1x1024 : Shape := ⟨4, ![8, 2048, 1, 1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S1024x12304, .f32⟩
  | .hbm, ⟨5, _⟩ => ⟨S12304, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8x2048x12304, .f32⟩
  | .hbm, ⟨12, _⟩ => ⟨S1x1x12304, .f32⟩
  | .hbm, ⟨13, _⟩ => ⟨S8x2048x12304, .f32⟩
  | .hbm, ⟨14, _⟩ => ⟨S8x2048x12304, .f32⟩
  | .hbm, ⟨15, _⟩ => ⟨S8x2048x1024, .f32⟩
  | .hbm, ⟨16, _⟩ => ⟨S8x2048x3072, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x3072, .f32⟩
  | .hbm, ⟨30, _⟩ => ⟨S8x2048x3072, .f32⟩
  | .hbm, ⟨31, _⟩ => ⟨S_, .f32⟩
  | .hbm, ⟨32, _⟩ => ⟨S8x2048x3072, .f32⟩
  | .hbm, ⟨33, _⟩ => ⟨S8x2048x3072, .f32⟩
  | .hbm, ⟨34, _⟩ => ⟨S_, .f32⟩
  | .hbm, ⟨35, _⟩ => ⟨S8x2048x3072, .f32⟩
  | .hbm, ⟨36, _⟩ => ⟨S8x2048x3072, .f32⟩
  | .hbm, ⟨37, _⟩ => ⟨S8x2048x3x1024, .f32⟩
  | .hbm, ⟨38, _⟩ => ⟨S8x2048x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1024, .f32⟩
  | .hbm, ⟨75, _⟩ => ⟨S8x2048x1024, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Recurrent.lean ====
abbrev S8x2048x1024 : Shape := ⟨3, ![8, 2048, 1024]⟩
abbrev S1024x12304 : Shape := ⟨2, ![1024, 12304]⟩
abbrev S12304 : Shape := ⟨1, ![12304]⟩
abbrev S4x1024 : Shape := ⟨2, ![4, 1024]⟩
abbrev S1024 : Shape := ⟨1, ![1024]⟩
abbrev S16x64x64 : Shape := ⟨3, ![16, 64, 64]⟩
abbrev S1024x1024 : Shape := ⟨2, ![1024, 1024]⟩
abbrev S1x1024x12304 : Shape := ⟨3, ![1, 1024, 12304]⟩
abbrev S1x1x12304 : Shape := ⟨3, ![1, 1, 12304]⟩
abbrev S1x1024 : Shape := ⟨2, ![1, 1024]⟩
abbrev S4x4 : Shape := ⟨2, ![4, 4]⟩
abbrev S_ : Shape := ⟨0, ![]⟩
abbrev S4x4x64x64 : Shape := ⟨4, ![4, 4, 64, 64]⟩
abbrev S4x4x64x1x64 : Shape := ⟨5, ![4, 4, 64, 1, 64]⟩
abbrev S4x1x4x1 : Shape := ⟨4, ![4, 1, 4, 1]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S8x128x1024 : Shape := ⟨3, ![8, 128, 1024]⟩
abbrev S1x1024x2048 : Shape := ⟨3, ![1, 1024, 2048]⟩
abbrev S1x1x2048 : Shape := ⟨3, ![1, 1, 2048]⟩
abbrev S8x1048x128 : Shape := ⟨3, ![8, 1048, 128]⟩
abbrev S8x1024x128 : Shape := ⟨3, ![8, 1024, 128]⟩
abbrev S8x8x128 : Shape := ⟨3, ![8, 8, 128]⟩
abbrev S8x24x128 : Shape := ⟨3, ![8, 24, 128]⟩
abbrev S1024x2048 : Shape := ⟨2, ![1024, 2048]⟩
abbrev S1x2048 : Shape := ⟨2, ![1, 2048]⟩
abbrev S128x128 : Shape := ⟨2, ![128, 128]⟩
abbrev S1x128x128 : Shape := ⟨3, ![1, 128, 128]⟩
abbrev S1x128 : Shape := ⟨2, ![1, 128]⟩
abbrev S1x1024x128 : Shape := ⟨3, ![1, 1024, 128]⟩
abbrev S1024x128 : Shape := ⟨2, ![1024, 128]⟩
abbrev S1x24x128 : Shape := ⟨3, ![1, 24, 128]⟩
abbrev S24x128 : Shape := ⟨2, ![24, 128]⟩
abbrev S1024x256 : Shape := ⟨2, ![1024, 256]⟩
abbrev S1x256x512 : Shape := ⟨3, ![1, 256, 512]⟩
abbrev S256x512 : Shape := ⟨2, ![256, 512]⟩
abbrev S1024x512 : Shape := ⟨2, ![1024, 512]⟩
abbrev S1x8x128 : Shape := ⟨3, ![1, 8, 128]⟩
abbrev S8x128 : Shape := ⟨2, ![8, 128]⟩
abbrev S128x1024 : Shape := ⟨2, ![128, 1024]⟩

abbrev nBuf : Space → Nat
  | .hbm => 45
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x12304, .f32⟩
  | .hbm, ⟨2, _⟩ => ⟨S12304, .f32⟩
  | .hbm, ⟨3, _⟩ => ⟨S4x1024, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S16x64x64, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x12304, .bf16⟩
  | .hbm, ⟨12, _⟩ => ⟨S1x1024x12304, .bf16⟩
  | .hbm, ⟨13, _⟩ => ⟨S1x1x12304, .f32⟩
  | .hbm, ⟨14, _⟩ => ⟨S1x1024, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S4x4x64x64, .f32⟩
  | .hbm, ⟨23, _⟩ => ⟨S4x4x64x1x64, .f32⟩
  | .hbm, ⟨24, _⟩ => ⟨S4x1x4x1, .f32⟩
  | .hbm, ⟨25, _⟩ => ⟨S1x4x1x4x1, .f32⟩
  | .hbm, ⟨26, _⟩ => ⟨S4x4x64x4x64, .f32⟩
  | .hbm, ⟨27, _⟩ => ⟨S4x4x64x4x64, .f32⟩
  | .hbm, ⟨28, _⟩ => ⟨S4x4x64x4x64, .f32⟩
  | .hbm, ⟨29, _⟩ => ⟨S4x256x256, .f32⟩
  | .hbm, ⟨30, _⟩ => ⟨S4x4x64x64, .f32⟩
  | .hbm, ⟨31, _⟩ => ⟨S4x4x64x1x64, .f32⟩
  | .hbm, ⟨32, _⟩ => ⟨S4x1x4x1, .f32⟩
  | .hbm, ⟨33, _⟩ => ⟨S1x4x1x4x1, .f32⟩
  | .hbm, ⟨34, _⟩ => ⟨S4x4x64x4x64, .f32⟩
  | .hbm, ⟨35, _⟩ => ⟨S4x4x64x4x64, .f32⟩
  | .hbm, ⟨36, _⟩ => ⟨S4x4x64x4x64, .f32⟩
  | .hbm, ⟨37, _⟩ => ⟨S4x256x256, .f32⟩
  | .hbm, ⟨38, _⟩ => ⟨S4x256x512, .f32⟩
  | .hbm, ⟨39, _⟩ => ⟨S4x256x512, .bf16⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1024x1024, .bf16⟩
  | .hbm, ⟨44, _⟩ => ⟨S8x2048x1024, .bf16⟩
  | .local _ .vmem, ⟨0, _⟩ => ⟨S8x128x1024, .f32⟩
  | .local _ .vmem, ⟨1, _⟩ => ⟨S8x128x1024, .f32⟩
  | .local _ .vmem, ⟨2, _⟩ => ⟨S1x1024x2048, .bf16⟩
  | .local _ .vmem, ⟨3, _⟩ => ⟨S1x1x2048, .f32⟩
  | .local _ .vmem, ⟨4, _⟩ => ⟨S4x1024, .f32⟩
  | .local _ .vmem, ⟨5, _⟩ => ⟨S1x1024, .f32⟩
  | .local _ .vmem, ⟨6, _⟩ => ⟨S4x256x512, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S8x128x1024, .bf16⟩
  | .local _ .vmem, ⟨12, _⟩ => ⟨S8x128x1024, .bf16⟩
  | .local _ .vmem, ⟨13, _⟩ => ⟨S8x1048x128, .f32⟩
  | .local _ .vmem, ⟨14, _⟩ => ⟨S8x1024x128, .f32⟩
  | .local _ .vmem, ⟨15, _⟩ => ⟨S8x1024x128, .f32⟩
  | .local _ .vmem, ⟨16, _⟩ => ⟨S8x8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_596 : BitVec 32 := 0#32
  let c128_i32 : BitVec 32 := 128#32
  let v941 : BitVec 32 := Scalar.addi c0_i32_596 c128_i32
  let c1_i32 : BitVec 32 := 1#32
  ⟨c0_i32_596, v941, c1_i32⟩
def k0_mult1 (k0_t1 : Fin k0_t1_loop.trips) : BitVec 32 :=
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  v1120
def k0_off1 (k0_t1 : Fin k0_t1_loop.trips) : Fin 3 → Nat :=
  let c0_823 : Index := 0#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1122 : Index := Scalar.indexCast v1121
  let c0_824 : Index := 0#32
  ![0, v1122.toNat, 0]
def k0_off2 (k0_t1 : Fin k0_t1_loop.trips) : Fin 3 → Nat :=
  let c1_829 : Index := 1#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1134 : Index := Scalar.indexCast v1121
  let c0_830 : Index := 0#32
  ![1, v1134.toNat, 0]
def k0_off3 (k0_t1 : Fin k0_t1_loop.trips) : Fin 3 → Nat :=
  let c2_835 : Index := 2#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1146 : Index := Scalar.indexCast v1121
  let c0_836 : Index := 0#32
  ![2, v1146.toNat, 0]
def k0_off4 (k0_t1 : Fin k0_t1_loop.trips) : Fin 3 → Nat :=
  let c3_841 : Index := 3#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1158 : Index := Scalar.indexCast v1121
  let c0_842 : Index := 0#32
  ![3, v1158.toNat, 0]
def k0_off5 (k0_t1 : Fin k0_t1_loop.trips) : Fin 3 → Nat :=
  let c4_847 : Index := 4#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1170 : Index := Scalar.indexCast v1121
  let c0_848 : Index := 0#32
  ![4, v1170.toNat, 0]
def k0_off6 (k0_t1 : Fin k0_t1_loop.trips) : Fin 3 → Nat :=
  let c5_853 : Index := 5#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1182 : Index := Scalar.indexCast v1121
  let c0_854 : Index := 0#32
  ![5, v1182.toNat, 0]
def k0_off7 (k0_t1 : Fin k0_t1_loop.trips) : Fin 3 → Nat :=
  let c6_859 : Index := 6#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1194 : Index := Scalar.indexCast v1121
  let c0_860 : Index := 0#32
  ![6, v1194.toNat, 0]
def k0_off8 (k0_t1 : Fin k0_t1_loop.trips) : Fin 3 → Nat :=
  let c7_865 : Index := 7#32
  let c0_i32_596 : BitVec 32 := 0#32
  let c1_i32 : BitVec 32 := 1#32
  let arg16 : BitVec 32 := Scf.iv c0_i32_596 c1_i32 k0_t1
  let c8_i32 : BitVec 32 := 8#32
  let v1120 : BitVec 32 := Scalar.muli arg16 c8_i32
  let v1121 : BitVec 32 := v1120
  let v1206 : Index := Scalar.indexCast v1121
  let c0_866 : Index := 0#32
  ![7, v1206.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Projections.lean ====
abbrev S8x2048x1024 : Shape := ⟨3, ![8, 2048, 1024]⟩
abbrev S1024x12304 : Shape := ⟨2, ![1024, 12304]⟩
abbrev S12304 : Shape := ⟨1, ![12304]⟩
abbrev S31x1024 : Shape := ⟨2, ![31, 1024]⟩
abbrev S1024 : Shape := ⟨1, ![1024]⟩
abbrev S1024x1024 : Shape := ⟨2, ![1024, 1024]⟩
abbrev S384x128 : Shape := ⟨2, ![384, 128]⟩
abbrev S1x1024x12304 : Shape := ⟨3, ![1, 1024, 12304]⟩
abbrev S1x1x12304 : Shape := ⟨3, ![1, 1, 12304]⟩
abbrev S1x1024 : Shape := ⟨2, ![1, 1024]⟩
abbrev S8x2048x128 : Shape := ⟨3, ![8, 2048, 128]⟩
abbrev S8x64x1024 : Shape := ⟨3, ![8, 64, 1024]⟩
abbrev S1x1024x1024 : Shape := ⟨3, ![1, 1024, 1024]⟩
abbrev S1x1024x128 : Shape := ⟨3, ![1, 1024, 128]⟩
abbrev S1x1x1024 : Shape := ⟨3, ![1, 1, 1024]⟩
abbrev S1x1x128 : Shape := ⟨3, ![1, 1, 128]⟩
abbrev S8x64x128 : Shape := ⟨3, ![8, 64, 128]⟩
abbrev S8x1504x128 : Shape := ⟨3, ![8, 1504, 128]⟩
abbrev S8x512x128 : Shape := ⟨3, ![8, 512, 128]⟩
abbrev S2x512x1024 : Shape := ⟨3, ![2, 512, 1024]⟩
abbrev S512x1024 : Shape := ⟨2, ![512, 1024]⟩
abbrev S32x8x1024 : Shape := ⟨3, ![32, 8, 1024]⟩
abbrev S1x512x128 : Shape := ⟨3, ![1, 512, 128]⟩
abbrev S8x128 : Shape := ⟨2, ![8, 128]⟩
abbrev S8x1024 : Shape := ⟨2, ![8, 1024]⟩
abbrev S1x8x1024 : Shape := ⟨3, ![1, 8, 1024]⟩
abbrev S1x8x128 : Shape := ⟨3, ![1, 8, 128]⟩
abbrev S64x128 : Shape := ⟨2, ![64, 128]⟩
abbrev S1x64x128 : Shape := ⟨3, ![1, 64, 128]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S1x512x256 : Shape := ⟨3, ![1, 512, 256]⟩
abbrev S512x128 : Shape := ⟨2, ![512, 128]⟩
abbrev S1x240x128 : Shape := ⟨3, ![1, 240, 128]⟩
abbrev S240x128 : Shape := ⟨2, ![240, 128]⟩
abbrev S8x64x256 : Shape := ⟨3, ![8, 64, 256]⟩
abbrev S1024x128 : Shape := ⟨2, ![1024, 128]⟩
abbrev S1x128 : Shape := ⟨2, ![1, 128]⟩
abbrev S512x384 : Shape := ⟨2, ![512, 384]⟩
abbrev S64x1024 : Shape := ⟨2, ![64, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 21
  | .vmem => 40
  | .smem => 0
  | _ => 0

abbrev bufTy : (tb : Table) → Fin (tcTables nBuf tb) → BufTy
  | .hbm, ⟨0, _⟩ => ⟨S8x2048x1024, .f32⟩
  | .hbm, ⟨1, _⟩ => ⟨S1024x12304, .f32⟩
  | .hbm, ⟨2, _⟩ => ⟨S12304, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S384x128, .bf16⟩
  | .hbm, ⟨9, _⟩ => ⟨S1024x12304, .bf16⟩
  | .hbm, ⟨10, _⟩ => ⟨S1x1024x12304, .bf16⟩
  | .hbm, ⟨11, _⟩ => ⟨S1x1x12304, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S8x2048x1024, .bf16⟩
  | .hbm, ⟨17, _⟩ => ⟨S8x2048x1024, .bf16⟩
  | .hbm, ⟨18, _⟩ => ⟨S8x2048x1024, .bf16⟩
  | .hbm, ⟨19, _⟩ => ⟨S8x2048x1024, .bf16⟩
  | .hbm, ⟨20, _⟩ => ⟨S8x2048x128, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x128, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x128, .f32⟩
  | .local _ .vmem, ⟨16, _⟩ => ⟨S31x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S384x128, .bf16⟩
  | .local _ .vmem, ⟨22, _⟩ => ⟨S8x64x1024, .bf16⟩
  | .local _ .vmem, ⟨23, _⟩ => ⟨S8x64x1024, .bf16⟩
  | .local _ .vmem, ⟨24, _⟩ => ⟨S8x64x1024, .bf16⟩
  | .local _ .vmem, ⟨25, _⟩ => ⟨S8x64x1024, .bf16⟩
  | .local _ .vmem, ⟨26, _⟩ => ⟨S8x64x1024, .bf16⟩
  | .local _ .vmem, ⟨27, _⟩ => ⟨S8x64x1024, .bf16⟩
  | .local _ .vmem, ⟨28, _⟩ => ⟨S8x64x1024, .bf16⟩
  | .local _ .vmem, ⟨29, _⟩ => ⟨S8x64x1024, .bf16⟩
  | .local _ .vmem, ⟨30, _⟩ => ⟨S8x64x128, .bf16⟩
  | .local _ .vmem, ⟨31, _⟩ => ⟨S8x64x128, .bf16⟩
  | .local _ .vmem, ⟨32, _⟩ => ⟨S8x1504x128, .f32⟩
  | .local _ .vmem, ⟨33, _⟩ => ⟨S8x512x128, .f32⟩
  | .local _ .vmem, ⟨34, _⟩ => ⟨S2x512x1024, .f32⟩
  | .local _ .vmem, ⟨35, _⟩ => ⟨S512x1024, .bf16⟩
  | .local _ .vmem, ⟨36, _⟩ => ⟨S32x8x1024, .f32⟩
  | .local _ .vmem, ⟨37, _⟩ => ⟨S1x512x128, .f32⟩
  | .local _ .vmem, ⟨38, _⟩ => ⟨S8x128, .f32⟩
  | .local _ .vmem, ⟨39, _⟩ => ⟨S8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc0_sem23_0 : DmaSem sig := 26
abbrev cc0_sem23_1 : DmaSem sig := 27
abbrev cc0_sem24_0 : DmaSem sig := 28
abbrev cc0_sem24_1 : DmaSem sig := 29
abbrev cc0_sem25_0 : DmaSem sig := 30
abbrev cc0_sem25_1 : DmaSem sig := 31

abbrev nD : Nat := 1
abbrev τ : Topo := Topo.v7x

variable {F : FTy → Type} [FloatOps F]

abbrev grid0 : Pipeline.Grid := ⟨1, ![34], ![false]⟩

def k0_mult1 (i : grid0.Coords) : BitVec 32 :=
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  v2
def k0_mult2 (i : grid0.Coords) : BitVec 32 :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  v4
def k0_off1 (i : grid0.Coords) (c0_i32_9 : BitVec 32) (c0_i32_10 : BitVec 32) : Fin 3 → Nat :=
  let c0_11 : Index := 0#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v18 : BitVec 32 := Scalar.addi v5 c0_i32_9
  let v19 : BitVec 32 := Scalar.addi v18 c0_i32_10
  let v20 : Index := Scalar.indexCast v19
  let c0_12 : Index := 0#32
  ![0, v20.toNat, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v2571 : Index := Scalar.indexCast v0
  let c0_1740 : Index := 0#32
  let c0_1741 : Index := 0#32
  ![v2571.toNat, 0, 0]
def k0_off3 (i : grid0.Coords) (c0_i32_1743 : BitVec 32) : Fin 3 → Nat :=
  let c0_1744 : Index := 0#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_1742 : BitVec 32 := 240#32
  let v2577 : BitVec 32 := Scalar.addi v3 c240_i32_1742
  let v2578 : BitVec 32 := Scalar.addi v2577 c0_i32_1743
  let v2579 : Index := Scalar.indexCast v2578
  let c0_1745 : Index := 0#32
  ![0, v2579.toNat, 0]
def k0_off4 (i : grid0.Coords) : Fin 3 → Nat :=
  let c0_1769 : Index := 0#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32 : BitVec 32 := 512#32
  let v2632 : BitVec 32 := Scalar.addi v5 c512_i32
  let v2633 : Index := Scalar.indexCast v2632
  let c0_1770 : Index := 0#32
  ![0, v2633.toNat, 0]
def k0_off5 (i : grid0.Coords) : Fin 3 → Nat :=
  let c0_1771 : Index := 0#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v2636 : Index := Scalar.indexCast v3
  let c0_1772 : Index := 0#32
  ![0, v2636.toNat, 0]
def k0_off6 (i : grid0.Coords) (c0_i32_1774 : BitVec 32) : Fin 3 → Nat :=
  let c1_1775 : Index := 1#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_1773 : BitVec 32 := 240#32
  let v2642 : BitVec 32 := Scalar.addi v3 c240_i32_1773
  let v2643 : BitVec 32 := Scalar.addi v2642 c0_i32_1774
  let v2644 : Index := Scalar.indexCast v2643
  let c0_1776 : Index := 0#32
  ![1, v2644.toNat, 0]
def k0_off7 (i : grid0.Coords) : Fin 3 → Nat :=
  let c1_1806 : Index := 1#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_1805 : BitVec 32 := 512#32
  let v2697 : BitVec 32 := Scalar.addi v5 c512_i32_1805
  let v2698 : Index := Scalar.indexCast v2697
  let c0_1807 : Index := 0#32
  ![1, v2698.toNat, 0]
def k0_off8 (i : grid0.Coords) : Fin 3 → Nat :=
  let c1_1808 : Index := 1#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v2701 : Index := Scalar.indexCast v3
  let c0_1809 : Index := 0#32
  ![1, v2701.toNat, 0]
def k0_off9 (i : grid0.Coords) (c0_i32_1827 : BitVec 32) (c0_i32_1828 : BitVec 32) : Fin 3 → Nat :=
  let c1_1829 : Index := 1#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v2723 : BitVec 32 := Scalar.addi v5 c0_i32_1827
  let v2724 : BitVec 32 := Scalar.addi v2723 c0_i32_1828
  let v2725 : Index := Scalar.indexCast v2724
  let c0_1830 : Index := 0#32
  ![1, v2725.toNat, 0]
def k0_off10 (i : grid0.Coords) (c0_i32_3631 : BitVec 32) (c0_i32_3632 : BitVec 32) : Fin 3 → Nat :=
  let c2_3633 : Index := 2#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v5271 : BitVec 32 := Scalar.addi v5 c0_i32_3631
  let v5272 : BitVec 32 := Scalar.addi v5271 c0_i32_3632
  let v5273 : Index := Scalar.indexCast v5272
  let c0_3634 : Index := 0#32
  ![2, v5273.toNat, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v7824 : Index := Scalar.indexCast v0
  let c0_5434 : Index := 0#32
  let c256_5435 : Index := 256#32
  ![v7824.toNat, 0, 256]
def k0_off12 (i : grid0.Coords) (c0_i32_5437 : BitVec 32) : Fin 3 → Nat :=
  let c2_5438 : Index := 2#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_5436 : BitVec 32 := 240#32
  let v7830 : BitVec 32 := Scalar.addi v3 c240_i32_5436
  let v7831 : BitVec 32 := Scalar.addi v7830 c0_i32_5437
  let v7832 : Index := Scalar.indexCast v7831
  let c0_5439 : Index := 0#32
  ![2, v7832.toNat, 0]
def k0_off13 (i : grid0.Coords) : Fin 3 → Nat :=
  let c2_5469 : Index := 2#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_5468 : BitVec 32 := 512#32
  let v7885 : BitVec 32 := Scalar.addi v5 c512_i32_5468
  let v7886 : Index := Scalar.indexCast v7885
  let c0_5470 : Index := 0#32
  ![2, v7886.toNat, 0]
def k0_off14 (i : grid0.Coords) : Fin 3 → Nat :=
  let c2_5471 : Index := 2#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v7889 : Index := Scalar.indexCast v3
  let c0_5472 : Index := 0#32
  ![2, v7889.toNat, 0]
def k0_off15 (i : grid0.Coords) (c0_i32_5474 : BitVec 32) : Fin 3 → Nat :=
  let c3_5475 : Index := 3#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_5473 : BitVec 32 := 240#32
  let v7895 : BitVec 32 := Scalar.addi v3 c240_i32_5473
  let v7896 : BitVec 32 := Scalar.addi v7895 c0_i32_5474
  let v7897 : Index := Scalar.indexCast v7896
  let c0_5476 : Index := 0#32
  ![3, v7897.toNat, 0]
def k0_off16 (i : grid0.Coords) : Fin 3 → Nat :=
  let c3_5506 : Index := 3#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_5505 : BitVec 32 := 512#32
  let v7950 : BitVec 32 := Scalar.addi v5 c512_i32_5505
  let v7951 : Index := Scalar.indexCast v7950
  let c0_5507 : Index := 0#32
  ![3, v7951.toNat, 0]
def k0_off17 (i : grid0.Coords) : Fin 3 → Nat :=
  let c3_5508 : Index := 3#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v7954 : Index := Scalar.indexCast v3
  let c0_5509 : Index := 0#32
  ![3, v7954.toNat, 0]
def k0_off18 (i : grid0.Coords) (c0_i32_5535 : BitVec 32) (c0_i32_5536 : BitVec 32) : Fin 3 → Nat :=
  let c3_5537 : Index := 3#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v7983 : BitVec 32 := Scalar.addi v5 c0_i32_5535
  let v7984 : BitVec 32 := Scalar.addi v7983 c0_i32_5536
  let v7985 : Index := Scalar.indexCast v7984
  let c0_5538 : Index := 0#32
  ![3, v7985.toNat, 0]
def k0_off19 (i : grid0.Coords) (c0_i32_7338 : BitVec 32) (c0_i32_7339 : BitVec 32) : Fin 3 → Nat :=
  let c4_7340 : Index := 4#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v10531 : BitVec 32 := Scalar.addi v5 c0_i32_7338
  let v10532 : BitVec 32 := Scalar.addi v10531 c0_i32_7339
  let v10533 : Index := Scalar.indexCast v10532
  let c0_7341 : Index := 0#32
  ![4, v10533.toNat, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v13084 : Index := Scalar.indexCast v0
  let c0_9141 : Index := 0#32
  let c512_9142 : Index := 512#32
  ![v13084.toNat, 0, 512]
def k0_off21 (i : grid0.Coords) (c0_i32_9144 : BitVec 32) : Fin 3 → Nat :=
  let c4_9145 : Index := 4#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_9143 : BitVec 32 := 240#32
  let v13090 : BitVec 32 := Scalar.addi v3 c240_i32_9143
  let v13091 : BitVec 32 := Scalar.addi v13090 c0_i32_9144
  let v13092 : Index := Scalar.indexCast v13091
  let c0_9146 : Index := 0#32
  ![4, v13092.toNat, 0]
def k0_off22 (i : grid0.Coords) : Fin 3 → Nat :=
  let c4_9176 : Index := 4#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_9175 : BitVec 32 := 512#32
  let v13145 : BitVec 32 := Scalar.addi v5 c512_i32_9175
  let v13146 : Index := Scalar.indexCast v13145
  let c0_9177 : Index := 0#32
  ![4, v13146.toNat, 0]
def k0_off23 (i : grid0.Coords) : Fin 3 → Nat :=
  let c4_9178 : Index := 4#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v13149 : Index := Scalar.indexCast v3
  let c0_9179 : Index := 0#32
  ![4, v13149.toNat, 0]
def k0_off24 (i : grid0.Coords) (c0_i32_9181 : BitVec 32) : Fin 3 → Nat :=
  let c5_9182 : Index := 5#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_9180 : BitVec 32 := 240#32
  let v13155 : BitVec 32 := Scalar.addi v3 c240_i32_9180
  let v13156 : BitVec 32 := Scalar.addi v13155 c0_i32_9181
  let v13157 : Index := Scalar.indexCast v13156
  let c0_9183 : Index := 0#32
  ![5, v13157.toNat, 0]
def k0_off25 (i : grid0.Coords) : Fin 3 → Nat :=
  let c5_9213 : Index := 5#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_9212 : BitVec 32 := 512#32
  let v13210 : BitVec 32 := Scalar.addi v5 c512_i32_9212
  let v13211 : Index := Scalar.indexCast v13210
  let c0_9214 : Index := 0#32
  ![5, v13211.toNat, 0]
def k0_off26 (i : grid0.Coords) : Fin 3 → Nat :=
  let c5_9215 : Index := 5#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v13214 : Index := Scalar.indexCast v3
  let c0_9216 : Index := 0#32
  ![5, v13214.toNat, 0]
def k0_off27 (i : grid0.Coords) (c0_i32_9233 : BitVec 32) (c0_i32_9234 : BitVec 32) : Fin 3 → Nat :=
  let c5_9235 : Index := 5#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v13236 : BitVec 32 := Scalar.addi v5 c0_i32_9233
  let v13237 : BitVec 32 := Scalar.addi v13236 c0_i32_9234
  let v13238 : Index := Scalar.indexCast v13237
  let c0_9236 : Index := 0#32
  ![5, v13238.toNat, 0]
def k0_off28 (i : grid0.Coords) (c0_i32_11036 : BitVec 32) (c0_i32_11037 : BitVec 32) : Fin 3 → Nat :=
  let c6_11038 : Index := 6#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v15784 : BitVec 32 := Scalar.addi v5 c0_i32_11036
  let v15785 : BitVec 32 := Scalar.addi v15784 c0_i32_11037
  let v15786 : Index := Scalar.indexCast v15785
  let c0_11039 : Index := 0#32
  ![6, v15786.toNat, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v18337 : Index := Scalar.indexCast v0
  let c0_12839 : Index := 0#32
  let c768_12840 : Index := 768#32
  ![v18337.toNat, 0, 768]
def k0_off30 (i : grid0.Coords) (c0_i32_12842 : BitVec 32) : Fin 3 → Nat :=
  let c6_12843 : Index := 6#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_12841 : BitVec 32 := 240#32
  let v18343 : BitVec 32 := Scalar.addi v3 c240_i32_12841
  let v18344 : BitVec 32 := Scalar.addi v18343 c0_i32_12842
  let v18345 : Index := Scalar.indexCast v18344
  let c0_12844 : Index := 0#32
  ![6, v18345.toNat, 0]
def k0_off31 (i : grid0.Coords) : Fin 3 → Nat :=
  let c6_12874 : Index := 6#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_12873 : BitVec 32 := 512#32
  let v18398 : BitVec 32 := Scalar.addi v5 c512_i32_12873
  let v18399 : Index := Scalar.indexCast v18398
  let c0_12875 : Index := 0#32
  ![6, v18399.toNat, 0]
def k0_off32 (i : grid0.Coords) : Fin 3 → Nat :=
  let c6_12876 : Index := 6#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v18402 : Index := Scalar.indexCast v3
  let c0_12877 : Index := 0#32
  ![6, v18402.toNat, 0]
def k0_off33 (i : grid0.Coords) (c0_i32_12879 : BitVec 32) : Fin 3 → Nat :=
  let c7_12880 : Index := 7#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let c240_i32_12878 : BitVec 32 := 240#32
  let v18408 : BitVec 32 := Scalar.addi v3 c240_i32_12878
  let v18409 : BitVec 32 := Scalar.addi v18408 c0_i32_12879
  let v18410 : Index := Scalar.indexCast v18409
  let c0_12881 : Index := 0#32
  ![7, v18410.toNat, 0]
def k0_off34 (i : grid0.Coords) : Fin 3 → Nat :=
  let c7_12911 : Index := 7#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let c512_i32_12910 : BitVec 32 := 512#32
  let v18463 : BitVec 32 := Scalar.addi v5 c512_i32_12910
  let v18464 : Index := Scalar.indexCast v18463
  let c0_12912 : Index := 0#32
  ![7, v18464.toNat, 0]
def k0_off35 (i : grid0.Coords) : Fin 3 → Nat :=
  let c7_12913 : Index := 7#32
  let arg0 : BitVec 32 := BitVec.ofNat 32 (i 0).val
  let c2_i32 : BitVec 32 := 2#32
  let v0 : BitVec 32 := Scalar.remsi arg0 c2_i32
  let c752_i32 : BitVec 32 := 752#32
  let v2 : BitVec 32 := Scalar.muli v0 c752_i32
  let v3 : BitVec 32 := v2
  let v18467 : Index := Scalar.indexCast v3
  let c0_12914 : Index := 0#32
  ![7, v18467.toNat, 0]
def k0_off36 (i : grid0.Coords) (c0_i32_12931 : BitVec 32) (c0_i32_12932 : BitVec 32) : Fin 3 → Nat :=
  let c7_12933 : Index := 7#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c752_i32_0 : BitVec 32 := 752#32
  let v4 : BitVec 32 := Scalar.muli v1 c752_i32_0
  let v5 : BitVec 32 := v4
  let v18489 : BitVec 32 := Scalar.addi v5 c0_i32_12931
  let v18490 : BitVec 32 := Scalar.addi v18489 c0_i32_12932
  let v18491 : Index := Scalar.indexCast v18490
  let c0_12934 : Index := 0#32
  ![7, v18491.toNat, 0]
def k0_off37 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v21669 : Index := Scalar.indexCast v1
  let c0_15336 : Index := 0#32
  let c0_15337 : Index := 0#32
  ![v21669.toNat, 0, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![c0_i32.toNat, c0_i32_0.toNat, c64_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c64_i32 : BitVec 32 := 64#32
  let c0_i32_1 : BitVec 32 := 0#32
  ![c0_i32.toNat, c0_i32_0.toNat, c64_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_22 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_23 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_24 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_25 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S31x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S384x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8x64x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x64x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x64x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x64x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ProjectionsReferenceIdeal.lean ====
abbrev S8x2048x1024 : Shape := ⟨3, ![8, 2048, 1024]⟩
abbrev S1024x12304 : Shape := ⟨2, ![1024, 12304]⟩
abbrev S12304 : Shape := ⟨1, ![12304]⟩
abbrev S31x1024 : Shape := ⟨2, ![31, 1024]⟩
abbrev S1024 : Shape := ⟨1, ![1024]⟩
abbrev S1024x1024 : Shape := ⟨2, ![1024, 1024]⟩
abbrev S8x2048x12304 : Shape := ⟨3, ![8, 2048, 12304]⟩
abbrev S1x1x12304 : Shape := ⟨3, ![1, 1, 12304]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x12304, .f32⟩
  | .hbm, ⟨2, _⟩ => ⟨S12304, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S8x2048x12304, .f32⟩
  | .hbm, ⟨9, _⟩ => ⟨S1x1x12304, .f32⟩
  | .hbm, ⟨10, _⟩ => ⟨S8x2048x12304, .f32⟩
  | .hbm, ⟨11, _⟩ => ⟨S8x2048x12304, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .bf16⟩
  | .hbm, ⟨19, _⟩ => ⟨S8x2048x1024, .bf16⟩
  | .hbm, ⟨20, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Unit.lean ====
module

public import proofs.«01_k».proof.Proof.Gen.KernelIdeal.Value
public import Idealize.ShloMosaic.Lib.Pipeline.ValueKit
public import Idealize.ShloMosaic.Lib.Pipeline.ReadBack
public import Idealize.ShloMosaic.Lib.MatmulPlain

/-!
One unit of the attention: 256 queries of one head against the keys `0 … 128 (k + 1) - 1` that they may see, written
once for every number of key chunks. `scores` is the scratch that holds the masked scores, `probs` the scratch of
the exponentials, `unit` the quotient of the two rows of the last product.
-/

@[expose] public section
set_option maxRecDepth 16384
noncomputable section
namespace Cert.KernelIdeal.Val
open Cert.KernelIdeal Cert.KernelIdeal.Gen Idealize.ShloMosaic Idealize.ShloMosaic.TcCoe Idealize.SL.Sem

/-- The shape of `r` rows of `c` columns. -/
abbrev M (r c : ℕ) : Shape := ⟨2, ![r, c]⟩
/-- The shape of one layer of `r` rows of `c` columns. -/
abbrev T (r c : ℕ) : Shape := ⟨3, ![1, r, c]⟩

/-- What is written to a score scratch. -/
abbrev SPiece := View.Piece (Elt Ideal) S2048x256 .f32
/-- What is written to a scratch of exponentials. -/
abbrev PPiece := View.Piece (Elt Ideal) S2048x256 .bf16

theorem inb2 {a b r c R C : ℕ} (h0 : a + r ≤ R) (h1 : b + c ≤ C) :
    ∀ x : Fin (M R C).rank, (![a, b] : Fin 2 → ℕ) x + (M r c).size x ≤ (M R C).size x := by
  intro x; match x with
  | ⟨0, _⟩ => exact h0
  | ⟨1, _⟩ => exact h1

theorem inb3 {e a b r c E R C : ℕ} (h : e + 1 ≤ E) (h0 : a + r ≤ R) (h1 : b + c ≤ C) :
    ∀ x : Fin (⟨3, ![E, R, C]⟩ : Shape).rank, (![e, a, b] : Fin 3 → ℕ) x + (T r c).size x ≤ (⟨3, ![E, R, C]⟩ : Shape).size x := by
  intro x; match x with
  | ⟨0, _⟩ => exact h
  | ⟨1, _⟩ => exact h0
  | ⟨2, _⟩ => exact h1

theorem casts_T {r c : ℕ} : (T r c).ShapeCasts (M r c) := by
  simp [Shape.ShapeCasts, Shape.numel, Fin.prod_univ_succ]

theorem concat_K {L : ℕ} : Shape.Concatenates [M L 128, M L 128] (M L 256) 1 := by
  refine ⟨le_refl _, ?_, ?_⟩
  · intro s hs
    have e : s = M L 128 := by simpa using hs
    subst e
    refine ⟨rfl, fun b hb => ?_⟩
    match b, hb with
    | ⟨0, _⟩, _ => rfl
    | ⟨1, _⟩, hb => exact absurd rfl hb
  · rfl

/-- The rectangle of chunk `c` (`128` keys) of a scratch of keys by queries. -/
abbrev chunkRect (c : ℕ) : Rect S2048x256 :=
  Rect.unit ![128 * (c % 16), 0] S128x256.size (inb2 (by omega) (by omega))

section Unit
variable (a7 : View sig .tc .vmem S4x256x2048 .bf16) (a8 : View sig .tc .vmem S2x2048x384 .bf16)
  (a9 : View sig .tc .vmem S4x128x2048 .bf16) (aS : View sig .tc .vmem S2048x256 .f32)
  (aP : View sig .tc .vmem S2048x256 .bf16)
  (LQ : List (View.Piece (Elt Ideal) S4x256x2048 .bf16)) (LK : List (View.Piece (Elt Ideal) S2x2048x384 .bf16))
  (LV : List (View.Piece (Elt Ideal) S4x128x2048 .bf16)) (oS : List SPiece) (oP : List PPiece)
  (k u p b q sr : ℕ)

/-- The number of keys. -/
abbrev keys (k : ℕ) : ℕ := 128 * (k + 1)

/-- `keys k` rows of the keys' scratch, at layer `p` and lane `b`. -/
abbrev keyTile (hk : k < 16) (hp : p < 2) (hb : b + 128 ≤ 384) : FVec Ideal (M (keys k) 128) .bf16 :=
  shapeCast (M (keys k) 128) (α := Ideal .bf16) (s := T (keys k) 128)
    (a8.readCov LK (Rect.unit (s := S2x2048x384) ![p, 0, b] (T (keys k) 128).size (inb3 (by omega) (by unfold keys; omega) (by omega))).toLoadRect) casts_T

/-- `256` columns of the queries' scratch. -/
abbrev queryTile (hu : u < 4) (hq : q + 256 ≤ 2048) : FVec Ideal (M 256 256) .bf16 :=
  shapeCast (M 256 256) (α := Ideal .bf16) (s := T 256 256)
    (a7.readCov LQ (Rect.unit (s := S4x256x2048) ![u, 0, q] (T 256 256).size (inb3 (by omega) (by omega) (by omega))).toLoadRect) casts_T

/-- The raw scores of `keys k` keys against the queries `q … q + 255`. -/
abbrev raw (hk : k < 16) (hu : u < 4) (hp : p < 2) (hb : b + 128 ≤ 384) (hq : q + 256 ≤ 2048) : FVec Ideal (M (keys k) 256) .f32 :=
  matmul (φ₁ := .bf16) (φ₂ := .bf16) (DotDims.plain (keys k) 256 256) none
    (concatenate (α := Ideal .bf16) (M (keys k) 256) 1
      [⟨M (keys k) 128, keyTile a8 LK k p 0 hk hp (by omega)⟩, ⟨M (keys k) 128, keyTile a8 LK k p b hk hp hb⟩] concat_K)
    (queryTile a7 LQ u q hu hq) (constant (M (keys k) 256) .f32 0x00000000#32)

/-- The score scratch once the raw scores are there. -/
abbrev rawPieces (hk : k < 16) (hu : u < 4) (hp : p < 2) (hb : b + 128 ≤ 384) (hq : q + 256 ≤ 2048) : List SPiece :=
  ⟨Rect.unit (s := S2048x256) ![0, 0] (M (keys k) 256).size (inb2 (by unfold keys; omega) (by omega)),
    shapeCast (M (keys k) 256) (raw a7 a8 LQ LK k u p b q hk hu hp hb hq) rfl⟩ :: oS

/-- The score scratch once the keys after their query are masked. -/
abbrev scores (hk : k < 16) (hu : u < 4) (hp : p < 2) (hb : b + 128 ≤ 384) (hq : q + 256 ≤ 2048) : List SPiece :=
  ⟨Rect.unit (s := S2048x256) ![q, 0] (M 256 256).size (inb2 (by omega) (by omega)),
    shapeCast (M 256 256)
      (select (cmpi .sle (iota .tc S256x256 32 [0] iota_S256x256_d0_w32) (iota .tc S256x256 32 [1] iota_S256x256_d1_w32))
        (aS.readCov (rawPieces a7 a8 LQ LK oS k u p b q hk hu hp hb hq) (Rect.unit (s := S2048x256) ![q, 0] (M 256 256).size (inb2 (by omega) (by omega))).toLoadRect : FVec Ideal (M 256 256) .f32)
        (broadcast S256x256 (α := Ideal .f32) (Named.named (F := Ideal) (φ := .f32) κ "mask" 0xF149F2CA#32))) rfl⟩ :: rawPieces a7 a8 LQ LK oS k u p b q hk hu hp hb hq

end Unit

/-- Chunk `c` of a score scratch. -/
abbrev chunk (aS : View sig .tc .vmem S2048x256 .f32) (LS : List SPiece) (c : ℕ) : FVec Ideal S128x256 .f32 :=
  aS.readCov LS (chunkRect c).toLoadRect

/-- The maximum of chunk `c` over its sixteen groups of eight rows. -/
abbrev chunkMax (aS : View sig .tc .vmem S2048x256 .f32) (LS : List SPiece) (c : ℕ) : FVec Ideal S8x256 .f32 :=
  multiReduction .maximumf [0] S8x256 (shapeCast S16x8x256 (chunk aS LS c) shapeCasts_S128x256_S16x8x256) 0xFF800000#32
    reduces_S16x8x256_S8x256 (.inl rfl) rfl

/-- The running maximum of the chunks `0 … c`. -/
def runMax (aS : View sig .tc .vmem S2048x256 .f32) (LS : List SPiece) : ℕ → FVec Ideal S8x256 .f32
  | 0 => chunkMax aS LS 0
  | c + 1 => maximumf (runMax aS LS c) (chunkMax aS LS (c + 1))

/-- The maximum over the chunks `0 … k`, as one row. -/
abbrev maxRow (aS : View sig .tc .vmem S2048x256 .f32) (LS : List SPiece) (k : ℕ) : FVec Ideal S1x256 .f32 :=
  shapeCast S1x256 (multiReduction .maximumf [0] S256 (runMax aS LS k) 0xFF800000#32 reduces_S8x256_S256 (.inl rfl) rfl) shapeCasts_S256_S1x256

/-- The exponentials of chunk `c` under the row `mx`. -/
abbrev chunkExp (aS : View sig .tc .vmem S2048x256 .f32) (LS : List SPiece) (mx : FVec Ideal S1x256 .f32) (c : ℕ) : FVec Ideal S128x256 .bf16 :=
  shapeCast S128x256 (truncf .bf16 (exp2 (subf (chunk aS LS c) (broadcastTo S128x256 mx broadcasts_S1x256_S128x256))) bitsLt_bf16_f32) rfl

/-- The scratch of exponentials once the chunks below `c` are there. -/
def expPieces (aS : View sig .tc .vmem S2048x256 .f32) (LS : List SPiece) (mx : FVec Ideal S1x256 .f32) (oP : List PPiece) : ℕ → List PPiece
  | 0 => oP
  | c + 1 => ⟨chunkRect c, chunkExp aS LS mx c⟩ :: expPieces aS LS mx oP c

/-- The values' product with the exponentials. -/
abbrev pv (a9 : View sig .tc .vmem S4x128x2048 .bf16) (aP : View sig .tc .vmem S2048x256 .bf16)
    (LV : List (View.Piece (Elt Ideal) S4x128x2048 .bf16)) (LP : List PPiece) (k u : ℕ) (hk : k < 16) (hu : u < 4) : FVec Ideal S128x256 .f32 :=
  matmul (φ₁ := .bf16) (φ₂ := .bf16) (DotDims.plain 128 (keys k) 256) none
    (shapeCast (M 128 (keys k)) (α := Ideal .bf16) (s := T 128 (keys k)) (a9.readCov LV (Rect.unit (s := S4x128x2048) ![u, 0, 0] (T 128 (keys k)).size (inb3 (by omega) (by omega) (by unfold keys; omega))).toLoadRect) casts_T)
    (aP.readCov LP (Rect.unit (s := S2048x256) ![0, 0] (M (keys k) 256).size (inb2 (by unfold keys; omega) (by omega))).toLoadRect : FVec Ideal (M (keys k) 256) .bf16)
    (constant S128x256 .f32 0x00000000#32)

theorem slices_row {sr : ℕ} (h : sr < 128) : S128x256.Slices ![sr, 0] S1x256 := by
  refine ⟨rfl, fun a => ?_⟩
  match a with
  | ⟨0, _⟩ => exact h
  | ⟨1, _⟩ => exact le_refl 256

/-- A product divided by its row `sr`. -/
abbrev quot (x : FVec Ideal S128x256 .f32) (sr : ℕ) (hs : sr < 128) : FVec Ideal S128x256 .f32 :=
  divf x (broadcastTo S128x256 (extractStridedSlice S1x256 ![sr, 0] x (slices_row hs)) broadcasts_S1x256_S128x256)

/-- One unit's quotient, from the lists its scratches hold. -/
abbrev unitOf (a9 : View sig .tc .vmem S4x128x2048 .bf16) (aS : View sig .tc .vmem S2048x256 .f32) (aP : View sig .tc .vmem S2048x256 .bf16)
    (LV : List (View.Piece (Elt Ideal) S4x128x2048 .bf16)) (LS : List SPiece) (oP : List PPiece) (k u sr : ℕ)
    (hk : k < 16) (hu : u < 4) (hs : sr < 128) : FVec Ideal S128x256 .f32 :=
  quot (pv a9 aP LV (expPieces aS LS (maxRow aS LS k) oP (k + 1)) k u hk hu) sr hs

/-- A tile of the result: the two heads of a pair, one above the other, turned over. -/
abbrev tile (U0 U1 : FVec Ideal S128x256 .f32) : FVec Ideal S1x256x128 .bf16 :=
  shapeCast S1x256x128 (truncf .bf16 (transpose S256x128 [1, 0]
    (select (broadcastTo S128x256 (shapeCast S128x1 (cmpi .slt (iota .tc S128x1 32 [0] iota_S128x1_d0_w32) (broadcast S128x1 64#32)) shapeCasts_S128x1_S128x1) broadcasts_S128x1_S128x256) U0 U1)
    transposes_S128x256_p1_0_S256x128) bitsLt_bf16_f32) shapeCasts_S256x128_S1x256x128

end Cert.KernelIdeal.Val
-- ==== Proof.UnitValue.lean ====
module

public import proofs.«01_k».proof.Proof.Unit
public import Idealize.ShloMosaic.Lib.ValueLayout
public import Idealize.ShloMosaic.Lib.ValueIdx
public import Idealize.ShloMosaic.Lib.IdealHost

/-!
What one unit computes, element by element: the masked scores, their column maxima as the least upper bound, and
the quotient of two sums of values times powers of two.
-/

@[expose] public section
set_option maxRecDepth 16384
noncomputable section
namespace Cert.KernelIdeal.Val
open Cert.KernelIdeal Cert.KernelIdeal.Gen Idealize.ShloMosaic.TcCoe Idealize.SL.Sem
open Idealize.ShloMosaic hiding ix0 ix1 ix2 ix3 ix4 ix5 eq_ix1 eq_ix2 eq_ix3 eq_ix4 mulf_apply addf_apply subf_apply divf_apply maximumf_apply truncf_apply extf_apply constant_apply sum_idx2
open Idealize.ShloMosaic.ValueIdx

/-! ### Reading a box of a scratch, and the newest write -/

section Reads
variable {e : EltTy} {kd : Kind} {sp : Space}

/-- An element of a box of a matrix of writes is the element at the box's place. -/
theorem readCov2 {R C r c a b : ℕ} (v : View sig kd sp (M R C) e) (L : List (View.Piece (Elt Ideal) (M R C) e))
    (h) (i : Fin r) (j : Fin c) (I : Fin R) (J : Fin C) (hI : I.val = a + i.val) (hJ : J.val = b + j.val) :
    v.readCov L (Rect.unit (s := M R C) ![a, b] ![r, c] h).toLoadRect (ix2 i j) = View.canon L (ix2 I J) := by
  rw [View.readCov_eq_canon']
  refine congrArg (View.canon L) (funext fun x => Fin.ext ?_)
  match x with
  | ⟨0, _⟩ => exact (Rect.idx_unit_val _ _ h (ix2 i j) 0).trans hI.symm
  | ⟨1, _⟩ => exact (Rect.idx_unit_val _ _ h (ix2 i j) 1).trans hJ.symm

/-- The same for one layer of a stack of matrices. -/
theorem readCov3 {E R C r c k a b : ℕ} (v : View sig kd sp ⟨3, ![E, R, C]⟩ e) (L : List (View.Piece (Elt Ideal) ⟨3, ![E, R, C]⟩ e))
    (h) (u : Fin 1) (i : Fin r) (j : Fin c) (K : Fin E) (I : Fin R) (J : Fin C) (hK : K.val = k) (hI : I.val = a + i.val) (hJ : J.val = b + j.val) :
    v.readCov L (Rect.unit (s := ⟨3, ![E, R, C]⟩) ![k, a, b] ![1, r, c] h).toLoadRect (ix3 u i j) = View.canon L (ix3 K I J) := by
  rw [View.readCov_eq_canon']
  refine congrArg (View.canon L) (funext fun x => Fin.ext ?_)
  match x with
  | ⟨0, _⟩ => exact (Rect.idx_unit_val _ _ h (ix3 u i j) 0).trans (by show k + u.val = K.val; omega)
  | ⟨1, _⟩ => exact (Rect.idx_unit_val _ _ h (ix3 u i j) 1).trans hI.symm
  | ⟨2, _⟩ => exact (Rect.idx_unit_val _ _ h (ix3 u i j) 2).trans hJ.symm

/-- The newest write, where it wrote. -/
theorem canon2_hit {R C r c a b : ℕ} (L : List (View.Piece (Elt Ideal) (M R C) e)) (h) (w : (M r c).Idx → Elt Ideal e)
    (i : Fin r) (j : Fin c) (I : Fin R) (J : Fin C) (hI : I.val = a + i.val) (hJ : J.val = b + j.val) :
    View.canon (⟨Rect.unit (s := M R C) ![a, b] ![r, c] h, w⟩ :: L) (ix2 I J) = w (ix2 i j) := by
  rw [← View.canon_cons_emb (Rect.unit (s := M R C) ![a, b] ![r, c] h) w L (ix2 i j)]
  refine congrArg _ (funext fun x => Fin.ext ?_)
  match x with
  | ⟨0, _⟩ => exact ((Rect.idx_unit_val _ _ h (ix2 i j) 0).trans hI.symm).symm
  | ⟨1, _⟩ => exact ((Rect.idx_unit_val _ _ h (ix2 i j) 1).trans hJ.symm).symm

/-- The newest write leaves the rows above it. -/
theorem canon2_miss {R C r c a b : ℕ} (L : List (View.Piece (Elt Ideal) (M R C) e)) (h) (w : (M r c).Idx → Elt Ideal e)
    (I : Fin R) (J : Fin C) (hI : I.val < a) :
    View.canon (⟨Rect.unit (s := M R C) ![a, b] ![r, c] h, w⟩ :: L) (ix2 I J) = View.canon L (ix2 I J) := by
  refine View.canon_cons_of_not_mem _ _ fun hm => ?_
  obtain ⟨x, hx⟩ := (Rect.unit (s := M R C) ![a, b] ![r, c] h).exists_idx_of_mem hm
  have := Rect.idx_unit_val (s := M R C) ![a, b] ![r, c] h x 0
  rw [hx] at this
  have : I.val = a + (x 0).val := this
  omega

end Reads

/-! ### The scores -/

theorem mask_eq : Named.named (F := Ideal) (φ := .f32) κ "mask" 0xF149F2CA#32 = (⊥ : EReal) :=
  IdealRules.named_const.ideal_named_scalar _ _ _ _ rfl

theorem keyTile_apply (a8 : View sig .tc .vmem S2x2048x384 .bf16) (LK : List (View.Piece (Elt Ideal) S2x2048x384 .bf16)) (k p b : ℕ)
    (hk hp hb) (s : Fin (keys k)) (j : Fin 128) :
    keyTile a8 LK k p b hk hp hb (ix2 s j)
      = View.canon LK (ix3 ⟨p, hp⟩ ⟨s.val, by have := s.isLt; unfold keys at this; omega⟩ ⟨b + j.val, by omega⟩) := by
  unfold keyTile
  rw [shapeCast_1ab_ab_apply]
  exact readCov3 _ _ _ _ _ _ _ _ _ rfl (Nat.zero_add _).symm rfl

theorem queryTile_apply (a7 : View sig .tc .vmem S4x256x2048 .bf16) (LQ : List (View.Piece (Elt Ideal) S4x256x2048 .bf16)) (u q : ℕ)
    (hu hq) (j : Fin 256) (t : Fin 256) :
    queryTile a7 LQ u q hu hq (ix2 j t) = View.canon LQ (ix3 ⟨u, hu⟩ j ⟨q + t.val, by omega⟩) := by
  unfold queryTile
  rw [shapeCast_1ab_ab_apply]
  exact readCov3 _ _ _ _ _ _ _ _ _ rfl (Nat.zero_add _).symm rfl

/-- The product of key `s` and query `t`: two halves of `128` lanes. -/
def dotKQ (LQ : List (View.Piece (Elt Ideal) S4x256x2048 .bf16)) (LK : List (View.Piece (Elt Ideal) S2x2048x384 .bf16))
    (u p b : ℕ) (hu : u < 4) (hp : p < 2) (hb : b + 128 ≤ 384) (s t : Fin 2048) : EReal :=
  (∑ j : Fin 128, View.canon LK (ix3 ⟨p, hp⟩ s ⟨j.val, by omega⟩) * View.canon LQ (ix3 ⟨u, hu⟩ ⟨j.val, by omega⟩ t))
    + ∑ j : Fin 128, View.canon LK (ix3 ⟨p, hp⟩ s ⟨b + j.val, by omega⟩) * View.canon LQ (ix3 ⟨u, hu⟩ ⟨128 + j.val, by omega⟩ t)

/-- The score of key `s` for query `t`: `⊥` for a key after its query. -/
def scoreKQ (LQ : List (View.Piece (Elt Ideal) S4x256x2048 .bf16)) (LK : List (View.Piece (Elt Ideal) S2x2048x384 .bf16))
    (u p b : ℕ) (hu : u < 4) (hp : p < 2) (hb : b + 128 ≤ 384) (s t : Fin 2048) : EReal :=
  if s.val ≤ t.val then dotKQ LQ LK u p b hu hp hb s t else ⊥

section Scores
variable (a7 : View sig .tc .vmem S4x256x2048 .bf16) (a8 : View sig .tc .vmem S2x2048x384 .bf16) (aS : View sig .tc .vmem S2048x256 .f32)
  (LQ : List (View.Piece (Elt Ideal) S4x256x2048 .bf16)) (LK : List (View.Piece (Elt Ideal) S2x2048x384 .bf16)) (oS : List SPiece)
  (k u p b q : ℕ) (hk : k < 16) (hu : u < 4) (hp : p < 2) (hb : b + 128 ≤ 384) (hq : q + 256 ≤ 2048)

theorem raw_apply (s : Fin (keys k)) (t : Fin 256) :
    raw a7 a8 LQ LK k u p b q hk hu hp hb hq (ix2 s t)
      = dotKQ LQ LK u p b hu hp hb ⟨s.val, by have := s.isLt; unfold keys at this; omega⟩ ⟨q + t.val, by omega⟩ := by
  unfold raw dotKQ
  refine (Ideal.matmul_plain_apply none _ _ _ s t).trans ?_
  rw [constant_apply, Ideal.ofBits_zero_f32, zero_add]
  refine (Fin.sum_univ_add (a := 128) (b := 128) _).trans ?_
  refine congrArg₂ (· + ·) (Finset.sum_congr rfl fun j _ => congrArg₂ (· * ·) ?_ ?_) (Finset.sum_congr rfl fun j _ => congrArg₂ (· * ·) ?_ ?_)
  · refine (concatenate_pair_apply_left (t := M (keys k) 256) (s₁ := M (keys k) 128) 1 _ _ _ _ rfl (ix2 (n1 := 128) s j) fun x => ?_).trans ?_
    · match x with
      | ⟨0, _⟩ => rfl
      | ⟨1, _⟩ => rfl
    · rw [keyTile_apply]
      simp only [Nat.zero_add]
  · exact queryTile_apply a7 LQ u q hu hq _ t
  · refine (concatenate_pair_apply_right (t := M (keys k) 256) (s₁ := M (keys k) 128) (s₂ := M (keys k) 128) 1 _ _ _ _ rfl rfl (ix2 (n1 := 128) s j) (fun x hx => ?_) ?_).trans ?_
    · match x, hx with
      | ⟨0, _⟩, _ => rfl
      | ⟨1, _⟩, hx => exact absurd rfl hx
    · show j.val + 128 = 128 + j.val
      omega
    · exact keyTile_apply a8 LK k p b hk hp hb s j
  · exact queryTile_apply a7 LQ u q hu hq _ t

theorem rawPieces_apply (s : Fin 2048) (hs : s.val < keys k) (t : Fin 256) :
    View.canon (rawPieces a7 a8 LQ LK oS k u p b q hk hu hp hb hq) (ix2 s t) = dotKQ LQ LK u p b hu hp hb s ⟨q + t.val, by omega⟩ := by
  refine (canon2_hit _ _ _ ⟨s.val, hs⟩ t s t (Nat.zero_add _).symm (Nat.zero_add _).symm).trans ?_
  refine Eq.trans ?_ (raw_apply a7 a8 LQ LK k u p b q hk hu hp hb hq ⟨s.val, hs⟩ t)
  exact shapeCast_apply _ _ _ _ rfl

/-- Signed comparison of two small words is that of their numbers. -/
theorem sle_small (a b : ℕ) (ha : a < 4096) (hb : b < 4096) :
    IntOp.cmpi .sle (BitVec.ofNat 32 a) (BitVec.ofNat 32 b) = if a ≤ b then 1#1 else 0#1 := by
  have e : ∀ n : ℕ, n < 4096 → (BitVec.ofNat 32 n).toInt = (n : ℤ) := fun n hn => by
    rw [BitVec.toInt_eq_toNat_of_lt, BitVec.toNat_ofNat, Nat.mod_eq_of_lt (by omega)]
    rw [BitVec.toNat_ofNat, Nat.mod_eq_of_lt (by omega)]; omega
  have : (BitVec.ofNat 32 a).sle (BitVec.ofNat 32 b) = decide (a ≤ b) := by
    rw [BitVec.sle_eq_decide, e a ha, e b hb]
    simp
  by_cases h : a ≤ b
  · simp [IntOp.cmpi, this, h]
  · simp [IntOp.cmpi, this, h]

theorem scores_apply (hkq : q + 256 = keys k) (s : Fin 2048) (hs : s.val < keys k) (t : Fin 256) :
    View.canon (scores a7 a8 aS LQ LK oS k u p b q hk hu hp hb hq) (ix2 s t) = scoreKQ LQ LK u p b hu hp hb s ⟨q + t.val, by omega⟩ := by
  unfold scoreKQ
  by_cases h : s.val < q
  · rw [if_pos (by show s.val ≤ q + t.val; omega)]
    exact (canon2_miss _ _ _ s t h).trans (rawPieces_apply a7 a8 LQ LK oS k u p b q hk hu hp hb hq s hs t)
  · refine (canon2_hit _ _ _ ⟨s.val - q, by omega⟩ t s t (by show s.val = q + (s.val - q); omega) (Nat.zero_add _).symm).trans ?_
    refine (shapeCast_apply _ _ _ (ix2 ⟨s.val - q, by omega⟩ t) rfl).trans ?_
    rw [select_apply]
    have e : cmpi .sle (iota .tc S256x256 32 [0] iota_S256x256_d0_w32) (iota .tc S256x256 32 [1] iota_S256x256_d1_w32) (ix2 ⟨s.val - q, by omega⟩ t)
        = if s.val - q ≤ t.val then 1#1 else 0#1 := by
      show IntOp.cmpi .sle (iota .tc S256x256 32 [0] iota_S256x256_d0_w32 (ix2 ⟨s.val - q, by omega⟩ t)) (iota .tc S256x256 32 [1] iota_S256x256_d1_w32 (ix2 ⟨s.val - q, by omega⟩ t)) = _
      rw [iota_single_apply, iota_single_apply]
      exact sle_small _ _ (by show s.val - q < 4096; omega) (by show t.val < 4096; omega)
    rw [e]
    by_cases h' : s.val - q ≤ t.val
    · rw [if_pos h', if_pos (by show s.val ≤ q + t.val; omega), select_one]
      refine (readCov2 _ _ _ _ _ s t (by show s.val = q + (s.val - q); omega) (Nat.zero_add _).symm).trans ?_
      exact rawPieces_apply a7 a8 LQ LK oS k u p b q hk hu hp hb hq s hs t
    · rw [if_neg h', if_neg (by show ¬ s.val ≤ q + t.val; omega), select_zero]
      exact mask_eq

end Scores

/-! ### The column maxima -/

section Max
variable (aS : View sig .tc .vmem S2048x256 .f32) (LS : List SPiece)

theorem chunk_apply (c : ℕ) (hc : c < 16) (i : Fin 128) (t : Fin 256) :
    chunk aS LS c (ix2 i t) = View.canon LS (ix2 ⟨128 * c + i.val, by omega⟩ t) :=
  readCov2 _ _ _ _ _ _ _ (by show 128 * c + i.val = 128 * (c % 16) + i.val; rw [Nat.mod_eq_of_lt hc]) (Nat.zero_add _).symm

theorem neg_inf : (FloatOps.ofBits (F := Ideal) .f32 0xFF800000#32 : EReal) = ⊥ := by
  show Ideal.ofBits .f32 0xFF800000#32 = ⊥
  simp [Ideal.ofBits, Ideal.ieee]

theorem fold_le {ι : Type} [DecidableEq ι] (t : Finset ι) (b z : EReal) (f : ι → Ideal .f32) :
    t.fold (FloatOps.maximumf (F := Ideal) (φ := .f32)) b f ≤ z ↔ b ≤ z ∧ ∀ x ∈ t, f x ≤ z := by
  induction t using Finset.induction with
  | empty => simp
  | insert a t ha ih =>
    rw [Finset.fold_insert ha]
    refine (max_le_iff (α := EReal)).trans ?_
    rw [ih]
    simp only [Finset.mem_insert, forall_eq_or_imp]
    tauto

theorem chunkMax_le (c : ℕ) (hc : c < 16) (i : Fin 8) (t : Fin 256) (z : EReal) :
    chunkMax aS LS c (ix2 i t) ≤ z ↔ ∀ g : Fin 16, View.canon LS (ix2 ⟨128 * c + (8 * g.val + i.val), by omega⟩ t) ≤ z := by
  classical
  have e0 : chunkMax aS LS c (ix2 i t) = _ := (multiReduction_maximumf_eq_fold _ _ _ _ _ _).trans (Shape.Reduces.fold_filter_drop_single _ _ _ _ _)
  rw [e0]
  refine (fold_le _ _ _ _).trans ?_
  rw [neg_inf]
  have e : ∀ g : Fin 16, (shapeCast S16x8x256 (chunk aS LS c) shapeCasts_S128x256_S16x8x256 ∘ reduces_S16x8x256_S8x256.lift (ix2 i t)) g
      = View.canon LS (ix2 ⟨128 * c + (8 * g.val + i.val), by omega⟩ t) := fun g => by
    refine Eq.trans ?_ (chunk_apply aS LS c hc ⟨8 * g.val + i.val, by omega⟩ t)
    refine shapeCast_apply _ _ _ _ ?_
    rw [Shape.rowMajor_val_three, Shape.rowMajor_val_two]
    show (8 * g.val + i.val) * 256 + t.val = (g.val * 8 + i.val) * 256 + t.val
    omega
  constructor
  · intro h g
    rw [← e g]
    exact h.2 g (Finset.mem_univ _)
  · intro h
    refine ⟨bot_le, fun g _ => ?_⟩
    exact (e g).symm ▸ h g

theorem runMax_le (i : Fin 8) (t : Fin 256) (z : EReal) : ∀ (c : ℕ) (hc : c < 16), runMax aS LS c (ix2 i t) ≤ z ↔
    ∀ s : Fin 2048, s.val < 128 * (c + 1) → s.val % 8 = i.val → View.canon LS (ix2 s t) ≤ z := by
  intro c
  induction c with
  | zero =>
    intro hc
    unfold runMax
    rw [chunkMax_le aS LS 0 hc]
    constructor
    · intro h s hs hi
      have := h ⟨s.val / 8, by omega⟩
      rwa [show (⟨128 * 0 + (8 * (s.val / 8) + i.val), by omega⟩ : Fin 2048) = s from Fin.ext (by show 128 * 0 + (8 * (s.val / 8) + i.val) = s.val; omega)] at this
    · intro h g
      exact h _ (by show 128 * 0 + (8 * g.val + i.val) < _; omega) (by show (128 * 0 + (8 * g.val + i.val)) % 8 = _; omega)
  | succ c ih =>
    intro hc
    unfold runMax
    rw [maximumf_apply, max_le_iff, ih (by omega), chunkMax_le aS LS (c + 1) hc]
    constructor
    · rintro ⟨h1, h2⟩ s hs hi
      by_cases hlt : s.val < 128 * (c + 1)
      · exact h1 s hlt hi
      · have := h2 ⟨(s.val - 128 * (c + 1)) / 8, by omega⟩
        rwa [show (⟨128 * (c + 1) + (8 * ((s.val - 128 * (c + 1)) / 8) + i.val), by omega⟩ : Fin 2048) = s from
          Fin.ext (by show 128 * (c + 1) + (8 * ((s.val - 128 * (c + 1)) / 8) + i.val) = s.val; omega)] at this
    · intro h
      refine ⟨fun s hs hi => h s (by omega) hi, fun g => h _ ?_ ?_⟩
      · show 128 * (c + 1) + (8 * g.val + i.val) < _; omega
      · show (128 * (c + 1) + (8 * g.val + i.val)) % 8 = _; omega

theorem maxRow_le (k : ℕ) (hk : k < 16) (t : Fin 256) (z : EReal) : maxRow aS LS k (ix2 0 t) ≤ z ↔
    ∀ s : Fin 2048, s.val < keys k → View.canon LS (ix2 s t) ≤ z := by
  classical
  have e0 : maxRow aS LS k (ix2 0 t) = _ := (shapeCast_a_1a_apply _ _ _ _).trans
    ((multiReduction_maximumf_eq_fold _ _ _ _ _ _).trans (Shape.Reduces.fold_filter_drop_single _ _ _ _ _))
  rw [e0]
  refine (fold_le _ _ _ _).trans ?_
  rw [neg_inf]
  have e : ∀ i : Fin 8, reduces_S8x256_S256.lift (ix1 t) i = ix2 i t := fun i => by
    funext x; match x with
    | ⟨0, _⟩ => rfl
    | ⟨1, _⟩ => rfl
  constructor
  · intro h s hs
    have h2 := h.2 (⟨s.val % 8, by omega⟩ : Fin 8) (Finset.mem_univ _)
    have h3 : runMax aS LS k (ix2 ⟨s.val % 8, by omega⟩ t) ≤ z := (congrArg (runMax aS LS k) (e _)) ▸ h2
    exact (runMax_le aS LS _ t z k hk).1 h3 s hs rfl
  · intro h
    refine ⟨bot_le, fun i _ => ?_⟩
    exact (congrArg (runMax aS LS k) (e i)).trans_le ((runMax_le aS LS i t z k hk).2 fun s hs _ => h s hs)

end Max

/-! ### The exponentials and the quotient -/

section Exp
variable (aS : View sig .tc .vmem S2048x256 .f32) (LS : List SPiece) (mx : FVec Ideal S1x256 .f32) (oP : List PPiece)

theorem chunkExp_apply (c : ℕ) (hc : c < 16) (i : Fin 128) (t : Fin 256) :
    chunkExp aS LS mx c (ix2 i t) = Ideal.exp2 (View.canon LS (ix2 ⟨128 * c + i.val, by omega⟩ t) - mx (ix2 0 t)) := by
  unfold chunkExp
  refine (shapeCast_apply _ _ _ (ix2 i t) rfl).trans ?_
  rw [truncf_apply]
  show Ideal.exp2 (chunk aS LS c (ix2 i t) - broadcastTo S128x256 mx broadcasts_S1x256_S128x256 (ix2 i t)) = _
  rw [chunk_apply aS LS c hc, broadcastTo_1b_ab_apply]

theorem expPieces_apply (s : Fin 2048) (t : Fin 256) : ∀ c : ℕ, c ≤ 16 → s.val < 128 * c →
    View.canon (expPieces aS LS mx oP c) (ix2 s t) = Ideal.exp2 (View.canon LS (ix2 s t) - mx (ix2 0 t)) := by
  intro c
  induction c with
  | zero => intro _ h; omega
  | succ c ih =>
    intro hc hs
    unfold expPieces
    by_cases h : s.val < 128 * c
    · exact (canon2_miss _ _ _ s t (by rw [Nat.mod_eq_of_lt (by omega)]; exact h)).trans (ih (by omega) h)
    · refine (canon2_hit _ _ _ ⟨s.val - 128 * c, by omega⟩ t s t (by rw [Nat.mod_eq_of_lt (by omega)]; show s.val = 128 * c + (s.val - 128 * c); omega) (Nat.zero_add _).symm).trans ?_
      refine (chunkExp_apply aS LS mx c (by omega) _ t).trans ?_
      rw [show (⟨128 * c + (s.val - 128 * c), by omega⟩ : Fin 2048) = s from Fin.ext (by show 128 * c + (s.val - 128 * c) = s.val; omega)]

end Exp

theorem pv_apply (a9 : View sig .tc .vmem S4x128x2048 .bf16) (aP : View sig .tc .vmem S2048x256 .bf16)
    (LV : List (View.Piece (Elt Ideal) S4x128x2048 .bf16)) (LP : List PPiece) (k u : ℕ) (hk : k < 16) (hu : u < 4) (d : Fin 128) (t : Fin 256) :
    pv a9 aP LV LP k u hk hu (ix2 d t)
      = ∑ s : Fin (keys k), View.canon LV (ix3 ⟨u, hu⟩ d ⟨s.val, by have := s.isLt; unfold keys at this; omega⟩)
          * View.canon LP (ix2 ⟨s.val, by have := s.isLt; unfold keys at this; omega⟩ t) := by
  unfold pv
  refine (Ideal.matmul_plain_apply none _ _ _ d t).trans ?_
  rw [constant_apply, Ideal.ofBits_zero_f32, zero_add]
  refine Finset.sum_congr rfl fun s _ => congrArg₂ (· * ·) ?_ ?_
  · rw [shapeCast_1ab_ab_apply]
    exact readCov3 _ _ _ _ _ _ _ _ _ rfl (Nat.zero_add _).symm (Nat.zero_add _).symm
  · exact readCov2 _ _ _ _ _ _ _ (Nat.zero_add _).symm (Nat.zero_add _).symm

theorem quot_apply (x : FVec Ideal S128x256 .f32) (sr : ℕ) (hs : sr < 128) (d : Fin 128) (t : Fin 256) :
    quot x sr hs (ix2 d t) = Ideal.div (x (ix2 d t)) (x (ix2 ⟨sr, hs⟩ t)) := by
  unfold quot
  rw [divf_apply, broadcastTo_1b_ab_apply]
  refine congrArg _ (extractStridedSlice_apply _ _ _ _ _ fun a => ?_)
  match a with
  | ⟨0, _⟩ => rfl
  | ⟨1, _⟩ => exact (Nat.zero_add _).symm

end Cert.KernelIdeal.Val
-- ==== Proof.Fills.lean ====
module

public import proofs.«01_k».proof.Proof.UnitValue

/-!
The three scratches that one grid step fills before its units run: the queries and their gate lanes, the keys and
their gate lanes, the values with a row of ones. Each element is given in terms of the step's blocks.
-/

@[expose] public section
set_option maxRecDepth 16384
noncomputable section
namespace Cert.KernelIdeal.Val
open Cert.KernelIdeal Cert.KernelIdeal.Gen Idealize.ShloMosaic.TcCoe Idealize.SL.Sem
open Idealize.ShloMosaic hiding ix0 ix1 ix2 ix3 ix4 ix5 eq_ix1 eq_ix2 eq_ix3 eq_ix4 mulf_apply addf_apply subf_apply divf_apply maximumf_apply truncf_apply extf_apply constant_apply sum_idx2
open Idealize.ShloMosaic.ValueIdx

/-! ### The newest write to a stack of matrices -/

section Reads
variable {e : EltTy}

theorem canon3_hit {E R C r c k a b : ℕ} (L : List (View.Piece (Elt Ideal) ⟨3, ![E, R, C]⟩ e)) (h) (w : (T r c).Idx → Elt Ideal e)
    (i : Fin r) (j : Fin c) (K : Fin E) (I : Fin R) (J : Fin C) (hK : K.val = k) (hI : I.val = a + i.val) (hJ : J.val = b + j.val) :
    View.canon (⟨Rect.unit (s := ⟨3, ![E, R, C]⟩) ![k, a, b] ![1, r, c] h, w⟩ :: L) (ix3 K I J) = w (ix3 0 i j) := by
  rw [← View.canon_cons_emb (Rect.unit (s := ⟨3, ![E, R, C]⟩) ![k, a, b] ![1, r, c] h) w L (ix3 0 i j)]
  refine congrArg _ (funext fun x => Fin.ext ?_)
  match x with
  | ⟨0, _⟩ => exact ((Rect.idx_unit_val _ _ h (ix3 0 i j) 0).trans hK.symm).symm
  | ⟨1, _⟩ => exact ((Rect.idx_unit_val _ _ h (ix3 0 i j) 1).trans hI.symm).symm
  | ⟨2, _⟩ => exact ((Rect.idx_unit_val _ _ h (ix3 0 i j) 2).trans hJ.symm).symm

theorem canon3_miss {E R C r c k a b : ℕ} (L : List (View.Piece (Elt Ideal) ⟨3, ![E, R, C]⟩ e)) (h) (w : (T r c).Idx → Elt Ideal e)
    (K : Fin E) (I : Fin R) (J : Fin C) (hm : ¬ (K.val = k ∧ (a ≤ I.val ∧ I.val < a + r) ∧ b ≤ J.val ∧ J.val < b + c)) :
    View.canon (⟨Rect.unit (s := ⟨3, ![E, R, C]⟩) ![k, a, b] ![1, r, c] h, w⟩ :: L) (ix3 K I J) = View.canon L (ix3 K I J) := by
  refine View.canon_cons_of_not_mem _ _ fun hm' => hm ?_
  obtain ⟨x, hx⟩ := (Rect.unit (s := ⟨3, ![E, R, C]⟩) ![k, a, b] ![1, r, c] h).exists_idx_of_mem hm'
  have h0 := Rect.idx_unit_val (s := ⟨3, ![E, R, C]⟩) ![k, a, b] ![1, r, c] h x 0
  have h1 := Rect.idx_unit_val (s := ⟨3, ![E, R, C]⟩) ![k, a, b] ![1, r, c] h x 1
  have h2 := Rect.idx_unit_val (s := ⟨3, ![E, R, C]⟩) ![k, a, b] ![1, r, c] h x 2
  rw [hx] at h0 h1 h2
  have h0 : K.val = k + (x 0).val := h0
  have h1 : I.val = a + (x 1).val := h1
  have h2 : J.val = b + (x 2).val := h2
  have l0 : (x 0).val < 1 := (x 0).isLt
  have l1 : (x 1).val < r := (x 1).isLt
  have l2 : (x 2).val < c := (x 2).isLt
  omega

end Reads

/-! ### Selecting by a row or by a lane -/

/-- `BitVec` words below `4096` are in order as their numbers are. -/
theorem toInt_small (n : ℕ) (hn : n < 4096) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

theorem slt_small (a b : ℕ) (ha : a < 4096) (hb : b < 4096) :
    IntOp.cmpi .slt (BitVec.ofNat 32 a) (BitVec.ofNat 32 b) = if a < b then 1#1 else 0#1 := by
  have : (BitVec.ofNat 32 a).slt (BitVec.ofNat 32 b) = decide (a < b) := by
    rw [BitVec.slt_eq_decide, toInt_small a ha, toInt_small b hb]
    simp
  by_cases h : a < b <;> simp [IntOp.cmpi, this, h]

theorem sge_small (a b : ℕ) (ha : a < 4096) (hb : b < 4096) :
    IntOp.cmpi .sge (BitVec.ofNat 32 a) (BitVec.ofNat 32 b) = if b ≤ a then 1#1 else 0#1 := by
  have : (BitVec.ofNat 32 b).sle (BitVec.ofNat 32 a) = decide (b ≤ a) := by
    rw [BitVec.sle_eq_decide, toInt_small a ha, toInt_small b hb]
    simp
  by_cases h : b ≤ a <;> simp [IntOp.cmpi, this, h]

theorem eq_small (a b : ℕ) (ha : a < 4096) (hb : b < 4096) :
    IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases h : a = b
  · simp [IntOp.cmpi, h]
  · have : (BitVec.ofNat 32 a == BitVec.ofNat 32 b) = false := beq_eq_false_iff_ne.mpr fun h' => h (e.mp h')
    simp [IntOp.cmpi, h, this]

section Sel
variable {α : Type}

/-- A select whose condition depends on the row only. -/
theorem selRow_apply {n : ℕ} (m : IVec S128x1 1) (h : S128x1.ShapeCasts S128x1) (h' : S128x1.Broadcasts (M 128 n)) (a b : (M 128 n).Idx → α) (i : Fin 128) (j : Fin n) :
    select (broadcastTo (M 128 n) (shapeCast S128x1 m h) h') a b (ix2 i j) = Scalar.select (m (ix2 i 0)) (a (ix2 i j)) (b (ix2 i j)) := by
  rw [select_apply, shapeCast_self]
  refine congrArg (fun z => Scalar.select z _ _) (broadcastTo_apply m h' (ix2 i j) (ix2 i 0) fun x => ?_)
  match x with
  | ⟨0, _⟩ => rfl
  | ⟨1, _⟩ => rfl

/-- A select whose condition depends on the lane only. -/
theorem selLane_apply {n : ℕ} (m : IVec S1x128 1) (h : S1x128.ShapeCasts S1x128) (h' : S1x128.Broadcasts (M n 128)) (a b : (M n 128).Idx → α) (i : Fin n) (j : Fin 128) :
    select (broadcastTo (M n 128) (shapeCast S1x128 m h) h') a b (ix2 i j) = Scalar.select (m (ix2 0 j)) (a (ix2 i j)) (b (ix2 i j)) := by
  rw [select_apply, shapeCast_self]
  refine congrArg (fun z => Scalar.select z _ _) (broadcastTo_apply m h' (ix2 i j) (ix2 0 j) fun x => ?_)
  match x with
  | ⟨0, _⟩ => rfl
  | ⟨1, _⟩ => rfl

theorem select_ite (p : Prop) [Decidable p] (a b : α) : Scalar.select (if p then 1#1 else 0#1) a b = if p then a else b := by
  by_cases h : p <;> simp [h, select_one, select_zero]

end Sel

/-- The row's number. -/
abbrev rowNo : IVec S128x1 32 := iota .tc S128x1 32 [0] iota_S128x1_d0_w32
/-- The lane's number. -/
abbrev laneNo : IVec S1x128 32 := iota .tc S1x128 32 [1] iota_S1x128_d1_w32

/-- The rows of head `h` of a pair. -/
def headRows : ℕ → IVec S128x1 1
  | 0 => cmpi .slt rowNo (broadcast S128x1 64#32)
  | _ + 1 => cmpi .sge rowNo (broadcast S128x1 64#32)

/-- Whether row `d` belongs to head `h` of a pair. -/
def ofHead (h d : ℕ) : Prop := if h = 0 then d < 64 else 64 ≤ d

instance (h d : ℕ) : Decidable (ofHead h d) := by unfold ofHead; infer_instance

theorem rowNo_apply (d : Fin 128) : rowNo (ix2 d 0) = BitVec.ofNat 32 d.val := iota_single_apply _ _ _ _ _ _
theorem laneNo_apply (j : Fin 128) : laneNo (ix2 0 j) = BitVec.ofNat 32 j.val := iota_single_apply _ _ _ _ _ _

theorem headRows_apply (h : ℕ) (d : Fin 128) : headRows h (ix2 d 0) = if ofHead h d.val then 1#1 else 0#1 := by
  match h with
  | 0 =>
    show IntOp.cmpi .slt (rowNo (ix2 d 0)) (BitVec.ofNat 32 64) = _
    rw [rowNo_apply, slt_small _ _ (by omega) (by omega)]
    rfl
  | h + 1 =>
    show IntOp.cmpi .sge (rowNo (ix2 d 0)) (BitVec.ofNat 32 64) = _
    rw [rowNo_apply, sge_small _ _ (by omega) (by omega)]
    rfl

/-- Three rows from `lo`. -/
abbrev bandRows (lo : BitVec 32) : IVec S128x1 1 :=
  andi (cmpi .sge rowNo (broadcast S128x1 lo)) (cmpi .slt rowNo (broadcast S128x1 (Scalar.addi lo 3#32)))

/-- Three lanes from `lo`. -/
abbrev bandLanes (lo : BitVec 32) : IVec S1x128 1 :=
  andi (cmpi .sge laneNo (broadcast S1x128 lo)) (cmpi .slt laneNo (broadcast S1x128 (Scalar.addi lo 3#32)))

theorem band_word (j lo : ℕ) (hj : j < 128) (hlo : lo < 128) :
    IntOp.cmpi .sge (BitVec.ofNat 32 j) (BitVec.ofNat 32 lo) &&& IntOp.cmpi .slt (BitVec.ofNat 32 j) (Scalar.addi (BitVec.ofNat 32 lo) 3#32)
      = if lo ≤ j ∧ j < lo + 3 then 1#1 else 0#1 := by
  have e : Scalar.addi (BitVec.ofNat 32 lo) 3#32 = BitVec.ofNat 32 (lo + 3) := (BitVec.ofNat_add lo 3).symm
  rw [e, sge_small _ _ (by omega) (by omega), slt_small _ _ (by omega) (by omega)]
  by_cases h1 : lo ≤ j <;> by_cases h2 : j < lo + 3 <;> simp [h1, h2]

theorem bandRows_apply (lo : ℕ) (hlo : lo < 128) (d : Fin 128) :
    bandRows (BitVec.ofNat 32 lo) (ix2 d 0) = if lo ≤ d.val ∧ d.val < lo + 3 then 1#1 else 0#1 := by
  show IntOp.cmpi .sge (rowNo (ix2 d 0)) (BitVec.ofNat 32 lo) &&& IntOp.cmpi .slt (rowNo (ix2 d 0)) (Scalar.addi (BitVec.ofNat 32 lo) 3#32) = _
  rw [rowNo_apply]
  exact band_word _ _ d.isLt hlo

theorem bandLanes_apply (lo : ℕ) (hlo : lo < 128) (d : Fin 128) :
    bandLanes (BitVec.ofNat 32 lo) (ix2 0 d) = if lo ≤ d.val ∧ d.val < lo + 3 then 1#1 else 0#1 := by
  show IntOp.cmpi .sge (laneNo (ix2 0 d)) (BitVec.ofNat 32 lo) &&& IntOp.cmpi .slt (laneNo (ix2 0 d)) (Scalar.addi (BitVec.ofNat 32 lo) 3#32) = _
  rw [laneNo_apply]
  exact band_word _ _ d.isLt hlo

theorem one_bf16 : (FloatOps.ofBits (F := Ideal) .bf16 16256#16 : EReal) = 1 := by
  exact Ideal.ofBits_one_bf16

theorem zero_bf16 : (FloatOps.ofBits (F := Ideal) .bf16 0#16 : EReal) = 0 := by
  show Ideal.ofBits .bf16 0#16 = 0
  simp [Ideal.ofBits, Ideal.ieee]

/-! ### What is written -/

section Written
variable (arg : Memref sig .tc .vmem S1x2048x256 .bf16) (harg : arg.IsWhole) (arg5 : Memref sig .tc .vmem S1x2048x128 .bf16) (harg5 : arg5.IsWhole)
  (x : Vec Ideal S1x2048x256 .bf16) (cs : Vec Ideal S1x2048x128 .bf16)

/-- The constant one, over a shape. -/
abbrev ones (s : Shape) : s.Idx → Ideal .bf16 := broadcast s (FloatOps.ofBits (F := Ideal) .bf16 16256#16)
/-- The constant zero, over a shape. -/
abbrev zeros (s : Shape) : s.Idx → Ideal .bf16 := broadcast s (FloatOps.ofBits (F := Ideal) .bf16 0#16)

/-- The lanes `o … o + 127` of a block, as a matrix of positions by lanes. -/
abbrev lanesOf (o : ℕ) (ho : o + 128 ≤ 256) : FVec Ideal S2048x128 .bf16 :=
  shapeCast S2048x128 (View.readAt (Elt Ideal) arg.view (Rect.unit (s := S1x2048x256) ![0, 0, o] S1x2048x128.size (inb3 (by omega) (by omega) (by omega))).toLoadRect (harg.unread x) : Vec Ideal S1x2048x128 .bf16) shapeCasts_S1x2048x128_S2048x128

/-- The gates' block, as a matrix of positions by lanes. -/
abbrev gates : FVec Ideal S2048x128 .bf16 :=
  shapeCast S2048x128 (View.readAt (Elt Ideal) arg5.view (Rect.unit (s := S1x2048x128) ![0, 0, 0] S1x2048x128.size (inb3 (by omega) (by omega) (by omega))).toLoadRect (harg5.unread cs) : Vec Ideal S1x2048x128 .bf16) shapeCasts_S1x2048x128_S2048x128

abbrev keyFill (o : ℕ) (ho : o + 128 ≤ 256) : FVec Ideal S1x2048x128 .bf16 :=
  shapeCast S1x2048x128 (lanesOf arg harg x o ho) shapeCasts_S2048x128_S1x2048x128

abbrev keyGates (lo : BitVec 32) : FVec Ideal S1x2048x128 .bf16 :=
  shapeCast S1x2048x128 (select (broadcastTo S2048x128 (shapeCast S1x128 (bandLanes lo) shapeCasts_S1x128_S1x128) broadcasts_S1x128_S2048x128) (ones S2048x128)
    (select (broadcastTo S2048x128 (shapeCast S1x128 (cmpi .slt laneNo (broadcast S1x128 64#32)) shapeCasts_S1x128_S1x128) broadcasts_S1x128_S2048x128)
      (gates arg5 harg5 cs) (zeros S2048x128))) shapeCasts_S2048x128_S1x2048x128

abbrev queryFill (h o : ℕ) (ho : o + 128 ≤ 256) : FVec Ideal S1x128x2048 .bf16 :=
  shapeCast S1x128x2048 (select (broadcastTo S128x2048 (shapeCast S128x1 (headRows h) shapeCasts_S128x1_S128x1) broadcasts_S128x1_S128x2048)
    (transpose S128x2048 [1, 0] (lanesOf arg harg x o ho) transposes_S2048x128_p1_0_S128x2048) (zeros S128x2048)) shapeCasts_S128x2048_S1x128x2048

abbrev queryGates (lo : BitVec 32) : FVec Ideal S1x128x2048 .bf16 :=
  shapeCast S1x128x2048 (select (broadcastTo S128x2048 (shapeCast S128x1 (bandRows lo) shapeCasts_S128x1_S128x1) broadcasts_S128x1_S128x2048) (ones S128x2048)
    (select (broadcastTo S128x2048 (shapeCast S128x1 (headRows 1) shapeCasts_S128x1_S128x1) broadcasts_S128x1_S128x2048)
      (transpose S128x2048 [1, 0] (gates arg5 harg5 cs) transposes_S2048x128_p1_0_S128x2048) (zeros S128x2048))) shapeCasts_S128x2048_S1x128x2048

abbrev valueFill (h sr o : ℕ) (ho : o + 128 ≤ 256) : FVec Ideal S1x128x2048 .bf16 :=
  shapeCast S1x128x2048 (select (broadcastTo S128x2048 (shapeCast S128x1 (cmpi .eq rowNo (broadcast S128x1 (BitVec.ofNat 32 sr))) shapeCasts_S128x1_S128x1) broadcasts_S128x1_S128x2048) (ones S128x2048)
    (select (broadcastTo S128x2048 (shapeCast S128x1 (headRows h) shapeCasts_S128x1_S128x1) broadcasts_S128x1_S128x2048)
      (transpose S128x2048 [1, 0] (lanesOf arg harg x o ho) transposes_S2048x128_p1_0_S128x2048) (zeros S128x2048))) shapeCasts_S128x2048_S1x128x2048

theorem lanesOf_apply (o : ℕ) (ho : o + 128 ≤ 256) (s : Fin 2048) (j : Fin 128) :
    lanesOf arg harg x o ho (ix2 s j) = x (ix3 0 s ⟨o + j.val, by omega⟩) := by
  unfold lanesOf
  rw [shapeCast_1ab_ab_apply, View.readAt_eq_ld, Memref.IsWhole.read_unread]
  refine View.ld_unit_apply_of _ _ _ _ _ _ fun a => ?_
  match a with
  | ⟨0, _⟩ => rfl
  | ⟨1, _⟩ => exact (Nat.zero_add _).symm
  | ⟨2, _⟩ => rfl

theorem gates_apply (s : Fin 2048) (j : Fin 128) : gates arg5 harg5 cs (ix2 s j) = cs (ix3 0 s j) := by
  unfold gates
  rw [shapeCast_1ab_ab_apply, View.readAt_eq_ld, Memref.IsWhole.read_unread]
  refine View.ld_unit_apply_of _ _ _ _ _ _ fun a => ?_
  match a with
  | ⟨0, _⟩ => rfl
  | ⟨1, _⟩ => exact (Nat.zero_add _).symm
  | ⟨2, _⟩ => exact (Nat.zero_add _).symm

theorem keyFill_apply (o : ℕ) (ho : o + 128 ≤ 256) (s : Fin 2048) (j : Fin 128) :
    keyFill arg harg x o ho (ix3 0 s j) = x (ix3 0 s ⟨o + j.val, by omega⟩) := by
  unfold keyFill
  rw [shapeCast_ab_1ab_apply]
  exact lanesOf_apply arg harg x o ho s j

theorem keyGates_apply (lo : ℕ) (hlo : lo < 128) (s : Fin 2048) (j : Fin 128) :
    keyGates arg5 harg5 cs (BitVec.ofNat 32 lo) (ix3 0 s j)
      = if lo ≤ j.val ∧ j.val < lo + 3 then (1 : EReal) else if j.val < 64 then cs (ix3 0 s j) else 0 := by
  unfold keyGates
  rw [shapeCast_ab_1ab_apply]
  refine (selLane_apply _ _ _ _ _ s j).trans ?_
  rw [bandLanes_apply lo hlo, select_ite]
  refine congrArg₂ (ite _) one_bf16 ?_
  refine (selLane_apply _ _ _ _ _ s j).trans ?_
  show Scalar.select (IntOp.cmpi .slt (laneNo (ix2 0 j)) (BitVec.ofNat 32 64)) _ _ = _
  rw [laneNo_apply, slt_small _ _ (by omega) (by omega), select_ite]
  exact congrArg₂ (ite _) (gates_apply arg5 harg5 cs s j) zero_bf16

theorem queryFill_apply (h o : ℕ) (ho : o + 128 ≤ 256) (d : Fin 128) (t : Fin 2048) :
    queryFill arg harg x h o ho (ix3 0 d t) = if ofHead h d.val then x (ix3 0 t ⟨o + d.val, by omega⟩) else (0 : EReal) := by
  unfold queryFill
  rw [shapeCast_ab_1ab_apply]
  refine (selRow_apply _ _ _ _ _ d t).trans ?_
  rw [headRows_apply, select_ite]
  refine congrArg₂ (ite _) ?_ zero_bf16
  exact (transpose_ix2_apply _ _ d t).trans (lanesOf_apply arg harg x o ho t d)

theorem queryGates_apply (lo : ℕ) (hlo : lo < 128) (d : Fin 128) (t : Fin 2048) :
    queryGates arg5 harg5 cs (BitVec.ofNat 32 lo) (ix3 0 d t)
      = if lo ≤ d.val ∧ d.val < lo + 3 then (1 : EReal) else if 64 ≤ d.val then cs (ix3 0 t d) else 0 := by
  unfold queryGates
  rw [shapeCast_ab_1ab_apply]
  refine (selRow_apply _ _ _ _ _ d t).trans ?_
  rw [bandRows_apply lo hlo, select_ite]
  refine congrArg₂ (ite _) one_bf16 ?_
  refine (selRow_apply _ _ _ _ _ d t).trans ?_
  rw [headRows_apply, select_ite]
  exact congrArg₂ (ite _) ((transpose_ix2_apply _ _ d t).trans (gates_apply arg5 harg5 cs t d)) zero_bf16

theorem valueFill_apply (h sr o : ℕ) (hs : sr < 128) (ho : o + 128 ≤ 256) (d : Fin 128) (t : Fin 2048) :
    valueFill arg harg x h sr o ho (ix3 0 d t)
      = if d.val = sr then (1 : EReal) else if ofHead h d.val then x (ix3 0 t ⟨o + d.val, by omega⟩) else 0 := by
  unfold valueFill
  rw [shapeCast_ab_1ab_apply]
  refine (selRow_apply _ _ _ _ _ d t).trans ?_
  show Scalar.select (IntOp.cmpi .eq (rowNo (ix2 d 0)) (BitVec.ofNat 32 sr)) _ _ = _
  rw [rowNo_apply, eq_small _ _ (by omega) (by omega), select_ite]
  refine congrArg₂ (ite _) one_bf16 ?_
  refine (selRow_apply _ _ _ _ _ d t).trans ?_
  rw [headRows_apply, select_ite]
  exact congrArg₂ (ite _) ((transpose_ix2_apply _ _ d t).trans (lanesOf_apply arg harg x o ho t d)) zero_bf16

end Written

/-! ### The three scratches -/

section Scratches
variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x128 .bf16) (harg5 : arg5.IsWhole)
  (x0 x1 x2 : Vec Ideal S1x2048x256 .bf16) (x3 : Vec Ideal S1x2048x128 .bf16)

/-- The number of the step's head `u` among the sixteen. -/
abbrev headNo (i : grid0.Coords) (u : ℕ) : ℕ := 4 * (i 1).val + u

/-- The first of the three gate lanes of a head, as a word. -/
abbrev gateWord (p h : BitVec 32) : BitVec 32 :=
  Scalar.muli 3#32 (Scalar.addi (Scalar.muli 2#32 (Scalar.addi (Scalar.muli 2#32 (BitVec.ofNat 32 (i 1).val)) p)) h)

theorem group_lt : (i 1).val < 4 := (i 1).isLt

theorem gateWord_eq (p h : ℕ) (hp : p < 2) (hh : h < 2) :
    gateWord i (BitVec.ofNat 32 p) (BitVec.ofNat 32 h) = BitVec.ofNat 32 (3 * headNo i (2 * p + h)) := by
  have h4 := group_lt i
  unfold gateWord headNo
  generalize (i 1).val = g at h4
  interval_cases g <;> interval_cases p <;> interval_cases h <;> rfl

theorem keyWord_eq (p h : ℕ) (hp : p < 2) (hh : h < 2) :
    Scalar.addi 64#32 (gateWord i (BitVec.ofNat 32 p) (BitVec.ofNat 32 h)) = BitVec.ofNat 32 (64 + 3 * headNo i (2 * p + h)) := by
  rw [gateWord_eq i p h hp hh]
  exact (BitVec.ofNat_add 64 _).symm

theorem valuePieces_eq : (kernelRun0_A.sl.HS2_4 (F := Ideal) c arg4 harg4 x2 : List (View.Piece (Elt Ideal) S4x128x2048 .bf16)) =
    [⟨Rect.unit ![3, 0, 0] S1x128x2048.size (inb3 (by omega) (by omega) (by omega)), valueFill arg4 harg4 x2 1 0 128 (by omega)⟩,
     ⟨Rect.unit ![2, 0, 0] S1x128x2048.size (inb3 (by omega) (by omega) (by omega)), valueFill arg4 harg4 x2 0 64 128 (by omega)⟩,
     ⟨Rect.unit ![1, 0, 0] S1x128x2048.size (inb3 (by omega) (by omega) (by omega)), valueFill arg4 harg4 x2 1 0 0 (by omega)⟩,
     ⟨Rect.unit ![0, 0, 0] S1x128x2048.size (inb3 (by omega) (by omega) (by omega)), valueFill arg4 harg4 x2 0 64 0 (by omega)⟩] := rfl

theorem keyPieces_eq : (kernelRun0_A.sl.HS1_6 (F := Ideal) c i arg3 harg3 arg5 harg5 x1 x3 : List (View.Piece (Elt Ideal) S2x2048x384 .bf16)) =
    [⟨Rect.unit ![1, 0, 256] S1x2048x128.size (inb3 (by omega) (by omega) (by omega)), keyGates arg5 harg5 x3 (Scalar.addi 64#32 (gateWord i 1#32 1#32))⟩,
     ⟨Rect.unit ![1, 0, 128] S1x2048x128.size (inb3 (by omega) (by omega) (by omega)), keyGates arg5 harg5 x3 (Scalar.addi 64#32 (gateWord i 1#32 0#32))⟩,
     ⟨Rect.unit ![1, 0, 0] S1x2048x128.size (inb3 (by omega) (by omega) (by omega)), keyFill arg3 harg3 x1 128 (by omega)⟩,
     ⟨Rect.unit ![0, 0, 256] S1x2048x128.size (inb3 (by omega) (by omega) (by omega)), keyGates arg5 harg5 x3 (Scalar.addi 64#32 (gateWord i 0#32 1#32))⟩,
     ⟨Rect.unit ![0, 0, 128] S1x2048x128.size (inb3 (by omega) (by omega) (by omega)), keyGates arg5 harg5 x3 (Scalar.addi 64#32 (gateWord i 0#32 0#32))⟩,
     ⟨Rect.unit ![0, 0, 0] S1x2048x128.size (inb3 (by omega) (by omega) (by omega)), keyFill arg3 harg3 x1 0 (by omega)⟩] := rfl

theorem queryPieces_eq : (kernelRun0_A.sl.HS0_8 (F := Ideal) c i arg2 harg2 arg5 harg5 x0 x3 : List (View.Piece (Elt Ideal) S4x256x2048 .bf16)) =
    [⟨Rect.unit ![3, 128, 0] S1x128x2048.size (inb3 (by omega) (by omega) (by omega)), queryGates arg5 harg5 x3 (gateWord i 1#32 1#32)⟩,
     ⟨Rect.unit ![3, 0, 0] S1x128x2048.size (inb3 (by omega) (by omega) (by omega)), queryFill arg2 harg2 x0 1 128 (by omega)⟩,
     ⟨Rect.unit ![2, 128, 0] S1x128x2048.size (inb3 (by omega) (by omega) (by omega)), queryGates arg5 harg5 x3 (gateWord i 1#32 0#32)⟩,
     ⟨Rect.unit ![2, 0, 0] S1x128x2048.size (inb3 (by omega) (by omega) (by omega)), queryFill arg2 harg2 x0 0 128 (by omega)⟩,
     ⟨Rect.unit ![1, 128, 0] S1x128x2048.size (inb3 (by omega) (by omega) (by omega)), queryGates arg5 harg5 x3 (gateWord i 0#32 1#32)⟩,
     ⟨Rect.unit ![1, 0, 0] S1x128x2048.size (inb3 (by omega) (by omega) (by omega)), queryFill arg2 harg2 x0 1 0 (by omega)⟩,
     ⟨Rect.unit ![0, 128, 0] S1x128x2048.size (inb3 (by omega) (by omega) (by omega)), queryGates arg5 harg5 x3 (gateWord i 0#32 0#32)⟩,
     ⟨Rect.unit ![0, 0, 0] S1x128x2048.size (inb3 (by omega) (by omega) (by omega)), queryFill arg2 harg2 x0 0 0 (by omega)⟩] := rfl

/-- Row `sr` holds ones: the row whose product is the sum of the exponentials. -/
abbrev onesRow (h : ℕ) : ℕ := if h = 0 then 64 else 0

theorem values_apply (p h : ℕ) (hp : p < 2) (hh : h < 2) (d : Fin 128) (s : Fin 2048) :
    View.canon (kernelRun0_A.sl.HS2_4 (F := Ideal) c arg4 harg4 x2 : List (View.Piece (Elt Ideal) S4x128x2048 .bf16)) (ix3 ⟨2 * p + h, by omega⟩ d s)
      = if d.val = onesRow h then (1 : EReal) else if ofHead h d.val then x2 (ix3 0 s ⟨128 * p + d.val, by omega⟩) else 0 := by
  rw [valuePieces_eq, ← valueFill_apply arg4 harg4 x2 h (onesRow h) (128 * p) (by unfold onesRow; split <;> omega) (by omega) d s]
  interval_cases p <;> interval_cases h
  all_goals
    repeat refine (canon3_miss _ _ _ _ _ _ (fun hm => by dsimp only at hm; omega)).trans ?_
    exact canon3_hit _ _ _ d s _ _ _ rfl (by simp) (by simp)

theorem keys_apply (p : ℕ) (hp : p < 2) (s : Fin 2048) (j : Fin 128) :
    View.canon (kernelRun0_A.sl.HS1_6 (F := Ideal) c i arg3 harg3 arg5 harg5 x1 x3 : List (View.Piece (Elt Ideal) S2x2048x384 .bf16)) (ix3 ⟨p, hp⟩ s ⟨j.val, by omega⟩)
      = x1 (ix3 0 s ⟨128 * p + j.val, by omega⟩) := by
  rw [keyPieces_eq, ← keyFill_apply arg3 harg3 x1 (128 * p) (by omega) s j]
  interval_cases p
  all_goals
    repeat refine (canon3_miss _ _ _ _ _ _ (fun hm => by dsimp only at hm; omega)).trans ?_
    exact canon3_hit _ _ _ s j _ _ _ rfl (by simp) (by simp)

theorem keysGate_apply (p h : ℕ) (hp : p < 2) (hh : h < 2) (s : Fin 2048) (j : Fin 128) :
    View.canon (kernelRun0_A.sl.HS1_6 (F := Ideal) c i arg3 harg3 arg5 harg5 x1 x3 : List (View.Piece (Elt Ideal) S2x2048x384 .bf16)) (ix3 ⟨p, hp⟩ s ⟨128 * (h + 1) + j.val, by omega⟩)
      = if 64 + 3 * headNo i (2 * p + h) ≤ j.val ∧ j.val < 64 + 3 * headNo i (2 * p + h) + 3 then (1 : EReal) else if j.val < 64 then x3 (ix3 0 s j) else 0 := by
  have hg := group_lt i
  rw [keyPieces_eq, ← keyGates_apply arg5 harg5 x3 _ (by unfold headNo; omega) s j, ← keyWord_eq i p h hp hh]
  interval_cases p <;> interval_cases h
  all_goals
    repeat refine (canon3_miss _ _ _ _ _ _ (fun hm => by dsimp only at hm; omega)).trans ?_
    exact canon3_hit _ _ _ s j _ _ _ rfl (by simp) (by simp)

theorem queries_apply (p h : ℕ) (hp : p < 2) (hh : h < 2) (j : Fin 128) (t : Fin 2048) :
    View.canon (kernelRun0_A.sl.HS0_8 (F := Ideal) c i arg2 harg2 arg5 harg5 x0 x3 : List (View.Piece (Elt Ideal) S4x256x2048 .bf16)) (ix3 ⟨2 * p + h, by omega⟩ ⟨j.val, by omega⟩ t)
      = if ofHead h j.val then x0 (ix3 0 t ⟨128 * p + j.val, by omega⟩) else (0 : EReal) := by
  rw [queryPieces_eq, ← queryFill_apply arg2 harg2 x0 h (128 * p) (by omega) j t]
  interval_cases p <;> interval_cases h
  all_goals
    repeat refine (canon3_miss _ _ _ _ _ _ (fun hm => by dsimp only at hm; omega)).trans ?_
    exact canon3_hit _ _ _ j t _ _ _ rfl (by simp) (by simp)

theorem queriesGate_apply (p h : ℕ) (hp : p < 2) (hh : h < 2) (j : Fin 128) (t : Fin 2048) :
    View.canon (kernelRun0_A.sl.HS0_8 (F := Ideal) c i arg2 harg2 arg5 harg5 x0 x3 : List (View.Piece (Elt Ideal) S4x256x2048 .bf16)) (ix3 ⟨2 * p + h, by omega⟩ ⟨128 + j.val, by omega⟩ t)
      = if 3 * headNo i (2 * p + h) ≤ j.val ∧ j.val < 3 * headNo i (2 * p + h) + 3 then (1 : EReal) else if 64 ≤ j.val then x3 (ix3 0 t j) else 0 := by
  have hg := group_lt i
  rw [queryPieces_eq, ← queryGates_apply arg5 harg5 x3 _ (by unfold headNo; omega) j t, ← gateWord_eq i p h hp hh]
  interval_cases p <;> interval_cases h
  all_goals
    repeat refine (canon3_miss _ _ _ _ _ _ (fun hm => by dsimp only at hm; omega)).trans ?_
    exact canon3_hit _ _ _ j t _ _ _ rfl (by simp) (by simp)

end Scratches

/-! ### The product of a key and a query -/

section Product

/-- Three neighbouring lanes of a row of lanes. -/
theorem sum_band (f : Fin 128 → EReal) (lo : ℕ) (hlo : lo + 3 ≤ 128) :
    (∑ j : Fin 128, if lo ≤ j.val ∧ j.val < lo + 3 then f j else 0) = ∑ e : Fin 3, f ⟨lo + e.val, by omega⟩ := by
  have e : ∀ j : Fin 128, (if lo ≤ j.val ∧ j.val < lo + 3 then f j else 0)
      = ∑ e : Fin 3, if j = (⟨lo + e.val, by omega⟩ : Fin 128) then f j else 0 := fun j => by
    simp only [Fin.sum_univ_three, Fin.ext_iff]
    by_cases h0 : j.val = lo
    · simp [h0]
    · by_cases h1 : j.val = lo + 1
      · simp [h1]
      · by_cases h2 : j.val = lo + 2
        · simp [h2]
        · rw [if_neg (by omega)]
          simp [h0, h1, h2]
  rw [Finset.sum_congr rfl fun j _ => e j, Finset.sum_comm]
  exact Finset.sum_congr rfl fun e _ => by rw [Finset.sum_ite_eq' (Finset.univ)]; simp

/-- The gate lanes of keys and queries: the key's own lanes meet ones, and so do the query's. -/
theorem gate_sum (a b : Fin 128 → EReal) (lo : ℕ) (hlo : lo + 3 ≤ 64) :
    (∑ j : Fin 128, (if 64 + lo ≤ j.val ∧ j.val < 64 + lo + 3 then (1 : EReal) else if j.val < 64 then a j else 0)
        * (if lo ≤ j.val ∧ j.val < lo + 3 then (1 : EReal) else if 64 ≤ j.val then b j else 0))
      = (∑ e : Fin 3, a ⟨lo + e.val, by omega⟩) + ∑ e : Fin 3, b ⟨64 + lo + e.val, by omega⟩ := by
  rw [← sum_band a lo (by omega), ← sum_band b (64 + lo) (by omega), ← Finset.sum_add_distrib]
  refine Finset.sum_congr rfl fun j _ => ?_
  by_cases h : j.val < 64
  · have n1 : ¬ (64 + lo ≤ j.val ∧ j.val < 64 + lo + 3) := by omega
    have n2 : ¬ (64 ≤ j.val) := by omega
    rw [if_neg n1, if_pos h, if_neg n2, if_neg n1, add_zero]
    by_cases h' : lo ≤ j.val ∧ j.val < lo + 3
    · rw [if_pos h', if_pos h', mul_one]
    · rw [if_neg h', if_neg h', mul_zero]
  · have n1 : ¬ (lo ≤ j.val ∧ j.val < lo + 3) := by omega
    have n2 : 64 ≤ j.val := by omega
    rw [if_neg n1, if_neg h, if_pos n2, if_neg n1, zero_add]
    by_cases h' : 64 + lo ≤ j.val ∧ j.val < 64 + lo + 3
    · rw [if_pos h', if_pos h', one_mul]
    · rw [if_neg h', if_neg h', zero_mul]

/-- The lanes of one head of a pair. -/
theorem head_sum (f g : Fin 128 → EReal) (h : ℕ) (hh : h < 2) :
    (∑ j : Fin 128, f j * (if ofHead h j.val then g j else 0)) = ∑ e : Fin 64, f ⟨64 * h + e.val, by omega⟩ * g ⟨64 * h + e.val, by omega⟩ := by
  refine (Fin.sum_univ_add (a := 64) (b := 64) _).trans ?_
  interval_cases h
  · refine (congrArg₂ (· + ·) (Finset.sum_congr rfl fun e _ => ?_) (Finset.sum_eq_zero fun e _ => ?_)).trans (add_zero _)
    · rw [if_pos (show ofHead 0 (Fin.castAdd 64 e : Fin 128).val from e.isLt)]
      simp only [Nat.mul_zero, Nat.zero_add]
      rfl
    · rw [if_neg (show ¬ ofHead 0 (Fin.natAdd 64 e : Fin 128).val from fun h' => by have h' : 64 + e.val < 64 := h'; omega), mul_zero]
  · refine (congrArg₂ (· + ·) (Finset.sum_eq_zero fun e _ => ?_) (Finset.sum_congr rfl fun e _ => ?_)).trans (zero_add _)
    · rw [if_neg (show ¬ ofHead 1 (Fin.castAdd 64 e : Fin 128).val from fun h' => by have h' : 64 ≤ e.val := h'; omega), mul_zero]
    · rw [if_pos (show ofHead 1 (Fin.natAdd 64 e : Fin 128).val from Nat.le_add_right 64 e.val)]
      rfl

variable (c : Dev nD) (i : grid0.Coords)
  (arg2 : Memref sig .tc .vmem S1x2048x256 .bf16) (harg2 : arg2.IsWhole) (arg3 : Memref sig .tc .vmem S1x2048x256 .bf16) (harg3 : arg3.IsWhole)
  (arg5 : Memref sig .tc .vmem S1x2048x128 .bf16) (harg5 : arg5.IsWhole)
  (x0 x1 : Vec Ideal S1x2048x256 .bf16) (x3 : Vec Ideal S1x2048x128 .bf16)

/-- The score of key `s` and query `t` for head `u` of the step whose group is `g`: the product over the head's 64
lanes, and the gates of the key and of the query. -/
def blockDot (g : ℕ) (hg : g < 4) (u : ℕ) (hu : u < 4) (s t : Fin 2048) : EReal :=
  (∑ e : Fin 64, x1 (ix3 0 s ⟨64 * u + e.val, by omega⟩) * x0 (ix3 0 t ⟨64 * u + e.val, by omega⟩))
    + ((∑ e : Fin 3, x3 (ix3 0 s ⟨3 * (4 * g + u) + e.val, by omega⟩)) + ∑ e : Fin 3, x3 (ix3 0 t ⟨64 + 3 * (4 * g + u) + e.val, by omega⟩))

theorem dotKQ_eq (p h : ℕ) (hp : p < 2) (hh : h < 2) (s t : Fin 2048) :
    dotKQ (kernelRun0_A.sl.HS0_8 (F := Ideal) c i arg2 harg2 arg5 harg5 x0 x3) (kernelRun0_A.sl.HS1_6 (F := Ideal) c i arg3 harg3 arg5 harg5 x1 x3)
      (2 * p + h) p (128 * (h + 1)) (by omega) hp (by omega) s t = blockDot x0 x1 x3 (i 1).val (group_lt i) (2 * p + h) (by omega) s t := by
  have hg := group_lt i
  unfold dotKQ blockDot
  refine congrArg₂ (· + ·) ?_ ?_
  · refine (Finset.sum_congr rfl fun j _ => congrArg₂ (· * ·) (keys_apply c i arg3 harg3 arg5 harg5 x1 x3 p hp s j) (queries_apply c i arg2 harg2 arg5 harg5 x0 x3 p h hp hh j t)).trans ?_
    refine (head_sum (fun j => x1 (ix3 0 s ⟨128 * p + j.val, by omega⟩)) (fun j => x0 (ix3 0 t ⟨128 * p + j.val, by omega⟩)) h hh).trans ?_
    refine Finset.sum_congr rfl fun e _ => ?_
    have : 128 * p + (64 * h + e.val) = 64 * (2 * p + h) + e.val := by omega
    simp only [this]
  · refine (Finset.sum_congr rfl fun j _ => congrArg₂ (· * ·) (keysGate_apply c i arg3 harg3 arg5 harg5 x1 x3 p h hp hh s j) (queriesGate_apply c i arg2 harg2 arg5 harg5 x0 x3 p h hp hh j t)).trans ?_
    exact gate_sum (fun j => x3 (ix3 0 s j)) (fun j => x3 (ix3 0 t j)) (3 * headNo i (2 * p + h)) (by unfold headNo; omega)

end Product

end Cert.KernelIdeal.Val
-- ==== Proof.Tiles.lean ====
module

public import proofs.«01_k».proof.Proof.Fills

/-!
One grid step: the block of the result that it writes, as a function of its four input blocks.
-/

@[expose] public section
set_option maxRecDepth 16384
noncomputable section
namespace Cert.KernelIdeal.Val
open Cert.KernelIdeal Cert.KernelIdeal.Gen Idealize.ShloMosaic.TcCoe Idealize.SL.Sem
open Idealize.ShloMosaic hiding ix0 ix1 ix2 ix3 ix4 ix5 eq_ix1 eq_ix2 eq_ix3 eq_ix4 mulf_apply addf_apply subf_apply divf_apply maximumf_apply truncf_apply extf_apply constant_apply sum_idx2
open Idealize.ShloMosaic.ValueIdx

/-! ### The block of the result -/

section Block
variable (x0 x1 x2 : Vec Ideal S1x2048x256 .bf16) (x3 : Vec Ideal S1x2048x128 .bf16) (g : ℕ) (hg : g < 4) (u : ℕ) (hu : u < 4)

/-- The masked score. -/
def blockScore (s t : Fin 2048) : EReal := if s.val ≤ t.val then blockDot x0 x1 x3 g hg u hu s t else ⊥

/-- The greatest score of a query. -/
def blockMax (t : Fin 2048) : EReal := Finset.univ.sup fun s => blockScore x0 x1 x3 g hg u hu s t

/-- The weight of key `s` for query `t`, before the division. -/
def blockExp (s t : Fin 2048) : EReal := Ideal.exp2 (blockScore x0 x1 x3 g hg u hu s t - blockMax x0 x1 x3 g hg u hu t)

/-- The result of head `u` for query `t` at lane `l`. -/
def blockAttn (t : Fin 2048) (l : Fin 256) : EReal :=
  Ideal.div (∑ s : Fin 2048, x2 (ix3 0 s l) * blockExp x0 x1 x3 g hg u hu s t) (∑ s : Fin 2048, blockExp x0 x1 x3 g hg u hu s t)

theorem blockExp_of_lt (s t : Fin 2048) (h : t.val < s.val) : blockExp x0 x1 x3 g hg u hu s t = 0 := by
  unfold blockExp blockScore
  rw [if_neg (by omega), EReal.bot_sub]
  rfl

end Block

/-- The block of the result. -/
def blockOut (x0 x1 x2 : Vec Ideal S1x2048x256 .bf16) (x3 : Vec Ideal S1x2048x128 .bf16) (g : ℕ) (hg : g < 4) (y : S1x2048x256.Idx) : EReal :=
  blockAttn x0 x1 x2 x3 g hg ((y 2).val / 64) (by have : (y 2).val < 256 := (y 2).isLt; omega) (y 1) (y 2)

/-- A sum over the first `n` of `2048` numbers is the whole sum when the rest vanishes. -/
theorem sum_first (F : Fin 2048 → EReal) (n : ℕ) (hn : n ≤ 2048) (h : ∀ s : Fin 2048, n ≤ s.val → F s = 0) :
    (∑ s : Fin n, F ⟨s.val, by omega⟩) = ∑ s : Fin 2048, F s := by
  let F' : ℕ → EReal := fun s => if h : s < 2048 then F ⟨s, h⟩ else 0
  have e : ∀ s : Fin 2048, F s = F' s.val := fun s => by
    show F s = dite _ _ _
    rw [dif_pos s.isLt]
  have e' : ∀ s : Fin n, F ⟨s.val, by omega⟩ = F' s.val := fun s => e _
  rw [Finset.sum_congr rfl fun s _ => e s, Finset.sum_congr rfl fun s _ => e' s, Fin.sum_univ_eq_sum_range, Fin.sum_univ_eq_sum_range]
  refine Finset.sum_subset (Finset.range_subset_range.mpr hn) fun s hs hs' => ?_
  have h1 : s < 2048 := Finset.mem_range.mp hs
  have h2 : ¬ s < n := fun h => hs' (Finset.mem_range.mpr h)
  exact (e ⟨s, h1⟩).symm.trans (h ⟨s, h1⟩ (by show n ≤ s; omega))

/-- The product of unit `(p, i, h)` of a grid step, from what the three filled scratches hold, over any earlier
contents of the unit's two buffers. -/
abbrev pvAt (a7 : View sig .tc .vmem S4x256x2048 .bf16) (a8 : View sig .tc .vmem S2x2048x384 .bf16)
  (a9 : View sig .tc .vmem S4x128x2048 .bf16) (aS : View sig .tc .vmem S2048x256 .f32)
  (aP : View sig .tc .vmem S2048x256 .bf16)
  (LQ : List (View.Piece (Elt Ideal) S4x256x2048 .bf16)) (LK : List (View.Piece (Elt Ideal) S2x2048x384 .bf16))
  (LV : List (View.Piece (Elt Ideal) S4x128x2048 .bf16)) (oS : List SPiece) (oP : List PPiece)
  (p i h : ℕ) (hp : p < 2) (hi : i < 8) (hh : h < 2) : FVec Ideal S128x256 .f32 :=
  pv a9 aP LV (expPieces aS (scores a7 a8 aS LQ LK oS (2 * i + 1) (2 * p + h) p (128 * (h + 1)) (256 * i) (by omega) (by omega) hp (by omega) (by omega))
    (maxRow aS (scores a7 a8 aS LQ LK oS (2 * i + 1) (2 * p + h) p (128 * (h + 1)) (256 * i) (by omega) (by omega) hp (by omega) (by omega)) (2 * i + 1)) oP
    (2 * i + 1 + 1)) (2 * i + 1) (2 * p + h) (by omega) (by omega)

section Step
variable {x0 x1 x2 : Vec Ideal S1x2048x256 .bf16} {x3 : Vec Ideal S1x2048x128 .bf16} {g : ℕ} {hg : g < 4}
  {a7 : View sig .tc .vmem S4x256x2048 .bf16} {a8 : View sig .tc .vmem S2x2048x384 .bf16} {a9 : View sig .tc .vmem S4x128x2048 .bf16}
  {LQ : List (View.Piece (Elt Ideal) S4x256x2048 .bf16)} {LK : List (View.Piece (Elt Ideal) S2x2048x384 .bf16)}
  {LV : List (View.Piece (Elt Ideal) S4x128x2048 .bf16)}

/-- A unit's product, from what the filled scratches hold. -/
theorem pvAt_apply
    (hQK : ∀ (p h : ℕ) (hp : p < 2) (hh : h < 2) (s t : Fin 2048),
      dotKQ LQ LK (2 * p + h) p (128 * (h + 1)) (by omega) hp (by omega) s t = blockDot x0 x1 x3 g hg (2 * p + h) (by omega) s t)
    (hV : ∀ (p h : ℕ) (hp : p < 2) (hh : h < 2) (d : Fin 128) (s : Fin 2048), View.canon LV (ix3 ⟨2 * p + h, by omega⟩ d s)
      = if d.val = onesRow h then (1 : EReal) else if ofHead h d.val then x2 (ix3 0 s ⟨128 * p + d.val, by omega⟩) else 0)
    (aS : View sig .tc .vmem S2048x256 .f32) (aP : View sig .tc .vmem S2048x256 .bf16) (oS : List SPiece) (oP : List PPiece)
    (p i h : ℕ) (hp : p < 2) (hi : i < 8) (hh : h < 2) (d : Fin 128) (t : Fin 256) :
    pvAt a7 a8 a9 aS aP LQ LK LV oS oP p i h hp hi hh (ix2 d t)
      = ∑ s : Fin 2048, (if d.val = onesRow h then (1 : EReal) else if ofHead h d.val then x2 (ix3 0 s ⟨128 * p + d.val, by omega⟩) else 0)
          * blockExp x0 x1 x3 g hg (2 * p + h) (by omega) s ⟨256 * i + t.val, by omega⟩ := by
  have hS : ∀ s : Fin 2048, s.val < keys (2 * i + 1) →
      View.canon (scores a7 a8 aS LQ LK oS (2 * i + 1) (2 * p + h) p (128 * (h + 1)) (256 * i) (by omega) (by omega) hp (by omega) (by omega)) (ix2 s t)
        = blockScore x0 x1 x3 g hg (2 * p + h) (by omega) s ⟨256 * i + t.val, by omega⟩ := fun s hs => by
    rw [scores_apply a7 a8 aS LQ LK oS (2 * i + 1) (2 * p + h) p (128 * (h + 1)) (256 * i) _ _ hp _ _ (by unfold keys; omega) s hs t]
    unfold scoreKQ blockScore
    rw [hQK p h hp hh]
  have hM : maxRow aS (scores a7 a8 aS LQ LK oS (2 * i + 1) (2 * p + h) p (128 * (h + 1)) (256 * i) (by omega) (by omega) hp (by omega) (by omega)) (2 * i + 1) (ix2 0 t)
      = blockMax x0 x1 x3 g hg (2 * p + h) (by omega) ⟨256 * i + t.val, by omega⟩ := by
    refine eq_of_forall_ge_iff fun z => (maxRow_le _ _ _ (by omega) t z).trans (Iff.trans ?_ Finset.sup_le_iff.symm)
    constructor
    · intro hz s _
      by_cases hs : s.val < keys (2 * i + 1)
      · exact (hS s hs).symm.le.trans (hz s hs)
      · refine le_trans (le_of_eq ?_) bot_le
        unfold blockScore
        rw [if_neg]
        unfold keys at hs
        show ¬ s.val ≤ 256 * i + t.val
        omega
    · intro hz s hs
      exact (hS s hs).le.trans (hz s (Finset.mem_univ s))
  refine (pv_apply a9 aP LV _ (2 * i + 1) (2 * p + h) (by omega) (by omega) d t).trans ?_
  refine (Finset.sum_congr rfl fun s _ => ?_).trans (sum_first _ (keys (2 * i + 1)) (by unfold keys; omega) fun s hs => ?_)
  · refine congrArg₂ (· * ·) (hV p h hp hh d _) ?_
    have hs : s.val < 128 * (2 * i + 1 + 1) := s.isLt
    refine (expPieces_apply aS _ _ oP _ t (2 * i + 1 + 1) (by omega) hs).trans ?_
    rw [hM, hS _ hs]
    rfl
  · refine (congrArg _ (blockExp_of_lt x0 x1 x3 g hg (2 * p + h) _ s _ ?_)).trans (mul_zero _)
    unfold keys at hs
    show 256 * i + t.val < s.val
    omega

/-- A unit's quotient: the product at a row of its head over the product at the row of ones. -/
theorem head_apply
    (hQK : ∀ (p h : ℕ) (hp : p < 2) (hh : h < 2) (s t : Fin 2048),
      dotKQ LQ LK (2 * p + h) p (128 * (h + 1)) (by omega) hp (by omega) s t = blockDot x0 x1 x3 g hg (2 * p + h) (by omega) s t)
    (hV : ∀ (p h : ℕ) (hp : p < 2) (hh : h < 2) (d : Fin 128) (s : Fin 2048), View.canon LV (ix3 ⟨2 * p + h, by omega⟩ d s)
      = if d.val = onesRow h then (1 : EReal) else if ofHead h d.val then x2 (ix3 0 s ⟨128 * p + d.val, by omega⟩) else 0)
    (aS : View sig .tc .vmem S2048x256 .f32) (aP : View sig .tc .vmem S2048x256 .bf16) (oS : List SPiece) (oP : List PPiece)
    (p i h sr : ℕ) (hp : p < 2) (hi : i < 8) (hh : h < 2) (hs : sr = onesRow h) (hs' : sr < 128) (d : Fin 128) (hd : ofHead h d.val) (t : Fin 256) :
    quot (pvAt a7 a8 a9 aS aP LQ LK LV oS oP p i h hp hi hh) sr hs' (ix2 d t)
      = blockAttn x0 x1 x2 x3 g hg (2 * p + h) (by omega) ⟨256 * i + t.val, by omega⟩ ⟨128 * p + d.val, by omega⟩ := by
  have hn : ¬ d.val = onesRow h := by
    unfold ofHead at hd
    unfold onesRow
    split at hd <;> rename_i hz <;> simp only [hz, if_true, if_false] <;> omega
  rw [quot_apply, pvAt_apply hQK hV, pvAt_apply hQK hV]
  unfold blockAttn
  refine congrArg₂ Ideal.div (Finset.sum_congr rfl fun s _ => ?_) (Finset.sum_congr rfl fun s _ => ?_)
  · rw [if_neg hn, if_pos hd]
  · rw [if_pos (show (⟨sr, hs'⟩ : Fin 128).val = onesRow h from hs), one_mul]

/-- A tile of the result, from what the filled scratches hold. -/
theorem tile_apply
    (hQK : ∀ (p h : ℕ) (hp : p < 2) (hh : h < 2) (s t : Fin 2048),
      dotKQ LQ LK (2 * p + h) p (128 * (h + 1)) (by omega) hp (by omega) s t = blockDot x0 x1 x3 g hg (2 * p + h) (by omega) s t)
    (hV : ∀ (p h : ℕ) (hp : p < 2) (hh : h < 2) (d : Fin 128) (s : Fin 2048), View.canon LV (ix3 ⟨2 * p + h, by omega⟩ d s)
      = if d.val = onesRow h then (1 : EReal) else if ofHead h d.val then x2 (ix3 0 s ⟨128 * p + d.val, by omega⟩) else 0)
    (aS0 aS1 : View sig .tc .vmem S2048x256 .f32) (aP0 aP1 : View sig .tc .vmem S2048x256 .bf16)
    (p i : ℕ) (hp : p < 2) (hi : i < 8) (A B : FVec Ideal S128x256 .f32)
    (hA : ∃ oS oP, A = pvAt a7 a8 a9 aS0 aP0 LQ LK LV oS oP p i 0 hp hi (by omega))
    (hB : ∃ oS oP, B = pvAt a7 a8 a9 aS1 aP1 LQ LK LV oS oP p i 1 hp hi (by omega)) (x : S1x256x128.Idx) :
    tile (quot A 64 (by omega)) (quot B 0 (by omega)) x
      = blockOut x0 x1 x2 x3 g hg ((Rect.unit (s := S1x2048x256) ![0, 256 * i, 128 * p] (T 256 128).size (inb3 (by omega) (by omega) (by omega))).emb x) := by
  obtain ⟨oS0, oP0, rfl⟩ := hA
  obtain ⟨oS1, oP1, rfl⟩ := hB
  obtain ⟨t, d, rfl⟩ : ∃ (t : Fin 256) (d : Fin 128), x = ix3 (0 : Fin 1) t d :=
    ⟨x 1, x 2, funext fun a => match a with
      | ⟨0, _⟩ => Subsingleton.elim (α := Fin 1) _ _
      | ⟨1, _⟩ => rfl
      | ⟨2, _⟩ => rfl⟩
  have ht : t.val < 256 := t.isLt
  have hd : d.val < 128 := d.isLt
  have hy : (Rect.unit (s := S1x2048x256) ![0, 256 * i, 128 * p] (T 256 128).size (inb3 (by omega) (by omega) (by omega))).emb (ix3 0 t d)
      = ix3 0 ⟨256 * i + t.val, by omega⟩ ⟨128 * p + d.val, by omega⟩ := funext fun a => Fin.ext <| by
    match a with
    | ⟨0, _⟩ => exact Rect.idx_unit_val (s := S1x2048x256) ![0, 256 * i, 128 * p] (T 256 128).size (inb3 (by omega) (by omega) (by omega)) (ix3 0 t d) 0
    | ⟨1, _⟩ => exact Rect.idx_unit_val (s := S1x2048x256) ![0, 256 * i, 128 * p] (T 256 128).size (inb3 (by omega) (by omega) (by omega)) (ix3 0 t d) 1
    | ⟨2, _⟩ => exact Rect.idx_unit_val (s := S1x2048x256) ![0, 256 * i, 128 * p] (T 256 128).size (inb3 (by omega) (by omega) (by omega)) (ix3 0 t d) 2
  rw [hy]
  unfold tile
  rw [shapeCast_ab_1ab_apply, truncf_apply]
  refine (transpose_ix2_apply _ _ t d).trans ?_
  refine (selRow_apply _ _ _ _ _ d t).trans ?_
  show Scalar.select (headRows 0 (ix2 d 0)) _ _ = _
  rw [headRows_apply, select_ite]
  show _ = blockAttn x0 x1 x2 x3 g hg ((128 * p + d.val) / 64) (by omega) ⟨256 * i + t.val, by omega⟩ ⟨128 * p + d.val, by omega⟩
  by_cases h : d.val < 64
  · rw [if_pos (show ofHead 0 d.val from h)]
    have e : (128 * p + d.val) / 64 = 2 * p + 0 := by omega
    simp only [e]
    exact head_apply hQK hV aS0 aP0 oS0 oP0 p i 0 64 hp hi (by omega) rfl (by omega) d h t
  · rw [if_neg (show ¬ ofHead 0 d.val from h)]
    have e : (128 * p + d.val) / 64 = 2 * p + 1 := by omega
    simp only [e]
    exact head_apply hQK hV aS1 aP1 oS1 oP1 p i 1 0 hp hi (by omega) rfl (by omega) d (show 64 ≤ d.val by omega) t

end Step

/-- What grid point `t` leaves in the result's block: the attention of its four heads. -/
theorem outsAt0_eq (m : (ℓ : Loc nD τ sig) → Buf (Elt Ideal) ℓ) (c : Dev nD) (t : Fin cfg0.N) (y : S1x2048x256.Idx) :
    outsAt0 m c t y = blockOut (iblk m c 0 t) (iblk m c 1 t) (iblk m c 2 t) (iblk m c 3 t) (grid0.coords t 1).val (group_lt _) y := by
  unfold outsAt0 out0_A_4
  rw [View.read_writes_eq_canon _ _ _ (cover0_A_4 c _ _ _ _ _ _ _ _ _ _ _ _ _ _ _ _ _ _ _ _ _ _ _ _ _ _ _ _ _ _ _ _ _ _ _ _ _)]
  have hc := cover0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) y
  have hQK := dotKQ_eq c (grid0.coords t) (ms0_0 t) (hs0_0 t) (ms0_1 t) (hs0_1 t) (ms0_3 t) (hs0_3 t) (iblk m c 0 t) (iblk m c 1 t) (iblk m c 3 t)
  have hV := values_apply c (ms0_2 t) (hs0_2 t) (iblk m c 2 t)
  have HO := tile_apply (a7 := scM0_0.view) (a8 := scM0_1.view) (a9 := scM0_2.view) hQK hV scM0_5.view scM0_6.view scM0_9.view scM0_10.view
  have HE := tile_apply (a7 := scM0_0.view) (a8 := scM0_1.view) (a9 := scM0_2.view) hQK hV scM0_3.view scM0_4.view scM0_7.view scM0_8.view
  refine View.canon_apply_of_pieces (Val := Elt Ideal) (S := S1x2048x256) (e := .bf16) (blockOut (iblk m c 0 t) (iblk m c 1 t) (iblk m c 2 t) (iblk m c 3 t) (grid0.coords t 1).val (group_lt _)) _ (View.PiecesOf.mem ?_) y hc
  unfold kernelRun0_A
  dsimp only
  refine ⟨?_, ?_, ?_, ?_, ?_, ?_, ?_, ?_, ?_, ?_, ?_, ?_, ?_, ?_, ?_, ?_, trivial⟩
  · refine HO 1 7 (by omega) (by omega) _ _ ?_ ?_ <;> exact ⟨_, _, rfl⟩
  · refine HE 1 6 (by omega) (by omega) _ _ ?_ ?_ <;> exact ⟨_, _, rfl⟩
  · refine HO 1 5 (by omega) (by omega) _ _ ?_ ?_ <;> exact ⟨_, _, rfl⟩
  · refine HE 1 4 (by omega) (by omega) _ _ ?_ ?_ <;> exact ⟨_, _, rfl⟩
  · refine HO 1 3 (by omega) (by omega) _ _ ?_ ?_ <;> exact ⟨_, _, rfl⟩
  · refine HE 1 2 (by omega) (by omega) _ _ ?_ ?_ <;> exact ⟨_, _, rfl⟩
  · refine HO 1 1 (by omega) (by omega) _ _ ?_ ?_ <;> exact ⟨_, _, rfl⟩
  · refine HE 1 0 (by omega) (by omega) _ _ ?_ ?_ <;> exact ⟨_, _, rfl⟩
  · refine HO 0 7 (by omega) (by omega) _ _ ?_ ?_ <;> exact ⟨_, _, rfl⟩
  · refine HE 0 6 (by omega) (by omega) _ _ ?_ ?_ <;> exact ⟨_, _, rfl⟩
  · refine HO 0 5 (by omega) (by omega) _ _ ?_ ?_ <;> exact ⟨_, _, rfl⟩
  · refine HE 0 4 (by omega) (by omega) _ _ ?_ ?_ <;> exact ⟨_, _, rfl⟩
  · refine HO 0 3 (by omega) (by omega) _ _ ?_ ?_ <;> exact ⟨_, _, rfl⟩
  · refine HE 0 2 (by omega) (by omega) _ _ ?_ ?_ <;> exact ⟨_, _, rfl⟩
  · refine HO 0 1 (by omega) (by omega) _ _ ?_ ?_ <;> exact ⟨_, _, rfl⟩
  · refine HE 0 0 (by omega) (by omega) _ _ ?_ ?_ <;> exact ⟨_, _, rfl⟩

end Cert.KernelIdeal.Val
-- ==== Proof.Softmax.lean ====
module

public import Idealize.ShloMosaic.PureOps.Ideal
public import Mathlib.Analysis.SpecialFunctions.Pow.Real

/-!
Two spellings of a masked softmax average agree on the extended reals: exponentials to base two of scores scaled
by `1 / ln 2`, divided at the end, and natural exponentials, each divided first. The scores are real where the
mask holds and `-∞` elsewhere; the values averaged are arbitrary.
-/

@[expose] public section
noncomputable section
namespace Cert.Softmax
open Idealize.ShloMosaic

/-- The weighted mean of `v` under the softmax to base two of the scores `S`, the division last. -/
def soft2 {n : ℕ} (S v : Fin n → EReal) : EReal :=
  Ideal.div (∑ s : Fin n, v s * Ideal.exp2 (S s - Finset.univ.sup S)) (∑ s : Fin n, Ideal.exp2 (S s - Finset.univ.sup S))

/-- The weighted mean of `v` under the softmax of the scores `S`, each weight divided first. -/
def softE {n : ℕ} (S v : Fin n → EReal) : EReal :=
  ∑ s : Fin n, Ideal.div (Ideal.exp (S s - Finset.univ.sup S)) (∑ r : Fin n, Ideal.exp (S r - Finset.univ.sup S)) * v s

theorem coe_sum {ι : Type} (T : Finset ι) (e : ι → ℝ) : (∑ s ∈ T, (e s : EReal)) = ((∑ s ∈ T, e s : ℝ) : EReal) := by
  classical
  induction T using Finset.induction_on with
  | empty => simp
  | insert a T ha ih => rw [Finset.sum_insert ha, Finset.sum_insert ha, ih, EReal.coe_add]

section
variable {n : ℕ} (P : Fin n → Prop) [DecidablePred P] (L : Fin n → ℝ)

/-- A real score where the mask holds, `-∞` elsewhere. -/
def masked (s : Fin n) : EReal := if P s then (L s : EReal) else ⊥

theorem sup_masked (hP : ∃ s, P s) : ∃ s₀, P s₀ ∧ (∀ s, P s → L s ≤ L s₀) ∧ Finset.univ.sup (masked P L) = (L s₀ : EReal) := by
  obtain ⟨s₁, h₁⟩ := hP
  obtain ⟨s₀, h₀, hmax⟩ := (Finset.univ.filter P).exists_max_image L ⟨s₁, by simpa using h₁⟩
  have h₀' : P s₀ := (Finset.mem_filter.mp h₀).2
  have hmax' : ∀ s, P s → L s ≤ L s₀ := fun s hs => hmax s (by simpa using hs)
  refine ⟨s₀, h₀', hmax', le_antisymm (Finset.sup_le fun s _ => ?_) ?_⟩
  · unfold masked
    split
    · exact EReal.coe_le_coe_iff.mpr (hmax' s ‹_›)
    · exact bot_le
  · have := Finset.le_sup (f := masked P L) (Finset.mem_univ s₀)
    rwa [masked, if_pos h₀'] at this

/-- Dividing a sum of products by a positive real divides each weight. -/
theorem div_sum_mul (v : Fin n → EReal) (e : Fin n → ℝ) (he : ∀ s, 0 ≤ e s) (z : ℝ) (hz : 0 < z) :
    Ideal.div (∑ s, v s * (e s : EReal)) (z : EReal) = ∑ s, Ideal.div (e s : EReal) (z : EReal) * v s := by
  have hz' : ((z : ℝ) : EReal) ≠ 0 := by exact_mod_cast hz.ne'
  have hinv : ((z : ℝ) : EReal)⁻¹ = ((z⁻¹ : ℝ) : EReal) := (EReal.coe_inv z).symm
  have h0 : (0 : EReal) ≤ ((z⁻¹ : ℝ) : EReal) := by exact_mod_cast (inv_pos.mpr hz).le
  have hsum : ∀ T : Finset (Fin n), (∑ s ∈ T, v s * (e s : EReal)) * ((z⁻¹ : ℝ) : EReal) = ∑ s ∈ T, v s * (e s : EReal) * ((z⁻¹ : ℝ) : EReal) := fun T => by
    induction T using Finset.induction_on with
    | empty => simp
    | insert a T ha ih =>
      rw [Finset.sum_insert ha, Finset.sum_insert ha, EReal.right_distrib_of_nonneg_of_ne_top h0 (EReal.coe_ne_top _), ih]
  unfold Ideal.div
  simp only [if_neg hz', hinv]
  rw [hsum]
  refine Finset.sum_congr rfl fun s _ => ?_
  rw [mul_comm (v s), mul_assoc, mul_assoc, mul_comm (v s)]

/-- The two spellings agree. -/
theorem soft2_eq (κ : ℝ) (hκ : 0 < κ) (h2 : ∀ x : ℝ, Real.rpow 2 (κ * x) = Real.exp x) (hP : ∃ s, P s) (v : Fin n → EReal) :
    soft2 (masked P fun s => κ * L s) v = softE (masked P L) v := by
  obtain ⟨s₀, h₀, hmax, hsup⟩ := sup_masked P L hP
  obtain ⟨s₁, h₁, hmax₁, hsup₁⟩ := sup_masked P (fun s => κ * L s) hP
  have hs : κ * L s₁ = κ * L s₀ := le_antisymm (mul_le_mul_of_nonneg_left (hmax s₁ h₁) hκ.le) (hmax₁ s₀ h₀)
  let e : Fin n → ℝ := fun s => if P s then Real.exp (L s - L s₀) else 0
  have he : ∀ s, 0 ≤ e s := fun s => by
    show 0 ≤ ite _ _ _
    split
    · exact (Real.exp_pos _).le
    · exact le_rfl
  have hE : ∀ s, Ideal.exp (masked P L s - (L s₀ : EReal)) = (e s : EReal) := fun s => by
    show _ = ((ite _ _ _ : ℝ) : EReal)
    unfold masked
    split
    · rw [← EReal.coe_sub]; rfl
    · rw [EReal.bot_sub]; rfl
  have hE2 : ∀ s, Ideal.exp2 (masked P (fun s => κ * L s) s - ((κ * L s₀ : ℝ) : EReal)) = (e s : EReal) := fun s => by
    show _ = ((ite _ _ _ : ℝ) : EReal)
    unfold masked
    split
    · rw [← EReal.coe_sub, ← mul_sub]
      exact (Ideal.exp2_coe _).trans (by rw [h2])
    · rw [EReal.bot_sub]; rfl
  have hz : 0 < ∑ s, e s := Finset.sum_pos' (fun s _ => he s) ⟨s₀, Finset.mem_univ _, by
    show 0 < ite _ _ _
    rw [if_pos h₀]
    exact Real.exp_pos _⟩
  unfold soft2 softE
  rw [hsup, hsup₁, hs]
  simp only [hE, hE2]
  rw [coe_sum]
  exact div_sum_mul v e he _ hz

end
end Cert.Softmax
-- ==== Proof.Arrays.lean ====
module

public import proofs.«01_k».proof.Proof.Tiles
public import proofs.«01_k».proof.Proof.Softmax
public import proofs.«01_k».proof.Proof.Gen.KernelIdeal.Value

/-!
The whole result of the launch, from the arrays that the launch reads.
-/

@[expose] public section
set_option maxRecDepth 16384
noncomputable section
namespace Cert.KernelIdeal.Val
open Cert.KernelIdeal Cert.KernelIdeal.Gen Idealize.ShloMosaic.TcCoe Idealize.SL.Sem
open Idealize.ShloMosaic hiding ix0 ix1 ix2 ix3 ix4 ix5 eq_ix1 eq_ix2 eq_ix3 eq_ix4 mulf_apply addf_apply subf_apply divf_apply maximumf_apply truncf_apply extf_apply constant_apply sum_idx2
open Idealize.ShloMosaic.ValueIdx
open Cert

variable (m : (ℓ : Loc nD τ sig) → Buf (Elt Ideal) ℓ) (c : Dev nD)

section Arrays
variable (q k v : Vec Ideal S8x2048x1024 .bf16) (cs : Vec Ideal S8x2048x128 .bf16)

/-- The masked score of key `s` for query `t` in head `h` of batch `b`. -/
def attnScore (b : Fin 8) (h : ℕ) (hh : h < 16) (t s : Fin 2048) : EReal :=
  if s.val ≤ t.val then
    (∑ e : Fin 64, k (ix3 b s ⟨64 * h + e.val, by omega⟩) * q (ix3 b t ⟨64 * h + e.val, by omega⟩))
      + ((∑ e : Fin 3, cs (ix3 b s ⟨3 * h + e.val, by omega⟩)) + ∑ e : Fin 3, cs (ix3 b t ⟨64 + 3 * h + e.val, by omega⟩))
  else ⊥

theorem head_lt (y : S8x2048x1024.Idx) : (y 2).val / 64 < 16 := by
  have : (y 2).val < 1024 := (y 2).isLt
  omega

/-- The result of the attention. -/
def attnOut (y : S8x2048x1024.Idx) : EReal :=
  Softmax.soft2 (attnScore q k cs (y 0) ((y 2).val / 64) (head_lt y) (y 1)) fun s => v (ix3 (y 0) s (y 2))

end Arrays

/-- The batch of a grid step. -/
def batch (i : grid0.Coords) : Fin 8 := ⟨(i 0).val, (i 0).isLt⟩

theorem word_toNat (n : ℕ) (h : n < 8) : (BitVec.ofNat 32 n).toNat = n := by
  rw [BitVec.toNat_ofNat]
  omega

theorem word0 (i : grid0.Coords) : (BitVec.ofNat 32 (i 0).val).toNat = (i 0).val := word_toNat _ (i 0).isLt

theorem word1 (i : grid0.Coords) : (BitVec.ofNat 32 (i 1).val).toNat = (i 1).val := word_toNat _ (by have := group_lt i; omega)

/-- The lane, in the array, of a lane of a block. -/
def laneAt (i : grid0.Coords) (l : Fin 256) : Fin 1024 := ⟨256 * (i 1).val + l.val, by have := group_lt i; omega⟩

/-- The place, in the array, of an element of a block. -/
def place (i : grid0.Coords) (y : S1x2048x256.Idx) : S8x2048x1024.Idx := ix3 (batch i) (y 1) (laneAt i (y 2))

theorem place_eq (i : grid0.Coords) (y : S1x2048x256.Idx) (z : S8x2048x1024.Idx)
    (h0 : (z 0).val = (i 0).val) (h1 : (z 1).val = (y 1).val) (h2 : (z 2).val = (i 1).val * 256 + (y 2).val) : z = place i y := by
  refine funext fun a => Fin.ext ?_
  match a with
  | ⟨0, _⟩ => exact h0
  | ⟨1, _⟩ => exact h1
  | ⟨2, _⟩ => exact h2.trans (show (i 1).val * 256 + (y 2).val = 256 * (i 1).val + (y 2).val by omega)

/-- The queries' block, in the array. -/
theorem block0 (t : Fin cfg0.N) (y : S1x2048x256.Idx) : iblk m c 0 t y = V m c main_v35 (place (grid0.coords t) y) := by
  blk_simp [iblk]
  refine congrArg _ (place_eq _ y _ ?_ ?_ ?_)
  · blk_simp
    exact word0 _
  · blk_simp
    exact Nat.add_eq_right.mpr rfl
  · blk_simp
    exact congrArg (· * 256 + (y 2).val) (word1 _)

/-- The keys' block, in the array. -/
theorem block1 (t : Fin cfg0.N) (y : S1x2048x256.Idx) : iblk m c 1 t y = V m c main_v36 (place (grid0.coords t) y) := by
  blk_simp [iblk]
  refine congrArg _ (place_eq _ y _ ?_ ?_ ?_)
  · blk_simp
    exact word0 _
  · blk_simp
    exact Nat.add_eq_right.mpr rfl
  · blk_simp
    exact congrArg (· * 256 + (y 2).val) (word1 _)

/-- The values' block, in the array. -/
theorem block2 (t : Fin cfg0.N) (y : S1x2048x256.Idx) : iblk m c 2 t y = V m c main_v37 (place (grid0.coords t) y) := by
  blk_simp [iblk]
  refine congrArg _ (place_eq _ y _ ?_ ?_ ?_)
  · blk_simp
    exact word0 _
  · blk_simp
    exact Nat.add_eq_right.mpr rfl
  · blk_simp
    exact congrArg (· * 256 + (y 2).val) (word1 _)

/-- The gates' block, in the array. -/
theorem block3 (t : Fin cfg0.N) (y : S1x2048x128.Idx) : iblk m c 3 t y = V m c main_v32 (ix3 (batch (grid0.coords t)) (y 1) (y 2)) := by
  blk_simp [iblk]
  refine congrArg _ (funext fun a => Fin.ext ?_)
  match a with
  | ⟨0, _⟩ =>
    blk_simp
    exact word0 _
  | ⟨1, _⟩ =>
    blk_simp
    exact Nat.add_eq_right.mpr rfl
  | ⟨2, _⟩ =>
    blk_simp
    exact Nat.add_eq_right.mpr rfl

/-- The block of the result, in the array. -/
theorem place_out (t : Fin cfg0.N) (y : S1x2048x256.Idx) : (win0_4.blk t).view.emb y = place (grid0.coords t) y := by
  refine place_eq _ y _ ?_ ?_ ?_
  · blk_simp
    exact word0 _
  · blk_simp
    exact Nat.add_eq_right.mpr rfl
  · blk_simp
    exact congrArg (· * 256 + (y 2).val) (word1 _)

theorem blockScore_eq (t : Fin cfg0.N) (u : ℕ) (hu : u < 4) (s r : Fin 2048) :
    blockScore (iblk m c 0 t) (iblk m c 1 t) (iblk m c 3 t) (grid0.coords t 1).val (group_lt _) u hu s r
      = attnScore (V m c main_v35) (V m c main_v36) (V m c main_v32) (batch (grid0.coords t)) (4 * (grid0.coords t 1).val + u)
          (by have := group_lt (grid0.coords t); omega) r s := by
  unfold blockScore attnScore
  refine if_congr Iff.rfl ?_ rfl
  unfold blockDot
  refine congrArg₂ (· + ·) (Finset.sum_congr rfl fun e _ => ?_) (congrArg₂ (· + ·) (Finset.sum_congr rfl fun e _ => ?_) (Finset.sum_congr rfl fun e _ => ?_))
  · rw [block0, block1]
    have hl : laneAt (grid0.coords t) ⟨64 * u + e.val, by omega⟩
        = (⟨64 * (4 * (grid0.coords t 1).val + u) + e.val, by have := group_lt (grid0.coords t); omega⟩ : Fin 1024) :=
      Fin.ext (show 256 * (grid0.coords t 1).val + (64 * u + e.val) = 64 * (4 * (grid0.coords t 1).val + u) + e.val by omega)
    exact congrArg₂ (· * ·) (congrArg (fun l => V m c main_v36 (ix3 (batch (grid0.coords t)) s l)) hl)
      (congrArg (fun l => V m c main_v35 (ix3 (batch (grid0.coords t)) r l)) hl)
  · exact block3 m c t _
  · exact block3 m c t _

/-- The array that the launch writes. -/
theorem arr_eq : (dats m 0 c).arrAt 4 cfg0.N = attnOut (V m c main_v35) (V m c main_v36) (V m c main_v37) (V m c main_v32) := by
  refine (dats m 0 c).arrAt_eq_of_covers 4 _ (by decide +kernel) fun t hf y => ?_
  simp only [after0_4]
  rw [outsAt0_eq]
  blk_simp
  have hg := group_lt (grid0.coords t)
  have hy : (y 2).val < 256 := (y 2).isLt
  rw [place_out]
  unfold blockOut blockAttn blockExp blockMax attnOut Softmax.soft2
  have hd : (place (grid0.coords t) y 2).val / 64 = 4 * (grid0.coords t 1).val + (y 2).val / 64 := by
    show (256 * (grid0.coords t 1).val + (y 2).val) / 64 = _
    omega
  have hS : ∀ s : Fin 2048, blockScore (iblk m c 0 t) (iblk m c 1 t) (iblk m c 3 t) (grid0.coords t 1).val (group_lt _) ((y 2).val / 64) (by omega) s (y 1)
      = attnScore (V m c main_v35) (V m c main_v36) (V m c main_v32) (place (grid0.coords t) y 0) ((place (grid0.coords t) y 2).val / 64)
          (head_lt _) (place (grid0.coords t) y 1) s := fun s => by
    simp only [hd]
    exact blockScore_eq m c t _ _ s (y 1)
  simp only [hS]
  refine congrArg₂ Ideal.div (Finset.sum_congr rfl fun s _ => ?_) rfl
  rw [block2]
  rfl

end Cert.KernelIdeal.Val
-- ==== Proof.RefValue.lean ====
module

public import proofs.«01_k».proof.Proof.Softmax
public import proofs.«01_k».proof.Proof.Fills
public import proofs.«01_k».proof.Proof.Gen.ReferenceIdeal.Run
public import Idealize.ShloMosaic.Lib.Pointwise
public import Idealize.ShloMosaic.Lib.IdealHost

/-!
The reference's result at an index, stage by stage.
-/

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem

section Stages
variable (q k v : FVec Ideal S8x2048x1024 .f32) (f : FVec Ideal S8x2048x16 .f32)

/-- The logarithm of the sigmoid, as the reference spells it. -/
def logSig : FVec Ideal S8x2048x16 .f32 :=
  Host.negf (select (cmpf .une (subf (Host.negf f) (broadcastInDim S8x2048x16 ![] bcast_S_S8x2048x16 (constant S_ .f32 0x00000000#32))) (subf (Host.negf f) (broadcastInDim S8x2048x16 ![] bcast_S_S8x2048x16 (constant S_ .f32 0x00000000#32)))) (addf (Host.negf f) (broadcastInDim S8x2048x16 ![] bcast_S_S8x2048x16 (constant S_ .f32 0x00000000#32))) (addf (maximumf (Host.negf f) (broadcastInDim S8x2048x16 ![] bcast_S_S8x2048x16 (constant S_ .f32 0x00000000#32))) (Host.log1p (Host.exp (Host.negf (Host.absf (subf (Host.negf f) (broadcastInDim S8x2048x16 ![] bcast_S_S8x2048x16 (constant S_ .f32 0x00000000#32)))))))))

/-- The running sum along the tokens. -/
def running (x : FVec Ideal S8x2048x16 .f32) : FVec Ideal S8x2048x16 .f32 :=
  Host.reduceWindowAdd ![1, 2048, 1] ![1, 1, 1] ![0, 2047, 0] ![0, 0, 0] x (broadcastInDim S_ ![] bcast_S_S_ (constant S_ .f32 0x00000000#32)) reduceWindows_S8x2048x16_S8x2048x16_w1s1p0_0_w2048s1p2047_0_w1s1p0_0 h_S_

/-- An operand by heads. -/
def heads (x : FVec Ideal S8x2048x1024 .f32) : FVec Ideal S8x16x2048x64 .f32 :=
  transpose S8x16x2048x64 [0, 2, 1, 3] (shapeCast _ x shapeCasts_S8x2048x1024_S8x2048x16x64) transposes_S8x2048x16x64_S8x16x2048x64_0_2_1_3

/-- The logits before the mask. -/
def logits (cum : FVec Ideal S8x16x2048 .f32) : FVec Ideal S8x16x2048x2048 .f32 :=
  subf (addf (mulf (Host.dotGeneral dot_S8x16x2048x64_S8x16x2048x64_S8x16x2048x2048_3_3_2_2_01_01 none (heads q) (heads k)) (broadcastInDim S8x16x2048x2048 ![] bcast_S_S8x16x2048x2048 (constant S_ .f32 0x3E000000#32))) (broadcastInDim S8x16x2048x2048 ![0, 1, 2, 3] bcast_S8x16x2048x1_S8x16x2048x2048_0_1_2_3 (broadcastInDim S8x16x2048x1 ![0, 1, 2] bcast_S8x16x2048_S8x16x2048x1_0_1_2 cum))) (broadcastInDim S8x16x2048x2048 ![0, 1, 2, 3] bcast_S8x16x1x2048_S8x16x2048x2048_0_1_2_3 (broadcastInDim S8x16x1x2048 ![0, 1, 3] bcast_S8x16x2048_S8x16x1x2048_0_1_3 cum))

/-- The masked logits. -/
def maskedLogits (x : FVec Ideal S8x16x2048x2048 .f32) : FVec Ideal S8x16x2048x2048 .f32 :=
  select (broadcastInDim S8x16x2048x2048 ![2, 3] bcast_S2048x2048_S8x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) x (broadcastInDim S8x16x2048x2048 ![] bcast_S_S8x16x2048x2048 (id (constant S_ .f32 0xFF800000#32)))

/-- The exponentials. -/
def exps (x : FVec Ideal S8x16x2048x2048 .f32) : FVec Ideal S8x16x2048x2048 .f32 :=
  Host.exp (subf x (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduce FloatOps.maximumf x (constant S_ .f32 0xFF800000#32) reducesTo_S8x16x2048x2048_S8x16x2048_d3 h_S_))))

/-- The weights. -/
def probs (x : FVec Ideal S8x16x2048x2048 .f32) : FVec Ideal S8x16x2048x2048 .f32 :=
  Host.divf x (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd x (constant S_ .f32 0x00000000#32) reducesTo_S8x16x2048x2048_S8x16x2048_d3 h_S_)))

/-- The result, from the weights. -/
def mix (x : FVec Ideal S8x16x2048x2048 .f32) : FVec Ideal S8x2048x1024 .bf16 :=
  truncf .bf16 (shapeCast _ (transpose S8x2048x16x64 [0, 2, 1, 3] (Host.dotGeneral dot_S8x16x2048x2048_S8x16x2048x64_S8x16x2048x64_3_2_2_3_01_01 none x (heads v)) transposes_S8x16x2048x64_S8x2048x16x64_0_2_1_3) shapeCasts_S8x2048x16x64_S8x2048x1024) bitsLt_bf16_f32

/-- The running sums by heads. -/
def cums : FVec Ideal S8x16x2048 .f32 :=
  transpose S8x16x2048 [0, 2, 1] (running (logSig f)) transposes_S8x2048x16_S8x16x2048_0_2_1

/-- The whole reference. -/
def whole : FVec Ideal S8x2048x1024 .bf16 := mix v (probs (exps (maskedLogits (logits q k (cums f)))))

end Stages

theorem res_eq (m : (ℓ : Loc nD τ sig) → Buf (Elt Ideal) ℓ) (c : Dev nD) :
    res_main_v38 m c = whole (m ((c.tc : Thread nD τ).loc main_arg0)) (m ((c.tc : Thread nD τ).loc main_arg1)) (m ((c.tc : Thread nD τ).loc main_arg2)) (m ((c.tc : Thread nD τ).loc main_arg3)) := by
  unfold res_main_v38
  rfl

variable (q k v : FVec Ideal S8x2048x1024 .f32) (f : FVec Ideal S8x2048x16 .f32)

theorem neg_inf : Ideal.ofBits .f32 0xFF800000#32 = (⊥ : EReal) := by
  simp [Ideal.ofBits, Ideal.ieee]

theorem eighth : Ideal.ofBits .f32 0x3E000000#32 = ((1 / 8 : ℝ) : EReal) := by
  simp [Ideal.ofBits, Ideal.ieee]
  rw [← EReal.coe_mul]
  norm_num

theorem heads_apply (x : FVec Ideal S8x2048x1024 .f32) (b : Fin 8) (h : Fin 16) (t : Fin 2048) (d : Fin 64) :
    heads x (ix4 b h t d) = x (ix3 b t ⟨64 * h.val + d.val, by omega⟩) := by
  unfold heads
  pointwise
  exact congrArg (fun l => x (ix3 b t l)) (Fin.ext (congrArg (· + d.val) (Nat.mul_comm _ _)))

/-- The head of a lane. -/
def headOf (l : Fin 1024) : Fin 16 := ⟨l.val / 64, by omega⟩

theorem mix_apply (x : FVec Ideal S8x16x2048x2048 .f32) (b : Fin 8) (t : Fin 2048) (l : Fin 1024) :
    mix v x (ix3 b t l) = ∑ s : Fin 2048, x (ix4 b (headOf l) t s) * v (ix3 b s l) := by
  unfold mix
  pointwise
  refine Finset.sum_congr rfl fun s _ => ?_
  refine congrArg (_ * ·) ((heads_apply v b (headOf l) s ⟨l.val % 64, by omega⟩).trans ?_)
  exact congrArg (fun l => v (ix3 b s l)) (Fin.ext (Nat.div_add_mod _ _))

theorem probs_apply (x : FVec Ideal S8x16x2048x2048 .f32) (b : Fin 8) (h : Fin 16) (t s : Fin 2048) :
    probs x (ix4 b h t s) = Ideal.div (x (ix4 b h t s)) (∑ r : Fin 2048, x (ix4 b h t r)) := by
  unfold probs
  pointwise

theorem exps_apply (x : FVec Ideal S8x16x2048x2048 .f32) (b : Fin 8) (h : Fin 16) (t s : Fin 2048) :
    exps x (ix4 b h t s) = Ideal.exp (x (ix4 b h t s) - Finset.univ.sup fun r : Fin 2048 => x (ix4 b h t r)) := by
  unfold exps
  pointwise
  rw [neg_inf]
  rfl

theorem maskedLogits_apply (x : FVec Ideal S8x16x2048x2048 .f32) (b : Fin 8) (h : Fin 16) (t s : Fin 2048) :
    maskedLogits x (ix4 b h t s) = if s.val ≤ t.val then x (ix4 b h t s) else ⊥ := by
  unfold maskedLogits
  pointwise
  rw [Cert.KernelIdeal.Val.sge_small _ _ (by omega) (by omega), Cert.KernelIdeal.Val.select_ite]
  exact if_congr Iff.rfl rfl neg_inf

theorem logits_apply (cum : FVec Ideal S8x16x2048 .f32) (b : Fin 8) (h : Fin 16) (t s : Fin 2048) :
    logits q k cum (ix4 b h t s) = (∑ d : Fin 64, q (ix3 b t ⟨64 * h.val + d.val, by omega⟩) * k (ix3 b s ⟨64 * h.val + d.val, by omega⟩)) * ((1 / 8 : ℝ) : EReal) + cum (ix3 b h t) - cum (ix3 b h s) := by
  unfold logits
  pointwise
  rw [eighth]
  simp only [heads_apply]

theorem cums_apply (b : Fin 8) (h : Fin 16) (t : Fin 2048) : cums f (ix3 b h t) = running (logSig f) (ix3 b t h) := by
  unfold cums
  pointwise

theorem coe_max (x y : ℝ) : ((max x y : ℝ) : EReal) = max (x : EReal) (y : EReal) := EReal.coe_strictMono.monotone.map_max

/-- The logarithm of the sigmoid of a real number. -/
def logSigReal (r : ℝ) : ℝ := min r 0 - Real.log (1 + Real.exp (-|r|))

theorem log1p_exp (r : ℝ) : Ideal.log1p (Ideal.exp (-((|r| : ℝ) : EReal))) = ((Real.log (1 + Real.exp (-|r|)) : ℝ) : EReal) := by
  rw [← EReal.coe_neg, Ideal.exp_coe]
  unfold Ideal.log1p
  rw [show (1 : EReal) = ((1 : ℝ) : EReal) from rfl, ← EReal.coe_add, Ideal.log_coe, if_neg (by have := Real.exp_pos (-|r|); linarith)]

theorem logSig_apply (i : S8x2048x16.Idx) (r : ℝ) (h : f i = (r : EReal)) : logSig f i = (logSigReal r : EReal) := by
  unfold logSig
  pointwise
  rw [h, if_neg (by simp)]
  have ha : (FloatOps.absf (F := Ideal) (φ := .f32) (-(r : EReal)) : EReal) = ((|r| : ℝ) : EReal) := by
    show max (-(r : EReal)) (- -(r : EReal)) = _
    rw [neg_neg, ← EReal.coe_neg, ← coe_max, max_comm]
    rfl
  rw [ha, log1p_exp, ← EReal.coe_neg, show (0 : EReal) = ((0 : ℝ) : EReal) from rfl, ← coe_max, ← EReal.coe_add, ← EReal.coe_neg]
  refine congrArg (fun x : ℝ => (x : EReal)) ?_
  unfold logSigReal
  have hm : max (-r) 0 = -min r 0 := by rw [← max_neg_neg, neg_zero]
  rw [hm]
  ring

/-! ### The reference's result -/

/-- The masked logit of key `s` for query `t`. -/
def refLogit (b : Fin 8) (h : Fin 16) (t s : Fin 2048) : EReal :=
  if s.val ≤ t.val then
    (∑ d : Fin 64, q (ix3 b t ⟨64 * h.val + d.val, by omega⟩) * k (ix3 b s ⟨64 * h.val + d.val, by omega⟩)) * ((1 / 8 : ℝ) : EReal)
      + running (logSig f) (ix3 b t h) - running (logSig f) (ix3 b s h)
  else ⊥

/-- The result at an index, from the masked logits. -/
theorem whole_apply (b : Fin 8) (t : Fin 2048) (l : Fin 1024) :
    whole q k v f (ix3 b t l) = Softmax.softE (refLogit q k f b (headOf l) t) fun s => v (ix3 b s l) := by
  have hL : ∀ s, maskedLogits (logits q k (cums f)) (ix4 b (headOf l) t s) = refLogit q k f b (headOf l) t s := fun s => by
    rw [maskedLogits_apply, logits_apply, cums_apply, cums_apply]
    rfl
  unfold whole
  rw [mix_apply]
  simp only [probs_apply, exps_apply, hL]
  rfl

end Cert.ReferenceIdeal.Val
-- ==== Proof.Prelude.lean ====
module

public import proofs.«01_k».proof.Proof.Gen.KernelIdeal.Value
public import proofs.«01_k».proof.Proof.RefValue
public import Idealize.ShloMosaic.Lib.Pointwise
public import Idealize.ShloMosaic.Lib.IdealHost

/-!
The arrays that the launch reads, from the arguments.
-/

@[expose] public section
set_option maxRecDepth 16384
noncomputable section
namespace Cert.KernelIdeal.Val
open Cert.KernelIdeal Cert.KernelIdeal.Gen Idealize.ShloMosaic Idealize.ShloMosaic.TcCoe Idealize.SL.Sem

variable (m : (ℓ : Loc nD τ sig) → Buf (Elt Ideal) ℓ) (c : Dev nD)

section Stages
variable (q : FVec Ideal S8x2048x1024 .f32) (f : FVec Ideal S8x2048x16 .f32)

/-- `1 / ln 2`, as the host computes it. -/
def invLn2 : FVec Ideal S_ .f32 := Host.divf (constant S_ .f32 0x3F800000#32) (Host.log (constant S_ .f32 0x40000000#32))

/-- The scaled queries. -/
def scaledQ : FVec Ideal S8x2048x1024 .bf16 :=
  truncf .bf16 (mulf q (broadcastInDim S8x2048x1024 ![] bcast_S_S8x2048x1024 (Host.divf invLn2 (constant S_ .f32 0x41000000#32)))) bitsLt_bf16_f32

/-- The logarithm of the sigmoid over `ln 2`, as the host spells it. -/
def logSig2 : FVec Ideal S8x2048x16 .f32 :=
  mulf (subf (minimumf f (broadcastInDim S8x2048x16 ![] bcast_S_S8x2048x16 (constant S_ .f32 0x00000000#32))) (Host.log1p (Host.exp (Host.negf (Host.absf f))))) (broadcastInDim S8x2048x16 ![] bcast_S_S8x2048x16 invLn2)

/-- What a part leaves of a running sum. -/
def rest (x : FVec Ideal S8x2048x16 .f32) : FVec Ideal S8x2048x16 .f32 := subf x (extf .f32 (truncf .bf16 x bitsLt_bf16_f32) bitsLt_bf16_f32)

/-- One part, with an axis of its own. -/
def part (x : FVec Ideal S8x2048x16 .f32) : FVec Ideal S8x2048x16x1 .bf16 :=
  broadcastInDim S8x2048x16x1 ![0, 1, 2] bcast_S8x2048x16_S8x2048x16x1_0_1_2 (truncf .bf16 x bitsLt_bf16_f32)

/-- The three parts of each running sum, side by side. -/
def parts (x : FVec Ideal S8x2048x16 .f32) : FVec Ideal S8x2048x48 .f32 :=
  extf .f32 (shapeCast S8x2048x48 (concatenate S8x2048x16x3 3 [⟨S8x2048x16x1, part x⟩, ⟨S8x2048x16x1, part (rest x)⟩, ⟨S8x2048x16x1, part (rest (rest x))⟩] concatenates_S8x2048x16x1_S8x2048x16x1_S8x2048x16x1_S8x2048x16x3_d3) shapeCasts_S8x2048x16x3_S8x2048x48) bitsLt_bf16_f32

/-- Sixteen zeros after the parts. -/
def padded (x : FVec Ideal S8x2048x48 .f32) : FVec Ideal S8x2048x64 .f32 :=
  pad S8x2048x64 ![0, 0, 0] ![0, 0, 16] ![0, 0, 0] x (sitofp .f32 (constantI S_ 32 0#32) : FVec Ideal S_ .f32) pads_S8x2048x48_S8x2048x64_000_000_0160 h_S_

/-- The gates' array. -/
def gatesArr (x : FVec Ideal S8x2048x16 .f32) : FVec Ideal S8x2048x128 .bf16 :=
  truncf .bf16 (concatenate S8x2048x128 2 [⟨S8x2048x64, padded (Host.negf (parts x))⟩, ⟨S8x2048x64, padded (parts x)⟩] concatenates_S8x2048x64_S8x2048x64_S8x2048x128_d2) bitsLt_bf16_f32

end Stages

theorem v36_eq (i : S8x2048x1024.Idx) : (V m c main_v36 : S8x2048x1024.Idx → EReal) i = m ((c.tc : Thread nD τ).loc main_arg1) i := rfl

theorem v37_eq (i : S8x2048x1024.Idx) : (V m c main_v37 : S8x2048x1024.Idx → EReal) i = m ((c.tc : Thread nD τ).loc main_arg2) i := rfl

theorem v35_eq : V m c main_v35 = scaledQ (m ((c.tc : Thread nD τ).loc main_arg0)) := rfl

set_option maxHeartbeats 4000000 in
theorem v32_eq : V m c main_v32 = gatesArr (Cert.ReferenceIdeal.Val.running (logSig2 (m ((c.tc : Thread nD τ).loc main_arg3)))) := by
  simp only [V, hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp
  rfl

end Cert.KernelIdeal.Val
-- ==== Proof.Gates.lean ====
module

public import proofs.«01_k».proof.Proof.Prelude

/-!
The arrays that the launch reads, at an index.
-/

@[expose] public section
set_option maxRecDepth 16384
noncomputable section
namespace Cert.KernelIdeal.Val
open Cert.KernelIdeal Cert.KernelIdeal.Gen Idealize.ShloMosaic Idealize.ShloMosaic.TcCoe Idealize.SL.Sem

variable (q : FVec Ideal S8x2048x1024 .f32) (x f : FVec Ideal S8x2048x16 .f32)

theorem parts_apply (b : Fin 8) (t : Fin 2048) (l : Fin 48) (r : ℝ) (h : x (ix3 b t ⟨l.val / 3, by omega⟩) = (r : EReal)) :
    parts x (ix3 b t l) = if l.val % 3 = 0 then (r : EReal) else 0 := by
  unfold parts part rest
  pointwise
  simp only [h]
  have hz : (r : EReal) - (r : EReal) = 0 := by
    rw [← EReal.coe_sub, sub_self]
    rfl
  rw [hz, sub_zero]
  by_cases h0 : l.val % 3 = 0
  · rw [dif_pos (by omega), if_pos h0]
  · rw [dif_neg (by omega), if_neg h0]
    split <;> rfl

theorem padded_apply (y : FVec Ideal S8x2048x48 .f32) (b : Fin 8) (t : Fin 2048) (l : Fin 64) :
    padded y (ix3 b t l) = if h : l.val < 48 then y (ix3 b t ⟨l.val, h⟩) else 0 := by
  unfold padded
  pointwise
  refine dite_congr rfl (fun _ => rfl) fun _ => ?_
  show (((0#32 : BitVec 32).toInt : ℝ) : EReal) = 0
  simp

theorem gatesArr_apply (b : Fin 8) (t : Fin 2048) (l : Fin 128) :
    gatesArr x (ix3 b t l) = if h : l.val < 64 then padded (Host.negf (parts x)) (ix3 b t ⟨l.val, h⟩) else padded (parts x) (ix3 b t ⟨l.val - 64, by omega⟩) := by
  unfold gatesArr
  pointwise

/-- A head's three lanes among the first sixty-four add up to its running sum, negated, -/
theorem gates_low (b : Fin 8) (t : Fin 2048) (h : Fin 16) (r : ℝ) (hr : x (ix3 b t h) = (r : EReal)) :
    (∑ e : Fin 3, gatesArr x (ix3 b t ⟨3 * h.val + e.val, by omega⟩) : EReal) = ((-r : ℝ) : EReal) := by
  have hg : ∀ e : Fin 3, (gatesArr x (ix3 b t ⟨3 * h.val + e.val, by omega⟩) : EReal) = if e.val = 0 then ((-r : ℝ) : EReal) else 0 := fun e => by
    rw [gatesArr_apply, dif_pos (by show 3 * h.val + e.val < 64; omega), padded_apply, dif_pos (by show 3 * h.val + e.val < 48; omega)]
    have hd : (⟨(3 * h.val + e.val) / 3, by omega⟩ : Fin 16) = h := Fin.ext (by show (3 * h.val + e.val) / 3 = h.val; omega)
    refine (congrArg (fun z : EReal => -z) (parts_apply x b t ⟨3 * h.val + e.val, by omega⟩ r (by rw [← hr]; exact congrArg (fun l => x (ix3 b t l)) hd))).trans ?_
    have he : (3 * h.val + e.val) % 3 = e.val := by omega
    show -(if (3 * h.val + e.val) % 3 = 0 then (r : EReal) else 0) = _
    rw [he]
    split
    · exact (EReal.coe_neg r).symm
    · exact neg_zero
  rw [Fin.sum_univ_three, hg, hg, hg]
  simp

/-- and the three lanes sixty-four further on to the running sum. -/
theorem gates_high (b : Fin 8) (t : Fin 2048) (h : Fin 16) (r : ℝ) (hr : x (ix3 b t h) = (r : EReal)) :
    (∑ e : Fin 3, gatesArr x (ix3 b t ⟨64 + 3 * h.val + e.val, by omega⟩) : EReal) = (r : EReal) := by
  have hg : ∀ e : Fin 3, (gatesArr x (ix3 b t ⟨64 + 3 * h.val + e.val, by omega⟩) : EReal) = if e.val = 0 then (r : EReal) else 0 := fun e => by
    rw [gatesArr_apply, dif_neg (by show ¬ 64 + 3 * h.val + e.val < 64; omega), padded_apply, dif_pos (by show 64 + 3 * h.val + e.val - 64 < 48; omega)]
    have hd : (⟨(64 + 3 * h.val + e.val - 64) / 3, by omega⟩ : Fin 16) = h := Fin.ext (by show (64 + 3 * h.val + e.val - 64) / 3 = h.val; omega)
    refine (parts_apply x b t ⟨64 + 3 * h.val + e.val - 64, by omega⟩ r (by rw [← hr]; exact congrArg (fun l => x (ix3 b t l)) hd)).trans ?_
    have he : (64 + 3 * h.val + e.val - 64) % 3 = e.val := by omega
    show (if (64 + 3 * h.val + e.val - 64) % 3 = 0 then (r : EReal) else 0) = _
    rw [he]
  rw [Fin.sum_univ_three, hg, hg, hg]
  simp

/-! ### The host's constants -/

/-- `1 / ln 2`. -/
def kappa : ℝ := 1 / Real.log 2

theorem log2_pos : 0 < Real.log 2 := Real.log_pos one_lt_two

theorem kappa_pos : 0 < kappa := div_pos one_pos log2_pos

theorem rpow_kappa (x : ℝ) : Real.rpow 2 (kappa * x) = Real.exp x := by
  show (2 : ℝ) ^ (kappa * x) = _
  rw [Real.rpow_def_of_pos two_pos]
  refine congrArg Real.exp ?_
  unfold kappa
  have := log2_pos.ne'
  field_simp

theorem ofBits_two : Ideal.ofBits .f32 0x40000000#32 = ((2 : ℝ) : EReal) := by
  simp [Ideal.ofBits, Ideal.ieee, -EReal.coe_mul]
  norm_num

theorem ofBits_eight : Ideal.ofBits .f32 0x41000000#32 = ((8 : ℝ) : EReal) := by
  simp [Ideal.ofBits, Ideal.ieee, -EReal.coe_mul]
  norm_num

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul]
  rfl

theorem div_log2 : Ideal.div 1 (Ideal.log (Ideal.ofBits .f32 0x40000000#32)) = (kappa : EReal) := by
  rw [ofBits_two, Ideal.log_coe, if_neg (by norm_num)]
  exact div_coe 1 _ log2_pos.ne'

theorem scaledQ_apply (i : S8x2048x1024.Idx) : scaledQ q i = q i * ((kappa / 8 : ℝ) : EReal) := by
  unfold scaledQ invLn2
  pointwise
  rw [div_log2, ofBits_eight, div_coe _ _ (by norm_num)]

theorem logSig2_apply (i : S8x2048x16.Idx) (r : ℝ) (h : f i = (r : EReal)) : logSig2 f i = ((ReferenceIdeal.Val.logSigReal r * kappa : ℝ) : EReal) := by
  unfold logSig2 invLn2
  pointwise
  rw [div_log2, h]
  have ha : (FloatOps.absf (F := Ideal) (φ := .f32) (r : EReal) : EReal) = ((|r| : ℝ) : EReal) := (ReferenceIdeal.Val.coe_max r (-r)).symm
  have hl : Ideal.log1p (Ideal.exp (-((|r| : ℝ) : EReal))) = ((Real.log (1 + Real.exp (-|r|)) : ℝ) : EReal) := ReferenceIdeal.Val.log1p_exp r
  rw [ha, hl, show (0 : EReal) = ((0 : ℝ) : EReal) from rfl, ← EReal.coe_strictMono.monotone.map_min, ← EReal.coe_sub, ← EReal.coe_mul]
  rfl

/-! ### The running sums -/

open ReferenceIdeal.Val (running)

theorem foldl_coe {ι : Type} (L : List ι) (F : ι → ℝ) (G : ι → EReal) (h : ∀ n, G n = (F n : EReal)) (r : ℝ) :
    L.foldl (fun z n => z + G n) (r : EReal) = ((L.foldl (fun z n => z + F n) r : ℝ) : EReal) := by
  induction L generalizing r with
  | nil => rfl
  | cons n L ih => rw [List.foldl_cons, List.foldl_cons, h, ← EReal.coe_add, ih]

theorem foldl_mul {ι : Type} (L : List ι) (F G : ι → ℝ) (z : ℝ) (h : ∀ n, G n = F n * z) (r : ℝ) :
    L.foldl (fun y n => y + G n) (r * z) = L.foldl (fun y n => y + F n) r * z := by
  induction L generalizing r with
  | nil => rfl
  | cons n L ih => rw [List.foldl_cons, List.foldl_cons, h, ← add_mul, ih]

section Window
variable {s t u : Shape} (w st lo hi : Fin s.rank → ℕ) (hw : s.ReduceWindows w st lo hi t) (hu : 0 < u.numel)

/-- A window sum of real numbers. -/
def windowReal (a : s.Idx → ℝ) : t.Idx → ℝ := Host.reduceWindow (· + ·) w st lo hi a (fun _ : u.Idx => 0) hw hu

theorem window_real (a : s.Idx → ℝ) (j : t.Idx) :
    Host.reduceWindow (· + ·) w st lo hi (fun i => (a i : EReal)) (fun _ : u.Idx => 0) hw hu j = ((windowReal w st lo hi hw hu a j : ℝ) : EReal) := by
  unfold windowReal Host.reduceWindow
  refine foldl_coe _ _ _ (fun n => ?_) 0
  split <;> rfl

theorem windowReal_mul (a : s.Idx → ℝ) (z : ℝ) (j : t.Idx) :
    windowReal w st lo hi hw hu (fun i => a i * z) j = windowReal w st lo hi hw hu a j * z := by
  unfold windowReal Host.reduceWindow
  dsimp only
  conv_lhs => rw [← zero_mul z]
  refine foldl_mul _ _ _ z (fun n => ?_) 0
  split
  · rfl
  · simp

end Window

/-- The running sum of real numbers. -/
def runningReal : (S8x2048x16.Idx → ℝ) → S8x2048x16.Idx → ℝ :=
  windowReal (s := S8x2048x16) (t := S8x2048x16) (u := ⟨0, ![]⟩) ![1, 2048, 1] ![1, 1, 1] ![0, 2047, 0] ![0, 0, 0] reduceWindows_S8x2048x16_S8x2048x16_w1s1p0_0_w2048s1p2047_0_w1s1p0_0 (by decide)

theorem running_real (y : FVec Ideal S8x2048x16 .f32) (a : S8x2048x16.Idx → ℝ) (h : ∀ i, y i = (a i : EReal)) (j : S8x2048x16.Idx) :
    running y j = (runningReal a j : EReal) := by
  obtain rfl : y = fun i => (a i : EReal) := funext h
  have e : running (fun i => (a i : EReal)) = Ideal.hostReduceWindowAdd (s := S8x2048x16) (t := S8x2048x16) ![1, 2048, 1] ![1, 1, 1] ![0, 2047, 0] ![0, 0, 0] reduceWindows_S8x2048x16_S8x2048x16_w1s1p0_0_w2048s1p2047_0_w1s1p0_0 (fun i => (a i : EReal)) (Ideal.ofBits .f32 0x00000000#32) := by
    unfold running Host.reduceWindowAdd
    rfl
  rw [e, Ideal.ofBits_zero_f32]
  unfold Ideal.hostReduceWindowAdd runningReal
  exact window_real _ _ _ _ _ _ a j

theorem runningReal_mul (a : S8x2048x16.Idx → ℝ) (z : ℝ) (j : S8x2048x16.Idx) : runningReal (fun i => a i * z) j = runningReal a j * z :=
  windowReal_mul _ _ _ _ _ _ a z j

end Cert.KernelIdeal.Val
-- ==== Proof.Join.lean ====
module

public import proofs.«01_k».proof.Proof.Arrays
public import proofs.«01_k».proof.Proof.Gates
public import proofs.«01_k».proof.Proof.Gen.Pre_finite
public import Idealize.ShloMosaic.Lib.Pointwise.IndexBridge

/-!
Kernel and reference compute one function of finite queries, keys and forget gates.
-/

@[expose] public section
set_option maxRecDepth 16384
noncomputable section
namespace Cert.Join
open Cert.KernelIdeal Cert.KernelIdeal.Gen Cert.KernelIdeal.Val Idealize.ShloMosaic Idealize.ShloMosaic.TcCoe Idealize.SL.Sem
open Cert.ReferenceIdeal.Val (running logSig logSigReal refLogit headOf whole)

theorem real_of_abs_lt (x : EReal) (h : max x (-x) < ⊤) : ∃ r : ℝ, x = (r : EReal) := by
  induction x with
  | bot => simp at h
  | top => simp at h
  | coe r => exact ⟨r, rfl⟩

theorem and_bits {a b : BitVec 1} (h : IntOp.andi a b = 1#1) : a = 1#1 ∧ b = 1#1 := by
  revert a b
  decide

theorem lt_of_bit {a b : EReal} (h : BitVec.ofBool (decide (a < b)) = 1#1) : a < b := by
  by_contra hn
  rw [decide_eq_false hn] at h
  exact absurd h (by decide)

theorem finite_args (q k v : FVec Ideal S8x2048x1024 .f32) (f : FVec Ideal S8x2048x16 .f32)
    (h : Cert.Pre_finite.fn q k v f = fun _ => 1#1) :
    (∀ i, ∃ r : ℝ, q i = (r : EReal)) ∧ (∀ i, ∃ r : ℝ, k i = (r : EReal)) ∧ ∀ i, ∃ r : ℝ, f i = (r : EReal) := by
  have inf : Ideal.ofBits .f32 2139095040#32 = ⊤ := by simp [Ideal.ofBits, Ideal.ieee]
  have key : ∀ (b : Fin 8) (t : Fin 2048) (g : Fin 16) (d : Fin 64),
      ((∃ r : ℝ, q (ix3 b t ⟨g.val * 64 + d.val, by omega⟩) = (r : EReal))
        ∧ ∃ r : ℝ, k (ix3 b t ⟨g.val * 64 + d.val, by omega⟩) = (r : EReal)) ∧ ∃ r : ℝ, f (ix3 b t g) = (r : EReal) := fun b t g d => by
    have e := congrFun h (ix4 b t g d)
    unfold Cert.Pre_finite.fn at e
    pointwise at e
    rw [inf] at e
    obtain ⟨e, ef⟩ := and_bits e
    obtain ⟨eq, ek⟩ := and_bits e
    exact ⟨⟨real_of_abs_lt _ (lt_of_bit eq), real_of_abs_lt _ (lt_of_bit ek)⟩, real_of_abs_lt _ (lt_of_bit ef)⟩
  have split : ∀ l : Fin 1024, l = ⟨(⟨l.val / 64, by omega⟩ : Fin 16).val * 64 + (⟨l.val % 64, by omega⟩ : Fin 64).val, by dsimp only; omega⟩ :=
    fun l => Fin.ext (by dsimp only; omega)
  refine ⟨fun i => ?_, fun i => ?_, fun i => ?_⟩
  · rw [eq_ix3 i]
    exact split (i 2) ▸ (key (i 0) (i 1) _ _).1.1
  · rw [eq_ix3 i]
    exact split (i 2) ▸ (key (i 0) (i 1) _ _).1.2
  · rw [eq_ix3 i]
    exact (key (i 0) (i 1) (i 2) 0).2

section
variable (q k v : S8x2048x1024.Idx → EReal) (f : S8x2048x16.Idx → EReal) (qr kr : S8x2048x1024.Idx → ℝ) (fr : S8x2048x16.Idx → ℝ)
  (hq : ∀ i, q i = (qr i : EReal)) (hk : ∀ i, k i = (kr i : EReal)) (hf : ∀ i, f i = (fr i : EReal))

/-- The running sum of the logarithms of the sigmoids, as a real number. -/
def gate (fr : S8x2048x16.Idx → ℝ) (b : Fin 8) (t : Fin 2048) (h : Fin 16) : ℝ := runningReal (fun i => logSigReal (fr i)) (ix3 b t h)

/-- The logit, as a real number. -/
def logitReal (qr kr : S8x2048x1024.Idx → ℝ) (fr : S8x2048x16.Idx → ℝ) (b : Fin 8) (h : Fin 16) (t s : Fin 2048) : ℝ :=
  (∑ d : Fin 64, qr (ix3 b t ⟨64 * h.val + d.val, by omega⟩) * kr (ix3 b s ⟨64 * h.val + d.val, by omega⟩)) * (1 / 8) + gate fr b t h - gate fr b s h

include hq hk hf

theorem ref_logit (b : Fin 8) (h : Fin 16) (t s : Fin 2048) :
    refLogit q k f b h t s = Softmax.masked (fun s : Fin 2048 => s.val ≤ t.val) (logitReal qr kr fr b h t) s := by
  have hg : ∀ t, running (logSig f) (ix3 b t h) = (gate fr b t h : EReal) := fun t =>
    running_real _ _ (fun i => ReferenceIdeal.Val.logSig_apply f i (fr i) (hf i)) _
  unfold refLogit Softmax.masked
  refine if_congr Iff.rfl ?_ rfl
  rw [hg, hg]
  simp only [hq, hk, ← EReal.coe_mul]
  rw [Softmax.coe_sum, ← EReal.coe_mul, ← EReal.coe_add, ← EReal.coe_sub]
  rfl

theorem kernel_score (b : Fin 8) (h : Fin 16) (t s : Fin 2048) :
    attnScore (scaledQ q) k (gatesArr (running (logSig2 f))) b h.val h.isLt t s
      = Softmax.masked (fun s : Fin 2048 => s.val ≤ t.val) (fun s => kappa * logitReal qr kr fr b h t s) s := by
  have hg : ∀ t, running (logSig2 f) (ix3 b t h) = ((gate fr b t h * kappa : ℝ) : EReal) := fun t =>
    (running_real _ _ (fun i => logSig2_apply f i (fr i) (hf i)) _).trans (congrArg (fun r : ℝ => (r : EReal)) (runningReal_mul _ _ _))
  unfold attnScore Softmax.masked
  refine if_congr Iff.rfl ?_ rfl
  simp only [← ix3_eq_valueIdx]
  rw [gates_low _ b s h _ (hg s), gates_high _ b t h _ (hg t)]
  simp only [scaledQ_apply, hq, hk, ← EReal.coe_mul]
  rw [Softmax.coe_sum, ← EReal.coe_add, ← EReal.coe_add]
  refine congrArg (fun r : ℝ => (r : EReal)) ?_
  unfold logitReal
  have e : ∑ d : Fin 64, kr (ix3 b s ⟨64 * h.val + d.val, by omega⟩) * (qr (ix3 b t ⟨64 * h.val + d.val, by omega⟩) * (kappa / 8))
      = (∑ d : Fin 64, qr (ix3 b t ⟨64 * h.val + d.val, by omega⟩) * kr (ix3 b s ⟨64 * h.val + d.val, by omega⟩)) * (kappa / 8) := by
    rw [Finset.sum_mul]
    exact Finset.sum_congr rfl fun d _ => by ring
  rw [e]
  ring

/-- The two programs' results agree. -/
theorem out_eq : attnOut (scaledQ q) k v (gatesArr (running (logSig2 f))) = whole q k v f := by
  funext y
  obtain ⟨b, t, l, rfl⟩ : ∃ (b : Fin 8) (t : Fin 2048) (l : Fin 1024), y = ix3 b t l := ⟨y 0, y 1, y 2, eq_ix3 y⟩
  rw [ReferenceIdeal.Val.whole_apply]
  have hS : attnScore (scaledQ q) k (gatesArr (running (logSig2 f))) b (headOf l).val (headOf l).isLt t
      = Softmax.masked (fun s : Fin 2048 => s.val ≤ t.val) (fun s => kappa * logitReal qr kr fr b (headOf l) t s) :=
    funext fun s => kernel_score q k f qr kr fr hq hk hf b (headOf l) t s
  have hL : refLogit q k f b (headOf l) t = Softmax.masked (fun s : Fin 2048 => s.val ≤ t.val) (logitReal qr kr fr b (headOf l) t) :=
    funext fun s => ref_logit q k f qr kr fr hq hk hf b (headOf l) t s
  have e : attnOut (scaledQ q) k v (gatesArr (running (logSig2 f))) (ix3 b t l)
      = Softmax.soft2 (attnScore (scaledQ q) k (gatesArr (running (logSig2 f))) b (headOf l).val (headOf l).isLt t) fun s => v (ix3 b s l) := by
    unfold attnOut
    simp only [← ix3_eq_valueIdx]
    rfl
  rw [e, hS, hL]
  exact Softmax.soft2_eq (fun s : Fin 2048 => s.val ≤ t.val) (logitReal qr kr fr b (headOf l) t) kappa kappa_pos rpow_kappa ⟨t, le_rfl⟩
    fun s => v (ix3 b s l)

end

end Cert.Join
-- ==== Proof.RecurrentIdealFrame.lean ====
/-
  The frame of the RG-LRU branch. Each grid step handles 128 tokens of every sequence: it projects, convolves with the
  three tokens that the step before left in a scratch buffer, gates, runs the recurrence in a loop of 128 trips from the
  state that the step before left in another, gates once more and projects back. A frame says nothing of what the
  buffers hold, so the step is run once from any contents: every buffer goes in at some contents and comes back at some.
-/
module

public import proofs.«01_k».proof.Proof.Gen.RecurrentIdeal.Frame
public import proofs.«01_k».proof.Proof.Gen.RecurrentIdeal.Skeleton
public import proofs.«01_k».proof.Proof.Gen.RecurrentIdeal.Loops
public import proofs.«01_k».proof.Proof.Gen.RecurrentIdeal.Launch
public import proofs.«01_k».proof.Proof.Gen.RecurrentIdeal.Points
public import Idealize.ShloMosaic.Lib.Pipeline.Frame
public import Idealize.ShloMosaic.Lib.Tactic

@[expose] public section

set_option maxRecDepth 65536

noncomputable section

namespace Cert.RecurrentIdeal.Hand

open Cert.RecurrentIdeal Cert.RecurrentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

/-- The resource algebra of the frame runs. -/
abbrev Alg (F : FTy → Type) := MT nD τ sig Unit (Elt F) ℕ (UR sig nD τ) ℕ

set_option maxHeartbeats 40000000 in
/-- One grid step, from buffers at any contents, runs to its end and hands every buffer back at some contents. -/
theorem step_run (c : Dev nD) (i : grid0.Coords) (arg1 : Memref sig .tc .vmem S8x128x1024 .f32) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S8x128x1024 .bf16) (harg11 : arg11.IsWhole) (arg12 : Memref sig .tc .vmem S8x1048x128 .f32) (harg12 : arg12.IsWhole) (arg13 : Memref sig .tc .vmem S8x1024x128 .f32) (harg13 : arg13.IsWhole) (arg14 : Memref sig .tc .vmem S8x1024x128 .f32) (harg14 : arg14.IsWhole) (arg15 : Memref sig .tc .vmem S8x8x128 .f32) (harg15 : arg15.IsWhole) (K : PUnit → sProp (Alg F)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_branch_a i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_branch_a_eq_skeleton]; unfold cc0_branch_a_skel
  simp only [k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  by_cases hc : Scalar.cmpi .ne (Scalar.extui (Scalar.cmpi .eq (BitVec.ofNat 32 (i 0).val) 0#32)) 0#32 = 1#1
  · sl_exec (disch := sl_exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec (disch := sl_exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

variable (m : (ℓ : Loc nD τ sig) → Buf (Elt F) ℓ) (ρ : Dev nD → PrngReg)

/-- The proof data: the arrays as the region finds them, nothing said of what a step leaves in a window's buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch buffers at some contents, one by one, and the generator register. -/
theorem scratch_eq (c : Dev nD) :
    (Pipeline.ΦA spec0 c : sProp (Alg F))
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ ∃ r, prngReg c r) := by
  unfold Pipeline.ΦA; rw [scopedRest0_eq]; simp only [owns_whole]; try rfl

/-- What a step is handed at point `t`. -/
def stepPre (c : Dev nD) (t : Fin cfg0.N) (Y : (w : Fin cfg0.W) → (cfg0.win w).block.Idx → Elt F (cfg0.win w).elt) : sProp (Alg F) :=
  iprop((rdat m c).Φ t.castSucc ∗ (rdat m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))

/-- What a step hands back. -/
def stepPost (c : Dev nD) (t : Fin cfg0.N) : sProp (Alg F) :=
  iprop((rdat m c).Φ t.succ ∗ (rdat m c).owesAt () t.succ
    ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X))

/-- A step meets its specification. -/
theorem sound_step (c : Dev nD) (t : Fin cfg0.N) (Y : (w : Fin cfg0.W) → (cfg0.win w).block.Idx → Elt F (cfg0.win w).elt) :
    stepPre m c t Y ⊢ wp frame (wpE (defs₀ (F := F)) Variants.none c none) Set.univ (bodyAt0 t) (fun _ => stepPost m c t) := by
  unfold stepPre stepPost bodyAt0
  rw [show (rdat m c).Φ t.succ = Pipeline.ΦA spec0 c from rfl, show (rdat m c).Φ t.castSucc = Pipeline.ΦA spec0 c from rfl,
    show (rdat m c).owesAt () t.succ = (rdat m c).owesAt () t.castSucc from rfl, scratch_eq]
  iintro ⟨⟨⟨S0, S1, S2, S3⟩, Hg⟩, HO, H0, H1, H2, H3, H4, H5, H6, H7, H8, H9, H10⟩
  iapply (step_run c (grid0.coords t) _ _ _ _ _ _ _ _ _ _ _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]
  · iexists d0; isplitr; · ipureintro; trivial
    iexact H0
  isplitl [H1]
  · iexists d1; isplitr; · ipureintro; trivial
    iexact H1
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  isplitl [H5]
  · iexists d5; isplitr; · ipureintro; trivial
    iexact H5
  isplitl [H6]
  · iexists d6; isplitr; · ipureintro; trivial
    iexact H6
  isplitl [H7]
  · iexists d7; isplitr; · ipureintro; trivial
    iexact H7
  isplitl [H8]
  · iexists d8; isplitr; · ipureintro; trivial
    iexact H8
  isplitl [H9]
  · iexists d9; isplitr; · ipureintro; trivial
    iexact H9
  iexists d10; isplitr; · ipureintro; trivial
  iexact H10

/-- The body table's row at a point is the step. -/
theorem row (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : (rdat m c).BodyObligation (defs₀ (F := F)) Variants.none () Set.univ := fun t Y _ => by
  rw [bigSep_W0, bigSep_W0, row]
  exact triple_restated (sound_step m c t Y) rfl .rfl fun _ => .rfl

set_option backward.isDefEq.respectTransparency.types false in
/-- The program runs to its end, every counter at zero, its arrays as the relation says. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => obligation m c) (hshare := fun c w => by unfold RDat.share; split <;> rfl)
    (howed := fun _ _ => rfl) (V := V m) (hmain := hmain m Variants.none) (hA := fun _ _ => rfl) (hΦ := fun _ _ => rfl)

/-- The program runs to its end with every argument unchanged and every counter at zero. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨(RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (RDat.FramePost.arr_in h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩)
    (run_main m ρ)

end Cert.RecurrentIdeal.Hand

end
-- ==== Proof.MergeRow.lean ====
module

public import Idealize.ShloMosaic.PureOps.Ideal
public import Mathlib.Analysis.SpecialFunctions.Trigonometric.DerivHyp

/-!
What the merge makes of one row: the gates of the row, the attention branch's gate and projection, the three branches
weighted by their gates, the output projection, and the normalisation of the row.
-/

@[expose] public section
noncomputable section
namespace Cert.MergeRow
open Idealize.ShloMosaic

/-- The sigmoid. -/
def sig (z : EReal) : EReal := Ideal.div 1 (1 + Ideal.exp (-z))

/-- A column of one of the four groups of gates. -/
def col (j : Fin 4) (e : Fin 1024) : Fin 4096 := ⟨1024 * j.val + e.val, by omega⟩

section
variable (x ya yb oc : Fin 1024 → EReal) (wg : Fin 1024 → Fin 4096 → EReal) (bg : Fin 4096 → EReal)
  (woc wo : Fin 1024 → Fin 1024 → EReal) (bo g b : Fin 1024 → EReal) (alpha n eps : EReal)

/-- The projections of the gates. -/
def gate (j : Fin 4096) : EReal := (∑ d : Fin 1024, x d * wg d j) + bg j

/-- The attention branch, gated and projected. -/
def proj (e : Fin 1024) : EReal :=
  ∑ w : Fin 1024, oc w * (gate x wg bg (col 0 w) * sig (gate x wg bg (col 0 w))) * woc w e

/-- The three branches, merged. -/
def mixed (e : Fin 1024) : EReal :=
  sig (gate x wg bg (col 1 e)) * ya e + sig (gate x wg bg (col 2 e)) * yb e + sig (gate x wg bg (col 3 e)) * proj x oc wg bg woc e

/-- The row before its normalisation. -/
def raw (o : Fin 1024) : EReal := alpha * x o + ((∑ e : Fin 1024, mixed x ya yb oc wg bg woc e * wo e o) + bo o)

end

/-- The mean of a row. -/
def mean (n : EReal) (z : Fin 1024 → EReal) : EReal := Ideal.div (∑ o, z o) n

/-- A row, normalised. -/
def norm (n eps : EReal) (g b z : Fin 1024 → EReal) (o : Fin 1024) : EReal :=
  (z o - mean n z) * Ideal.rsqrt (mean n (fun o => (z o - mean n z) * (z o - mean n z)) + eps) * g o + b o

/-- The sigmoid by the hyperbolic tangent of half its argument. -/
theorem half_tanh (z : EReal) :
    ((1 / 2 : ℝ) : EReal) * Ideal.tanh (((1 / 2 : ℝ) : EReal) * z) + ((1 / 2 : ℝ) : EReal) = sig z := by
  have hs : sig z = Ideal.logistic z := rfl
  have h : (0 : ℝ) < 1 / 2 := by norm_num
  rw [hs]
  induction z with
  | bot =>
    rw [EReal.coe_mul_bot_of_pos h, Ideal.tanh_bot, Ideal.logistic_bot, show (-1 : EReal) = ((-1 : ℝ) : EReal) from rfl,
      ← EReal.coe_mul, ← EReal.coe_add]
    norm_num
  | top =>
    rw [EReal.coe_mul_top_of_pos h, Ideal.tanh_top, Ideal.logistic_top, show (1 : EReal) = ((1 : ℝ) : EReal) from rfl,
      ← EReal.coe_mul, ← EReal.coe_add]
    norm_num
  | coe r =>
    rw [Ideal.logistic_coe, ← EReal.coe_mul, Ideal.tanh_coe, ← EReal.coe_mul, ← EReal.coe_add]
    refine congrArg (fun x : ℝ => (x : EReal)) ?_
    have e : Real.exp (-r) = Real.exp (-(1 / 2 * r)) * Real.exp (-(1 / 2 * r)) := by
      rw [← Real.exp_add]
      congr 1
      ring
    have p : Real.exp (1 / 2 * r) * Real.exp (-(1 / 2 * r)) = 1 := by
      rw [← Real.exp_add]
      simp
    rw [Real.tanh_eq_sinh_div_cosh, Real.sinh_eq, Real.cosh_eq, e]
    set u := Real.exp (1 / 2 * r) with hu
    set w := Real.exp (-(1 / 2 * r)) with hw
    have hu0 : 0 < u := Real.exp_pos _
    have hw0 : 0 < w := Real.exp_pos _
    have d1 : u + w ≠ 0 := by positivity
    have d2 : 1 + w * w ≠ 0 := by positivity
    field_simp
    linear_combination 2 * w * p

end Cert.MergeRow
-- ==== Proof.MergeBlock.lean ====
module

public import proofs.«01_k».proof.Proof.MergeRow
public import proofs.«01_k».proof.Proof.Gen.MergeIdeal.Skeleton
public import Idealize.ShloMosaic.Lib.Pointwise
public import Idealize.ShloMosaic.Lib.IdealHost

/-!
What one step of the merge computes: each row of its block is the merged and normalised row.
-/

@[expose] public section
set_option maxRecDepth 16384
noncomputable section
namespace Cert.MergeIdeal.Val
open Cert.MergeIdeal Cert.MergeIdeal.Gen Idealize.ShloMosaic Idealize.ShloMosaic.TcCoe Idealize.SL.Sem
open Cert.MergeRow (gate proj mixed raw mean norm col)

theorem half : Ideal.ofBits .f32 0x3F000000#32 = ((1 / 2 : ℝ) : EReal) := by
  simp [Ideal.ofBits, Ideal.ieee, -EReal.coe_mul]
  norm_num

/-- The scale of the residual. -/
abbrev alpha : EReal := Ideal.ofBits .f32 0x3FB504F3#32
/-- The length of a row. -/
abbrev len : EReal := Ideal.ofBits .f32 0x44800000#32
/-- The normalisation's small constant. -/
abbrev eps : EReal := Ideal.ofBits .f32 0x3727C5AC#32

variable (x : Vec Ideal S1x512x1024 .f32) (ya yb oc : Vec Ideal S1x512x1024 .bf16) (wg : Vec Ideal S1024x4096 .bf16) (bg : Vec Ideal S1x4096 .f32)
  (woc wo : Vec Ideal S1024x1024 .bf16) (bo g b : Vec Ideal S1x1024 .f32)

/-- A row of a block. -/
def row (x : S1x512x1024.Idx → EReal) (r : Fin 512) (e : Fin 1024) : EReal := x (ix3 0 r e)
/-- A matrix. -/
def mat {n : ℕ} (w : Shape.Idx ⟨2, ![1024, n]⟩ → EReal) (d : Fin 1024) (e : Fin n) : EReal := w (ix2 d e)
/-- A vector. -/
def vec {n : ℕ} (w : Shape.Idx ⟨2, ![1, n]⟩ → EReal) (e : Fin n) : EReal := w (ix2 0 e)

theorem pay3_apply (r : Fin 512) (j : Fin 4096) : k0_pay3 x wg bg (ix2 r j) = gate (row x r) (mat wg) (vec bg) j := by
  unfold k0_pay3 k0_pay2
  pointwise
  rfl

theorem pay4_apply (r : Fin 512) (e : Fin 1024) :
    k0_pay4 x wg bg oc woc (ix2 r e) = proj (row x r) (row oc r) (mat wg) (vec bg) (mat woc) e := by
  unfold k0_pay4
  pointwise
  simp only [pay3_apply, half, MergeRow.half_tanh]
  refine Finset.sum_congr rfl fun w _ => ?_
  have e : col 0 w = ⟨w.val, by omega⟩ := Fin.ext (by simp [col])
  rw [e]
  rfl

theorem pay5_apply (r : Fin 512) (e : Fin 1024) :
    k0_pay5 x wg bg (ix2 r e) = MergeRow.sig (gate (row x r) (mat wg) (vec bg) (col 1 e)) := by
  unfold k0_pay5
  pointwise
  simp only [pay3_apply, half, MergeRow.half_tanh]
  rfl

theorem pay6_apply (r : Fin 512) (o : Fin 1024) :
    k0_pay6 (k0_pay2 x) (k0_pay3 x wg bg) (k0_pay4 x wg bg oc woc) (k0_pay5 x wg bg) ya yb wo bo (ix2 r o) =
      raw (row x r) (row ya r) (row yb r) (row oc r) (mat wg) (vec bg) (mat woc) (mat wo) (vec bo) alpha o := by
  unfold k0_pay6
  pointwise
  simp only [pay3_apply, pay4_apply, pay5_apply, half, MergeRow.half_tanh]
  unfold k0_pay2
  pointwise
  rfl

theorem pay1_apply (z : FVec Ideal S512x1024 .f32) (r : Fin 512) (o : Fin 1024) :
    k0_pay1 z (k0_pay7 g) b (ix3 0 r o) = norm len eps (vec g) (vec b) (fun e => z (ix2 r e)) o := by
  unfold k0_pay1 k0_pay7
  pointwise
  rfl

end Cert.MergeIdeal.Val
-- ==== Proof.MergeArray.lean ====
module

public import proofs.«01_k».proof.Proof.MergeBlock
public import proofs.«01_k».proof.Proof.Gen.MergeIdeal.Value
public import Idealize.ShloMosaic.Lib.Pipeline.ValueKit

/-!
The whole result of the merge, from the program's arguments.
-/

@[expose] public section
set_option maxRecDepth 16384
noncomputable section
namespace Cert.MergeIdeal.Val
open Cert.MergeIdeal Cert.MergeIdeal.Gen Idealize.ShloMosaic Idealize.ShloMosaic.TcCoe Idealize.SL.Sem
open Cert.MergeRow (gate proj mixed raw mean norm col)

theorem out_apply (x : Vec Ideal S1x512x1024 .f32) (ya yb oc : Vec Ideal S1x512x1024 .bf16) (wg : Vec Ideal S1024x4096 .bf16) (bg : Vec Ideal S1x4096 .f32)
    (woc wo : Vec Ideal S1024x1024 .bf16) (bo g b : Vec Ideal S1x1024 .f32) (r : Fin 512) (o : Fin 1024) :
    out0_11 x ya yb oc wg bg woc wo bo g b (ix3 0 r o) =
      norm len eps (vec g) (vec b) (raw (row x r) (row ya r) (row yb r) (row oc r) (mat wg) (vec bg) (mat woc) (mat wo) (vec bo) alpha) o := by
  have h3 : ∀ a : Fin 3, (![0, 0, 0] : Fin 3 → ℕ) a = 0 := by decide
  have h2 : ∀ a : Fin 2, (![0, 0] : Fin 2 → ℕ) a = 0 := by decide
  unfold out0_11
  rw [View.canon_cons_unit_lit _ _ _ h3]
  have l3 : ∀ {e : EltTy} (x : S1x512x1024.Idx → Elt Ideal e), View.ld x r0_0 = x := fun x => View.ld_unit_lit _ x h3
  have l1 : ∀ {e : EltTy} (x : S1024x4096.Idx → Elt Ideal e), View.ld x r0_1 = x := fun x => View.ld_unit_lit _ x h2
  have l2 : ∀ {e : EltTy} (x : S1x4096.Idx → Elt Ideal e), View.ld x r0_2 = x := fun x => View.ld_unit_lit _ x h2
  have l4 : ∀ {e : EltTy} (x : S1024x1024.Idx → Elt Ideal e), View.ld x r0_3 = x := fun x => View.ld_unit_lit _ x h2
  have l5 : ∀ {e : EltTy} (x : S1x1024.Idx → Elt Ideal e), View.ld x r0_4 = x := fun x => View.ld_unit_lit _ x h2
  rw [l3, l3, l3, l3, l1, l2, l4, l4, l5, l5, l5]
  rw [pay1_apply]
  refine congrArg (fun z => norm len eps (vec g) (vec b) z o) (funext fun e => ?_)
  rw [pay6_apply]

variable (m : (ℓ : Loc nD τ sig) → Buf (Elt Ideal) ℓ) (c : Dev nD)

theorem tile_lt (i : grid0.Coords) : (i 1).val < 4 := (i 1).isLt

/-- The batch of a grid step. -/
def batch (i : grid0.Coords) : Fin 8 := ⟨(i 0).val, (i 0).isLt⟩

/-- The token, in the array, of a row of a block. -/
def token (i : grid0.Coords) (r : Fin 512) : Fin 2048 := ⟨512 * (i 1).val + r.val, by have := tile_lt i; omega⟩

theorem word (n : ℕ) (h : n < 8) : (BitVec.ofNat 32 n).toNat = n := by
  rw [BitVec.toNat_ofNat]
  omega

theorem word0 (i : grid0.Coords) : (BitVec.ofNat 32 (i 0).val).toNat = (i 0).val := word _ (i 0).isLt

theorem word1 (i : grid0.Coords) : (BitVec.ofNat 32 (i 1).val).toNat = (i 1).val := word _ (by have := tile_lt i; omega)

theorem place_eq (i : grid0.Coords) (r : Fin 512) (e : Fin 1024) (z : S8x2048x1024.Idx)
    (h0 : (z 0).val = (i 0).val) (h1 : (z 1).val = (i 1).val * 512 + r.val) (h2 : (z 2).val = e.val) : z = ix3 (batch i) (token i r) e := by
  refine funext fun a => Fin.ext ?_
  match a with
  | ⟨0, _⟩ => exact h0
  | ⟨1, _⟩ => exact h1.trans (show (i 1).val * 512 + r.val = 512 * (i 1).val + r.val by omega)
  | ⟨2, _⟩ => exact h2

/-- The block of the layer's input. -/
theorem block0 (t : Fin cfg0.N) (r : Fin 512) :
    row (iblk m c 0 t) r = fun e => V m c main_arg0 (ix3 (batch (grid0.coords t)) (token (grid0.coords t) r) e) := by
  funext e
  unfold row
  blk_simp [iblk]
  refine congrArg _ (place_eq _ r e _ ?_ ?_ ?_)
  · blk_simp
    exact word0 _
  · blk_simp
    exact congrArg (· * 512 + r.val) (word1 _)
  · blk_simp
    exact Nat.add_eq_right.mpr rfl

/-- The block of the recurrent branch's output. -/
theorem block1 (t : Fin cfg0.N) (r : Fin 512) :
    row (iblk m c 1 t) r = fun e => V m c main_arg1 (ix3 (batch (grid0.coords t)) (token (grid0.coords t) r) e) := by
  funext e
  unfold row
  blk_simp [iblk]
  refine congrArg _ (place_eq _ r e _ ?_ ?_ ?_)
  · blk_simp
    exact word0 _
  · blk_simp
    exact congrArg (· * 512 + r.val) (word1 _)
  · blk_simp
    exact Nat.add_eq_right.mpr rfl

/-- The block of the convolution branch's output. -/
theorem block2 (t : Fin cfg0.N) (r : Fin 512) :
    row (iblk m c 2 t) r = fun e => V m c main_arg2 (ix3 (batch (grid0.coords t)) (token (grid0.coords t) r) e) := by
  funext e
  unfold row
  blk_simp [iblk]
  refine congrArg _ (place_eq _ r e _ ?_ ?_ ?_)
  · blk_simp
    exact word0 _
  · blk_simp
    exact congrArg (· * 512 + r.val) (word1 _)
  · blk_simp
    exact Nat.add_eq_right.mpr rfl

/-- The block of the attention's output. -/
theorem block3 (t : Fin cfg0.N) (r : Fin 512) :
    row (iblk m c 3 t) r = fun e => V m c main_arg3 (ix3 (batch (grid0.coords t)) (token (grid0.coords t) r) e) := by
  funext e
  unfold row
  blk_simp [iblk]
  refine congrArg _ (place_eq _ r e _ ?_ ?_ ?_)
  · blk_simp
    exact word0 _
  · blk_simp
    exact congrArg (· * 512 + r.val) (word1 _)
  · blk_simp
    exact Nat.add_eq_right.mpr rfl

theorem block4 (t : Fin cfg0.N) : iblk m c 4 t = V m c main_v1 := by
  funext y
  blk_simp [iblk]
  refine congrArg _ (funext fun a => Fin.ext ?_)
  match a with
  | ⟨0, _⟩ =>
    blk_simp
    exact Nat.add_eq_right.mpr rfl
  | ⟨1, _⟩ =>
    blk_simp
    exact Nat.add_eq_right.mpr rfl

theorem block5 (t : Fin cfg0.N) : iblk m c 5 t = V m c main_v3 := by
  funext y
  blk_simp [iblk]
  refine congrArg _ (funext fun a => Fin.ext ?_)
  match a with
  | ⟨0, _⟩ =>
    blk_simp
    rfl
  | ⟨1, _⟩ =>
    blk_simp
    exact Nat.add_eq_right.mpr rfl

theorem block6 (t : Fin cfg0.N) : iblk m c 6 t = V m c main_v4 := by
  funext y
  blk_simp [iblk]
  refine congrArg _ (funext fun a => Fin.ext ?_)
  match a with
  | ⟨0, _⟩ =>
    blk_simp
    exact Nat.add_eq_right.mpr rfl
  | ⟨1, _⟩ =>
    blk_simp
    exact Nat.add_eq_right.mpr rfl

theorem block7 (t : Fin cfg0.N) : iblk m c 7 t = V m c main_v5 := by
  funext y
  blk_simp [iblk]
  refine congrArg _ (funext fun a => Fin.ext ?_)
  match a with
  | ⟨0, _⟩ =>
    blk_simp
    exact Nat.add_eq_right.mpr rfl
  | ⟨1, _⟩ =>
    blk_simp
    exact Nat.add_eq_right.mpr rfl

theorem block8 (t : Fin cfg0.N) : iblk m c 8 t = V m c main_v6 := by
  funext y
  blk_simp [iblk]
  refine congrArg _ (funext fun a => Fin.ext ?_)
  match a with
  | ⟨0, _⟩ =>
    blk_simp
    rfl
  | ⟨1, _⟩ =>
    blk_simp
    exact Nat.add_eq_right.mpr rfl

theorem block9 (t : Fin cfg0.N) : iblk m c 9 t = V m c main_v7 := by
  funext y
  blk_simp [iblk]
  refine congrArg _ (funext fun a => Fin.ext ?_)
  match a with
  | ⟨0, _⟩ =>
    blk_simp
    rfl
  | ⟨1, _⟩ =>
    blk_simp
    exact Nat.add_eq_right.mpr rfl

theorem block10 (t : Fin cfg0.N) : iblk m c 10 t = V m c main_v8 := by
  funext y
  blk_simp [iblk]
  refine congrArg _ (funext fun a => Fin.ext ?_)
  match a with
  | ⟨0, _⟩ =>
    blk_simp
    rfl
  | ⟨1, _⟩ =>
    blk_simp
    exact Nat.add_eq_right.mpr rfl

theorem place_out (t : Fin cfg0.N) (r : Fin 512) (o : Fin 1024) :
    (win0_11.blk t).view.emb (ix3 0 r o) = ix3 (batch (grid0.coords t)) (token (grid0.coords t) r) o := by
  refine place_eq _ r o _ ?_ ?_ ?_
  · blk_simp
    exact word0 _
  · blk_simp
    exact congrArg (· * 512 + r.val) (word1 _)
  · blk_simp
    exact Nat.add_eq_right.mpr rfl

section Rows
variable (x : Vec Ideal S8x2048x1024 .f32) (ya yb oc : Vec Ideal S8x2048x1024 .bf16) (wg : Vec Ideal S1024x4096 .bf16) (bg : Vec Ideal S1x4096 .f32)
  (woc wo : Vec Ideal S1024x1024 .bf16) (bo g b : Vec Ideal S1x1024 .f32)

/-- A row of the result. -/
def outRow (n : Fin 8) (t : Fin 2048) : Fin 1024 → EReal :=
  norm len eps (vec g) (vec b) (raw (fun e => x (ix3 n t e)) (fun e => ya (ix3 n t e)) (fun e => yb (ix3 n t e)) (fun e => oc (ix3 n t e)) (mat wg) (vec bg) (mat woc) (mat wo) (vec bo) alpha)

/-- The result. -/
def outArr (y : S8x2048x1024.Idx) : EReal := outRow x ya yb oc wg bg woc wo bo g b (y 0) (y 1) (y 2)

end Rows

/-- The array that the launch writes. -/
theorem arr_eq : (dats m 0 c).arrAt 11 cfg0.N = outArr (V m c main_arg0) (V m c main_arg1) (V m c main_arg2) (V m c main_arg3) (V m c main_v1) (V m c main_v3)
    (V m c main_v4) (V m c main_v5) (V m c main_v6) (V m c main_v7) (V m c main_v8) := by
  refine (dats m 0 c).arrAt_eq_of_covers 11 _ (by decide +kernel) fun t hf y => ?_
  simp only [after0_11]
  obtain ⟨r, o, rfl⟩ : ∃ (r : Fin 512) (o : Fin 1024), y = ix3 0 r o := ⟨y 1, y 2, (eq_ix3 y).trans (congrArg (fun a => ix3 a (y 1) (y 2)) (Fin.ext (by have := (y 0).isLt; exact Nat.lt_one_iff.mp this)))⟩
  blk_simp
  rw [place_out, out_apply]
  rw [block0, block1, block2, block3, block4, block5, block6, block7, block8, block9, block10]
  rfl

theorem v1_eq (d : Fin 1024) (j : Fin 4096) : V m c main_v1 (ix2 d j) = m ((c.tc : Thread nD τ).loc main_arg4) (ix2 d ⟨8208 + j.val, by omega⟩) := by
  have e : V m c main_v1 = (extractStridedSlice S1024x4096 ![0, 8208] (truncf .bf16 (m ((c.tc : Thread nD τ).loc main_arg4)) bitsLt_bf16_f32 : FVec Ideal S1024x12304 .bf16) slices_S1024x12304_S1024x4096_0_8208 : FVec Ideal S1024x4096 .bf16) := rfl
  rw [e]
  pointwise

theorem v3_eq (j : Fin 4096) : V m c main_v3 (ix2 0 j) = m ((c.tc : Thread nD τ).loc main_arg5) (ix1 ⟨8208 + j.val, by omega⟩) := by
  have e : V m c main_v3 = (shapeCast S1x4096 (extractStridedSlice S4096 ![8208] (m ((c.tc : Thread nD τ).loc main_arg5) : FVec Ideal S12304 .f32) slices_S12304_S4096_8208 : FVec Ideal S4096 .f32) shapeCasts_S4096_S1x4096 : FVec Ideal S1x4096 .f32) := rfl
  rw [e]
  pointwise

theorem v4_eq (y : S1024x1024.Idx) : V m c main_v4 y = m ((c.tc : Thread nD τ).loc main_arg6) y := rfl

theorem v5_eq (y : S1024x1024.Idx) : V m c main_v5 y = m ((c.tc : Thread nD τ).loc main_arg7) y := rfl

/-- A vector as a row of one line. -/
theorem line_apply (v : FVec Ideal S1024 .f32) (e : Fin 1024) : (shapeCast S1x1024 v shapeCasts_S1024_S1x1024 : FVec Ideal S1x1024 .f32) (ix2 0 e) = v (ix1 e) := by
  pointwise

theorem v6_eq (e : Fin 1024) : V m c main_v6 (ix2 0 e) = m ((c.tc : Thread nD τ).loc main_arg8) (ix1 e) := line_apply _ e

theorem v7_eq (e : Fin 1024) : V m c main_v7 (ix2 0 e) = m ((c.tc : Thread nD τ).loc main_arg9) (ix1 e) := line_apply _ e

theorem v8_eq (e : Fin 1024) : V m c main_v8 (ix2 0 e) = m ((c.tc : Thread nD τ).loc main_arg10) (ix1 e) := line_apply _ e

end Cert.MergeIdeal.Val
-- ==== Proof.MergeRef.lean ====
module

public import proofs.«01_k».proof.Proof.MergeRow
public import proofs.«01_k».proof.Proof.Gen.MergeReferenceIdeal.Run
public import Idealize.ShloMosaic.Lib.Pointwise
public import Idealize.ShloMosaic.Lib.IdealHost

/-!
The merge's reference at an index, stage by stage.
-/

@[expose] public section
set_option maxRecDepth 16384
noncomputable section
namespace Cert.MergeReferenceIdeal.Val
open Cert.MergeReferenceIdeal Cert.MergeReferenceIdeal.Gen Cert.MergeReferenceIdeal.Value Idealize.ShloMosaic Idealize.ShloMosaic.TcCoe Idealize.SL.Sem
open Cert.MergeRow (gate proj mixed raw mean norm col)

/-- Rows of the width of the layer, for every token. -/
abbrev Rows := FVec Ideal S8x2048x1024 .f32

section Stages
variable (x : Rows) (ya yb oc : FVec Ideal S8x2048x1024 .bf16) (w : FVec Ideal S1024x12304 .f32) (b : FVec Ideal S12304 .f32)
  (woc wo : FVec Ideal S1024x1024 .f32) (bo g bb : FVec Ideal S1024 .f32)

/-- The projection of the layer's input. -/
def inProj : FVec Ideal S8x2048x12304 .f32 :=
  addf (Host.dotGeneral dot_S8x2048x1024_S1024x12304_S8x2048x12304_2_0_01_1_n_n none x w) (broadcastInDim S8x2048x12304 ![0, 1, 2] bcast_S1x1x12304_S8x2048x12304_0_1_2 (broadcastInDim S1x1x12304 ![2] bcast_S12304_S1x1x12304_2 b))

/-- The convolution branch's gate. -/
def convGate (p : FVec Ideal S8x2048x12304 .f32) : Rows := extractStridedSlice S8x2048x1024 ![0, 0, 8208] p slices_S8x2048x12304_S8x2048x1024_0_0_8208

/-- The attention's share, gated and projected. -/
def branchC (gc : Rows) : Rows :=
  Host.dotGeneral dot_S8x2048x1024_S1024x1024_S8x2048x1024_2_0_01_1_n_n none (mulf (extf .f32 oc bitsLt_bf16_f32) (mulf gc (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf gc)))))) woc

/-- The three gates of the mixture. -/
def gates (p : FVec Ideal S8x2048x12304 .f32) : FVec Ideal S8x2048x3x1024 .f32 :=
  shapeCast _ (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (extractStridedSlice S8x2048x3072 ![0, 0, 9232] p slices_S8x2048x12304_S8x2048x3072_0_0_9232))))) shapeCasts_S8x2048x3072_S8x2048x3x1024

/-- The mixture of the three branches. -/
def mixture (gs : FVec Ideal S8x2048x3x1024 .f32) (yc : Rows) : Rows :=
  addf (addf (mulf (shapeCast _ (extractStridedSlice S8x2048x1x1024 ![0, 0, 0, 0] gs slices_S8x2048x3x1024_S8x2048x1x1024_0_0_0_0) shapeCasts_S8x2048x1x1024_S8x2048x1024) (extf .f32 ya bitsLt_bf16_f32))
    (mulf (shapeCast _ (extractStridedSlice S8x2048x1x1024 ![0, 0, 1, 0] gs slices_S8x2048x3x1024_S8x2048x1x1024_0_0_1_0) shapeCasts_S8x2048x1x1024_S8x2048x1024) (extf .f32 yb bitsLt_bf16_f32)))
    (mulf (shapeCast _ (extractStridedSlice S8x2048x1x1024 ![0, 0, 2, 0] gs slices_S8x2048x3x1024_S8x2048x1x1024_0_0_2_0) shapeCasts_S8x2048x1x1024_S8x2048x1024) yc)

/-- A vector, repeated for every token. -/
def rep (v : FVec Ideal S1024 .f32) : Rows := broadcastInDim S8x2048x1024 ![0, 1, 2] bcast_S1x1x1024_S8x2048x1024_0_1_2 (broadcastInDim S1x1x1024 ![2] bcast_S1024_S1x1x1024_2 v)

/-- The residual and the mixture's projection. -/
def residual (mx : Rows) : Rows :=
  addf (mulf (broadcastInDim S8x2048x1024 ![] bcast_S_S8x2048x1024 (constant S_ .f32 0x3FB504F3#32)) x) (addf (Host.dotGeneral dot_S8x2048x1024_S1024x1024_S8x2048x1024_2_0_01_1_n_n none mx wo) (rep bo))

/-- The mean of every row. -/
def means (z : Rows) : FVec Ideal S8x2048x1 .f32 :=
  Host.divf (broadcastInDim S8x2048x1 ![0, 1] bcast_S8x2048_S8x2048x1_0_1 (Host.reduceAdd z (constant S_ .f32 0x00000000#32) reducesTo_S8x2048x1024_S8x2048_d2 h_S_)) (broadcastInDim S8x2048x1 ![] bcast_S_S8x2048x1 (constant S_ .f32 0x44800000#32))

/-- The rows less their means. -/
def centred (z : Rows) : Rows := subf z (broadcastInDim S8x2048x1024 ![0, 1, 2] bcast_S8x2048x1_S8x2048x1024_0_1_2 (means z))

/-- The normalised rows. -/
def normed (z : Rows) : Rows :=
  addf (mulf (mulf (centred z) (broadcastInDim S8x2048x1024 ![0, 1, 2] bcast_S8x2048x1_S8x2048x1024_0_1_2 (Host.rsqrt (addf (means (mulf (centred z) (centred z))) (broadcastInDim S8x2048x1 ![] bcast_S_S8x2048x1 (constant S_ .f32 0x3727C5AC#32)))))) (rep g)) (rep bb)

/-- The whole of the reference. -/
def whole : Rows := normed g bb (residual x wo bo (mixture ya yb (gates (inProj x w b)) (branchC oc woc (convGate (inProj x w b)))))

end Stages

theorem res_eq (m : (ℓ : Loc nD τ sig) → Buf (Elt Ideal) ℓ) (c : Dev nD) :
    res_main_v60 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v60
  rfl

variable (x : Rows) (ya yb oc : FVec Ideal S8x2048x1024 .bf16) (w : FVec Ideal S1024x12304 .f32) (b : FVec Ideal S12304 .f32)
  (woc wo : FVec Ideal S1024x1024 .f32) (bo g bb : FVec Ideal S1024 .f32)

/-- The place of a gate's column among the projection's columns. -/
def wide (j : Fin 4096) : Fin 12304 := ⟨8208 + j.val, by omega⟩

theorem inProj_apply (n : Fin 8) (t : Fin 2048) (j : Fin 12304) :
    inProj x w b (ix3 n t j) = (∑ d : Fin 1024, x (ix3 n t d) * w (ix2 d j)) + b (ix1 j) := by
  unfold inProj
  pointwise

theorem convGate_apply (p : FVec Ideal S8x2048x12304 .f32) (n : Fin 8) (t : Fin 2048) (e : Fin 1024) :
    convGate p (ix3 n t e) = p (ix3 n t (wide (col 0 e))) := by
  unfold convGate
  pointwise
  exact congrArg (fun l => p (ix3 n t l)) (Fin.ext (show 8208 + e.val = 8208 + (1024 * 0 + e.val) by omega))

theorem branchC_apply (gc : Rows) (n : Fin 8) (t : Fin 2048) (e : Fin 1024) :
    branchC oc woc gc (ix3 n t e) = ∑ v : Fin 1024, oc (ix3 n t v) * (gc (ix3 n t v) * MergeRow.sig (gc (ix3 n t v))) * woc (ix2 v e) := by
  unfold branchC
  pointwise
  rfl

theorem gates_apply (p : FVec Ideal S8x2048x12304 .f32) (n : Fin 8) (t : Fin 2048) (j : Fin 3) (e : Fin 1024) :
    gates p (ix4 n t j e) = MergeRow.sig (p (ix3 n t (wide (col j.succ e)))) := by
  unfold gates
  pointwise
  exact congrArg (fun l => MergeRow.sig (p (ix3 n t l))) (Fin.ext (show 9232 + (j.val * 1024 + e.val) = 8208 + (1024 * (j.val + 1) + e.val) by omega))

theorem mixture_apply (gs : FVec Ideal S8x2048x3x1024 .f32) (yc : Rows) (n : Fin 8) (t : Fin 2048) (e : Fin 1024) :
    mixture ya yb gs yc (ix3 n t e) = gs (ix4 n t 0 e) * ya (ix3 n t e) + gs (ix4 n t 1 e) * yb (ix3 n t e) + gs (ix4 n t 2 e) * yc (ix3 n t e) := by
  unfold mixture
  pointwise

theorem residual_apply (mx : Rows) (n : Fin 8) (t : Fin 2048) (o : Fin 1024) :
    residual x wo bo mx (ix3 n t o) = Ideal.ofBits .f32 0x3FB504F3#32 * x (ix3 n t o) + ((∑ e : Fin 1024, mx (ix3 n t e) * wo (ix2 e o)) + bo (ix1 o)) := by
  unfold residual rep
  pointwise

theorem normed_apply (z : Rows) (n : Fin 8) (t : Fin 2048) (o : Fin 1024) :
    normed g bb z (ix3 n t o) = norm (Ideal.ofBits .f32 0x44800000#32) (Ideal.ofBits .f32 0x3727C5AC#32) (fun e => g (ix1 e)) (fun e => bb (ix1 e)) (fun e => z (ix3 n t e)) o := by
  unfold normed centred means rep
  pointwise
  rfl

theorem whole_apply (n : Fin 8) (t : Fin 2048) (o : Fin 1024) :
    whole x ya yb oc w b woc wo bo g bb (ix3 n t o) =
      norm (Ideal.ofBits .f32 0x44800000#32) (Ideal.ofBits .f32 0x3727C5AC#32) (fun e => g (ix1 e)) (fun e => bb (ix1 e))
        (raw (fun e => x (ix3 n t e)) (fun e => ya (ix3 n t e)) (fun e => yb (ix3 n t e)) (fun e => oc (ix3 n t e))
          (fun d j => w (ix2 d (wide j))) (fun j => b (ix1 (wide j))) (fun d e => woc (ix2 d e)) (fun d e => wo (ix2 d e))
          (fun e => bo (ix1 e)) (Ideal.ofBits .f32 0x3FB504F3#32)) o := by
  unfold whole
  rw [normed_apply]
  refine congrArg (fun z => norm _ _ _ _ z o) (funext fun r => ?_)
  rw [residual_apply]
  refine congrArg₂ (· + ·) rfl (congrArg₂ (· + ·) (Finset.sum_congr rfl fun e _ => congrArg (· * wo (ix2 e r)) ?_) rfl)
  rw [mixture_apply]
  simp only [gates_apply, branchC_apply, convGate_apply, inProj_apply]
  rfl

end Cert.MergeReferenceIdeal.Val
-- ==== Proof.MergeJoin.lean ====
module

public import proofs.«01_k».proof.Proof.MergeArray
public import proofs.«01_k».proof.Proof.MergeRef

/-!
The merge's result, computed by the launch and by the reference.
-/

@[expose] public section
set_option maxRecDepth 16384
noncomputable section
namespace Cert.MergeJoin
open Cert.MergeIdeal Cert.MergeIdeal.Gen Cert.MergeIdeal.Val Idealize.ShloMosaic Idealize.ShloMosaic.TcCoe Idealize.SL.Sem
open Cert.MergeRow (norm raw)

variable (m : (ℓ : Loc nD τ sig) → Buf (Elt Ideal) ℓ) (c : Dev nD)

/-- The array that the launch writes is what the reference computes of the same arguments. -/
theorem arr_eq_whole : (dats m 0 c).arrAt 11 cfg0.N = Cert.MergeReferenceIdeal.Val.whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) := by
  rw [arr_eq]
  funext y
  obtain ⟨n, t, o, rfl⟩ : ∃ (n : Fin 8) (t : Fin 2048) (o : Fin 1024), y = ix3 n t o := ⟨y 0, y 1, y 2, eq_ix3 y⟩
  rw [Cert.MergeReferenceIdeal.Val.whole_apply, V_main_arg0, V_main_arg1, V_main_arg2, V_main_arg3]
  show outRow _ _ _ _ _ _ _ _ _ _ _ n t o = _
  unfold outRow
  have e1 : mat (V m c main_v1) = fun d j => m ((c.tc : Thread nD τ).loc main_arg4) (ix2 d (Cert.MergeReferenceIdeal.Val.wide j)) := funext fun d => funext fun j => v1_eq m c d j
  have e3 : vec (V m c main_v3) = fun j => m ((c.tc : Thread nD τ).loc main_arg5) (ix1 (Cert.MergeReferenceIdeal.Val.wide j)) := funext fun j => v3_eq m c j
  have e4 : mat (V m c main_v4) = fun d e => m ((c.tc : Thread nD τ).loc main_arg6) (ix2 d e) := funext fun d => funext fun e => v4_eq m c (ix2 d e)
  have e5 : mat (V m c main_v5) = fun d e => m ((c.tc : Thread nD τ).loc main_arg7) (ix2 d e) := funext fun d => funext fun e => v5_eq m c (ix2 d e)
  have e6 : vec (V m c main_v6) = fun e => m ((c.tc : Thread nD τ).loc main_arg8) (ix1 e) := funext fun e => v6_eq m c e
  have e7 : vec (V m c main_v7) = fun e => m ((c.tc : Thread nD τ).loc main_arg9) (ix1 e) := funext fun e => v7_eq m c e
  have e8 : vec (V m c main_v8) = fun e => m ((c.tc : Thread nD τ).loc main_arg10) (ix1 e) := funext fun e => v8_eq m c e
  rw [e1, e3, e4, e5, e6, e7, e8]

end Cert.MergeJoin
-- ==== Proof.Steps.lean ====
/-
  Rules for a body of very many loads and stores of which a proof follows only a few buffers. An assertion holds every
  buffer the body touches; a rule says that an operation on one of them takes the assertion to itself, whatever was read
  or written, or names what was read where the buffer's contents are named. The rules compose along the program, so that
  the proof of a long body is a short script.
-/
module

public import Idealize.ShloMosaic.Lib.Pipeline.FrameBody
public import Idealize.ShloMosaic.Lib.Pipeline.Frame
public import Idealize.ShloMosaic.Lib.Tactic

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The resource algebra of the runs. -/
abbrev Alg (nD : Nat) (τ : Topo) (sig : RefSig) (Val : EltTy → Type) := MT nD τ sig Unit Val ℕ (UR sig nD τ) ℕ

/-- The program `p`, from `I`, ends at a value that satisfies `R` and at `I'`. -/
def Tr (defs : Defs nD τ sig Val Λ) (c : Thread nD τ) {α : Type} (I : sProp (Alg nD τ sig Val)) (p : Prog (TpuEff nD τ sig Val Λ c.2) α)
    (I' : sProp (Alg nD τ sig Val)) (R : α → Prop) : Prop :=
  I ⊢ wp frame (wpE defs Variants.none c none) Set.univ p (fun r => iprop(⌜R r⌝ ∗ I'))

/-- `I` holds the buffer `m` and takes it back with any contents. -/
def Lends (c : Thread nD τ) {sp : Space} {s : Shape} {e : EltTy} (I : sProp (Alg nD τ sig Val)) (m : Memref sig c.2.kind sp s e) : Prop :=
  I ⊢ iprop((∃ d, owns c m fullShare d) ∗ ((∃ d, owns c m fullShare d) -∗ I))

/-- `I` holds the buffer `m` at the contents `d`. -/
def Keeps (c : Thread nD τ) {sp : Space} {s : Shape} {e : EltTy} (I : sProp (Alg nD τ sig Val)) (m : Memref sig c.2.kind sp s e)
    (d : s.Idx → Val e) : Prop :=
  I ⊢ iprop(owns c m fullShare d ∗ (owns c m fullShare d -∗ I))

/-- `I` holds the buffer `m` at some contents, and takes it back with those. -/
def Shows (c : Thread nD τ) {sp : Space} {s : Shape} {e : EltTy} (I : sProp (Alg nD τ sig Val)) (m : Memref sig c.2.kind sp s e) : Prop :=
  I ⊢ iprop(∃ d, owns c m fullShare d ∗ (owns c m fullShare d -∗ I))

variable {defs : Defs nD τ sig Val Λ} {c : Thread nD τ} {α β : Type} {I I₁ I' : sProp (Alg nD τ sig Val)}

theorem Lends.shows {sp : Space} {s : Shape} {e : EltTy} {m : Memref sig c.2.kind sp s e} (h : Lends c I m) : Shows c I m := by
  refine BIBase.Entails.trans h ?_
  iintro ⟨⟨%d, H⟩, Hk⟩
  iexists d
  isplitl [H]; · iexact H
  iintro H
  iapply Hk
  iexists d; iexact H

theorem Keeps.shows {sp : Space} {s : Shape} {e : EltTy} {m : Memref sig c.2.kind sp s e} {d : s.Idx → Val e} (h : Keeps c I m d) : Shows c I m := by
  refine BIBase.Entails.trans h ?_
  iintro ⟨H, Hk⟩
  iexists d
  isplitl [H]; · iexact H
  iexact Hk

theorem tr_pure {R : α → Prop} {r : α} (h : R r) : Tr defs c I (pure r) I R := by
  unfold Tr
  rw [wp_pure]
  refine BIBase.Entails.trans ?_ fupd_intro
  iintro H
  isplitr; · ipureintro; exact h
  iexact H

theorem tr_bind {R : α → Prop} {R' : β → Prop} {p : Prog (TpuEff nD τ sig Val Λ c.2) α} {k : α → Prog (TpuEff nD τ sig Val Λ c.2) β}
    (h : Tr defs c I p I₁ R) (hk : ∀ r, R r → Tr defs c I₁ (k r) I' R') : Tr defs c I (p >>= k) I' R' := by
  unfold Tr at *
  rw [wp_bind]
  refine BIBase.Entails.trans h (wp_mono _ _ _ fun r => ?_)
  iintro ⟨%hr, H⟩
  ihave H := (hk r hr) $$ H
  iexact H

/-- A part of which only the assertion after it is kept. -/
theorem tr_bindS {R' : β → Prop} {p : Prog (TpuEff nD τ sig Val Λ c.2) α} {k : α → Prog (TpuEff nD τ sig Val Λ c.2) β}
    (h : Tr defs c I p I₁ fun _ => True) (hk : ∀ r, Tr defs c I₁ (k r) I' R') : Tr defs c I (p >>= k) I' R' :=
  tr_bind h fun r _ => hk r

/-- A part that takes the assertion to itself. -/
theorem tr_bindT {R' : β → Prop} {p : Prog (TpuEff nD τ sig Val Λ c.2) α} {k : α → Prog (TpuEff nD τ sig Val Λ c.2) β}
    (h : Tr defs c I p I fun _ => True) (hk : ∀ r, Tr defs c I (k r) I' R') : Tr defs c I (p >>= k) I' R' :=
  tr_bind h fun r _ => hk r

theorem tr_dite {R : α → Prop} {C : Prop} [Decidable C] {p : C → Prog (TpuEff nD τ sig Val Λ c.2) α} {p' : ¬C → Prog (TpuEff nD τ sig Val Λ c.2) α}
    (h : ∀ x, Tr defs c I (p x) I' R) (h' : ∀ x, Tr defs c I (p' x) I' R) : Tr defs c I (dite C p p') I' R := by
  by_cases x : C
  · rw [dif_pos x]; exact h x
  · rw [dif_neg x]; exact h' x

theorem tr_load {cs : CoreSpace} {s : Shape} {e : EltTy} {m : Memref sig c.2.kind cs s e} {r : LoadRect s} {hl : m.view.LoadsAt r}
    (h : Shows c I m) : Tr defs c I (Prog.lift (.load m r hl)) I fun _ => True := by
  unfold Tr
  refine BIBase.Entails.trans h ?_
  unfold owns
  iintro ⟨%d, ⟨%f, %hf, H⟩, Hk⟩
  iapply (wp_load Variants.none c none Set.univ (View.setOn_subset_set _ _)) $$ H
  iintro H
  iapply (le_wp_ret _ _ _ _ _)
  isplitr; · ipureintro; trivial
  iapply Hk
  iexists f
  isplitr; · ipureintro; exact hf
  iexact H

theorem tr_bind_in {R' : β → Prop} {cs : CoreSpace} {s : Shape} {e : EltTy} {m : Memref sig c.2.kind cs s e} {r : Rect s} {hl : m.view.LoadsAt r.toLoadRect}
    {d : s.Idx → Val e} {k : (r.shape.Idx → Val e) → Prog (TpuEff nD τ sig Val Λ c.2) β}
    (h : Keeps c I m d) (hk : Tr defs c I (k (View.ld d r)) I' R') : Tr defs c I (Prog.lift (.load m r.toLoadRect hl) >>= k) I' R' := by
  refine tr_bind (R := fun x => x = View.ld d r) (I₁ := I) ?_ fun x hx => hx ▸ hk
  unfold Tr
  refine BIBase.Entails.trans h ?_
  unfold owns
  iintro ⟨⟨%f, %hf, H⟩, Hk⟩
  iapply (wp_load Variants.none c none Set.univ (View.setOn_subset_set _ _)) $$ H
  iintro H
  iapply (le_wp_ret _ _ _ _ _)
  isplitr; · ipureintro; rw [← hf]; rfl
  iapply Hk
  iexists f
  isplitr; · ipureintro; exact hf
  iexact H

/-- A store into a buffer, by what it does to the buffer alone. -/
theorem tr_put {cs : CoreSpace} {s : Shape} {e : EltTy} {m : Memref sig c.2.kind cs s e} {r : Rect s} {w : r.shape.Idx → Val e} {Mk : Finset r.shape.Idx}
    {hx : (m.access r).Stores Mk} {hm : Mk = Finset.univ ∨ ∀ a, r.stride a = 1} {P : (s.Idx → Val e) → Prop}
    (h : I ⊢ iprop(∃ d, ⌜P d⌝ ∗ owns c m fullShare d
      ∗ (∀ f, ⌜m.view.read Val f = d⌝ -∗ owns c m fullShare (m.view.read Val ((m.access r).write Val f w Mk)) -∗ I'))) :
    Tr defs c I (Prog.lift (.store m r w Mk hx hm)) I' fun _ => True := by
  unfold Tr
  refine BIBase.Entails.trans h ?_
  unfold owns
  iintro ⟨%d, -, ⟨%f, %hf, H⟩, Hk⟩
  iapply (wp_store Variants.none c none Set.univ (hx := hx) (hm := hm) ((View.setOn_subset_set _ _).trans (by rw [View.set_slice]; exact View.setOn_subset_set _ _))) $$ H
  iintro H
  iapply (le_wp_ret _ _ _ _ _)
  isplitr; · ipureintro; trivial
  iapply Hk $$ %f
  · ipureintro; exact hf
  iexists _
  isplitr; swap; · iexact H
  ipureintro; rfl

theorem tr_store {cs : CoreSpace} {s : Shape} {e : EltTy} {m : Memref sig c.2.kind cs s e} {r : Rect s} {w : r.shape.Idx → Val e} {Mk : Finset r.shape.Idx}
    {hx : (m.access r).Stores Mk} {hm : Mk = Finset.univ ∨ ∀ a, r.stride a = 1} (h : Lends c I m) :
    Tr defs c I (Prog.lift (.store m r w Mk hx hm)) I fun _ => True := by
  refine tr_put (P := fun _ => True) (BIBase.Entails.trans h ?_)
  iintro ⟨⟨%d, H⟩, Hk⟩
  iexists d
  isplitr; · ipureintro; trivial
  isplitl [H]; · iexact H
  iintro %f - H
  iapply Hk
  iexists _; iexact H

section borrow

variable {P J : sProp (Alg nD τ sig Val)} {sp : Space} {s : Shape} {e : EltTy} {m : Memref sig c.2.kind sp s e} {d : s.Idx → Val e}

theorem lends_last : Lends c (iprop(∃ d : s.Idx → Val e, owns c m fullShare d)) m := by
  unfold Lends
  iintro H
  isplitl [H]; · iexact H
  iintro H
  iexact H

theorem lends_here : Lends c (iprop((∃ d : s.Idx → Val e, owns c m fullShare d) ∗ J)) m := by
  unfold Lends
  iintro ⟨H, HJ⟩
  isplitl [H]; · iexact H
  iintro H
  isplitl [H]; · iexact H
  iexact HJ

theorem lends_there (h : Lends c J m) : Lends c (iprop(P ∗ J)) m := by
  unfold Lends at *
  iintro ⟨HP, HJ⟩
  ihave HJ := h $$ HJ
  icases HJ with ⟨H, Hk⟩
  isplitl [H]; · iexact H
  iintro H
  isplitl [HP]; · iexact HP
  iapply Hk; iexact H

theorem keeps_here : Keeps c (iprop(owns c m fullShare d ∗ J)) m d := by
  unfold Keeps
  iintro ⟨H, HJ⟩
  isplitl [H]; · iexact H
  iintro H
  isplitl [H]; · iexact H
  iexact HJ

theorem keeps_there (h : Keeps c J m d) : Keeps c (iprop(P ∗ J)) m d := by
  unfold Keeps at *
  iintro ⟨HP, HJ⟩
  ihave HJ := h $$ HJ
  icases HJ with ⟨H, Hk⟩
  isplitl [H]; · iexact H
  iintro H
  isplitl [HP]; · iexact HP
  iapply Hk; iexact H

theorem shows_here {C : (s.Idx → Val e) → Prop} : Shows c (iprop((∃ d, ⌜C d⌝ ∗ owns c m fullShare d) ∗ J)) m := by
  unfold Shows
  iintro ⟨⟨%d, %hd, H⟩, HJ⟩
  iexists d
  isplitl [H]; · iexact H
  iintro H
  isplitl [H]
  · iexists d; isplitr; · ipureintro; exact hd
    iexact H
  iexact HJ

theorem shows_there (h : Shows c J m) : Shows c (iprop(P ∗ J)) m := by
  unfold Shows at *
  iintro ⟨HP, HJ⟩
  ihave HJ := h $$ HJ
  icases HJ with ⟨%d, H, Hk⟩
  iexists d
  isplitl [H]; · iexact H
  iintro H
  isplitl [HP]; · iexact HP
  iapply Hk; iexact H

end borrow

/-- A load of a lent buffer, at the head of a program. -/
theorem ld {R' : β → Prop} {cs : CoreSpace} {s : Shape} {e : EltTy} {m : Memref sig c.2.kind cs s e} {r : LoadRect s} {hl : m.view.LoadsAt r}
    {k : (r.shape.Idx → Val e) → Prog (TpuEff nD τ sig Val Λ c.2) β} (h : Lends c I m) (hk : ∀ x, Tr defs c I (k x) I' R') :
    Tr defs c I (Prog.lift (.load m r hl) >>= k) I' R' :=
  tr_bindT (tr_load h.shows) hk

/-- A load of a buffer whose contents the proof does not use, at the head of a program. -/
theorem ldo {R' : β → Prop} {cs : CoreSpace} {s : Shape} {e : EltTy} {m : Memref sig c.2.kind cs s e} {r : LoadRect s} {hl : m.view.LoadsAt r}
    {k : (r.shape.Idx → Val e) → Prog (TpuEff nD τ sig Val Λ c.2) β} (h : Shows c I m) (hk : ∀ x, Tr defs c I (k x) I' R') :
    Tr defs c I (Prog.lift (.load m r hl) >>= k) I' R' :=
  tr_bindT (tr_load h) hk

/-- A store into a lent buffer, at the head of a program. -/
theorem st {R' : β → Prop} {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    {k : PUnit → Prog (TpuEff nD τ sig Val Λ c.2) β} (h : Lends c I m) (hk : ∀ x, Tr defs c I (k x) I' R') :
    Tr defs c I (Prog.lift (.store m r w Mk hx hm) >>= k) I' R' :=
  tr_bindT (tr_store h) hk

end Cert.Steps

end
-- ==== Proof.ProjectionsIdealColumns.lean ====
/-
  The column groups of the projecting branch: a step writes its blocks of queries, keys and values 256 columns at a time.
-/
module

public import proofs.«01_k».proof.Proof.Steps
public import proofs.«01_k».proof.Proof.Gen.ProjectionsIdeal.Frame
public import proofs.«01_k».proof.Proof.Gen.ProjectionsIdeal.Skeleton

@[expose] public section

set_option maxRecDepth 65536

noncomputable section

namespace Cert.ProjectionsIdeal.Hand

open Cert.ProjectionsIdeal Cert.ProjectionsIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The columns `256 g … 256 g + 255` of a block of tokens, of a weight and of a bias. -/
abbrev colT (g : Fin 4) : Rect S8x64x1024 := Rect.unit ![0, 0, 256 * g.val] S8x64x256.size (by revert g; decide)
abbrev colW (g : Fin 4) : Rect S1x1024x1024 := Rect.unit ![0, 0, 256 * g.val] S1x1024x256.size (by revert g; decide)
abbrev colB (g : Fin 4) : Rect S1x1x1024 := Rect.unit ![0, 0, 256 * g.val] S1x1x256.size (by revert g; decide)

/-- What the step writes into a column group: of the queries, with the scale, and of the keys or the values. -/
abbrev scaled (x : Vec F S8x64x1024 .f32) (w : Vec F S1x1024x1024 .bf16) (b : Vec F S1x1x1024 .f32) (g : Fin 4) : FVec F S8x64x256 .bf16 :=
  k0_pay219 (k0_pay46 (View.ld x (Rect.unit (s := S8x64x1024) ![0, 0, 0] S8x64x1024.size inb_S8x64x1024_S8x64x1024_0_0_0))) (View.ld w (colW g)) (View.ld b (colB g))
abbrev plain (x : Vec F S8x64x1024 .f32) (w : Vec F S1x1024x1024 .bf16) (b : Vec F S1x1x1024 .f32) (g : Fin 4) : FVec F S8x64x256 .bf16 :=
  k0_pay372 (k0_pay46 (View.ld x (Rect.unit (s := S8x64x1024) ![0, 0, 0] S8x64x1024.size inb_S8x64x1024_S8x64x1024_0_0_0))) (View.ld w (colW g)) (View.ld b (colB g))

/-- The columns that the first `s` stores of an output have filled hold what the step computes for them. -/
def Good (s j : ℕ) (E : Fin 4 → S8x64x256.Idx → Elt F .bf16) (X : S8x64x1024.Idx → Elt F .bf16) : Prop :=
  ∀ g : Fin 4, 3 * g.val + j < s → ∀ y, X ((colT g).emb y) = E g y

/-- One more store fills one more column group. -/
theorem good_put {sp : Space} (m : Memref sig .tc sp S8x64x1024 .bf16) (f : m.view.ty.Contents (Elt F)) (s j : ℕ) (g : Fin 4) (hs : s = 3 * g.val + j)
    (E : Fin 4 → S8x64x256.Idx → Elt F .bf16) (h : Good s j E (m.view.read (Elt F) f)) :
    Good (s + 1) j E (m.view.read (Elt F) ((m.access (colT g)).write (Elt F) f (E g) Finset.univ)) := by
  intro g' hg' y
  by_cases hgg : g' = g
  · subst hgg
    exact View.read_slice_write_emb (v := m.view) (colT g') f (E g') (Finset.mem_univ y)
  · have hlt : 3 * g'.val + j < s := by
      have : g'.val ≠ g.val := fun e => hgg (Fin.ext e)
      omega
    refine (View.read_slice_write_of_not_mem (v := m.view) (colT g) f (E g) Finset.univ ?_).trans (h g' hlt y)
    rw [Rect.map_emb_univ]
    intro hm
    obtain ⟨z, hz⟩ := (colT g).exists_idx_of_mem hm
    have e := congrArg Fin.val (congrFun hz 2)
    have e1 : ((colT g).emb z 2).val = 256 * g.val + 1 * (z 2).val := rfl
    have e2 : ((colT g').emb y 2).val = 256 * g'.val + 1 * (y 2).val := rfl
    have hz2 : (z 2).val < 256 := (z 2).isLt
    have hy2 : (y 2).val < 256 := (y 2).isLt
    have : g'.val ≠ g.val := fun e => hgg (Fin.ext e)
    have e3 : ((colT g).emb z 2).val = ((colT g').emb y 2).val := e
    omega

/-- What is filled later asks nothing of an output now. -/
theorem good_skip (s j : ℕ) (E : Fin 4 → S8x64x256.Idx → Elt F .bf16) (X : S8x64x1024.Idx → Elt F .bf16) (hs : ∀ g : Fin 4, 3 * g.val + j ≠ s)
    (h : Good s j E X) : Good (s + 1) j E X := fun g hg y => h g (by have := hs g; omega) y

end Cert.ProjectionsIdeal.Hand

end
-- ==== Proof.ProjectionsIdealPartsA.lean ====
/-
  The body of the projecting branch, part by part. The body holds thirty-four buffers; all but ten are lent to each
  operation and taken back with any contents. The block of tokens, the three weights and the three biases keep theirs,
  and the blocks of queries, keys and values receive four column groups each, in a fixed order: the assertion `I s`
  says that the first `s` of these twelve stores have been made.
-/
module

public import proofs.«01_k».proof.Proof.Steps
public import proofs.«01_k».proof.Proof.ProjectionsIdealColumns
public import proofs.«01_k».proof.Proof.Gen.ProjectionsIdeal.Frame
public import proofs.«01_k».proof.Proof.Gen.ProjectionsIdeal.Skeleton

@[expose] public section

set_option maxRecDepth 65536

noncomputable section

namespace Cert.ProjectionsIdeal.Hand

open Cert.ProjectionsIdeal Cert.ProjectionsIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S8x64x1024 .f32) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x128 .f32) (harg15 : arg15.IsWhole) (arg16 : Memref sig .tc .vmem S31x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S384x128 .bf16) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x64x128 .bf16) (harg26 : arg26.IsWhole) (arg27 : Memref sig .tc .vmem S8x1504x128 .f32) (harg27 : arg27.IsWhole) (arg28 : Memref sig .tc .vmem S8x512x128 .f32) (harg28 : arg28.IsWhole) (arg29 : Memref sig .tc .vmem S2x512x1024 .f32) (harg29 : arg29.IsWhole) (arg30 : Memref sig .tc .vmem S512x1024 .bf16) (harg30 : arg30.IsWhole) (arg31 : Memref sig .tc .vmem S32x8x1024 .f32) (harg31 : arg31.IsWhole) (arg32 : Memref sig .tc .vmem S1x512x128 .f32) (harg32 : arg32.IsWhole) (arg33 : Memref sig .tc .vmem S8x128 .f32) (harg33 : arg33.IsWhole) (arg34 : Memref sig .tc .vmem S8x128 .f32) (harg34 : arg34.IsWhole)
variable (x : Vec F S8x64x1024 .f32) (wq wk wv : Vec F S1x1024x1024 .bf16) (bq bk bv : Vec F S1x1x1024 .f32)
variable (I : ℕ → sProp (Steps.Alg nD τ sig (Elt F)))
variable (h5 : ∀ s, Keeps (c : Thread nD τ) (I s) arg5 wq)
variable (h6 : ∀ s, Keeps (c : Thread nD τ) (I s) arg6 wk)
variable (h7 : ∀ s, Keeps (c : Thread nD τ) (I s) arg7 wv)
variable (h12 : ∀ s, Keeps (c : Thread nD τ) (I s) arg12 bq)
variable (h13 : ∀ s, Keeps (c : Thread nD τ) (I s) arg13 bk)
variable (h14 : ∀ s, Keeps (c : Thread nD τ) (I s) arg14 bv)
variable (h1 : ∀ s, Keeps (c : Thread nD τ) (I s) arg1 x)
variable (h2 : ∀ s, Lends (c : Thread nD τ) (I s) arg2)
variable (h3 : ∀ s, Lends (c : Thread nD τ) (I s) arg3)
variable (h4 : ∀ s, Lends (c : Thread nD τ) (I s) arg4)
variable (h8 : ∀ s, Lends (c : Thread nD τ) (I s) arg8)
variable (h9 : ∀ s, Lends (c : Thread nD τ) (I s) arg9)
variable (h10 : ∀ s, Lends (c : Thread nD τ) (I s) arg10)
variable (h11 : ∀ s, Lends (c : Thread nD τ) (I s) arg11)
variable (h15 : ∀ s, Lends (c : Thread nD τ) (I s) arg15)
variable (h16 : ∀ s, Lends (c : Thread nD τ) (I s) arg16)
variable (h17 : ∀ s, Lends (c : Thread nD τ) (I s) arg17)
variable (h18 : ∀ s, Lends (c : Thread nD τ) (I s) arg18)
variable (h19 : ∀ s, Lends (c : Thread nD τ) (I s) arg19)
variable (h20 : ∀ s, Lends (c : Thread nD τ) (I s) arg20)
variable (h21 : ∀ s, Lends (c : Thread nD τ) (I s) arg21)
variable (h22 : ∀ s, Lends (c : Thread nD τ) (I s) arg22)
variable (h26 : ∀ s, Lends (c : Thread nD τ) (I s) arg26)
variable (h27 : ∀ s, Lends (c : Thread nD τ) (I s) arg27)
variable (h28 : ∀ s, Lends (c : Thread nD τ) (I s) arg28)
variable (h29 : ∀ s, Lends (c : Thread nD τ) (I s) arg29)
variable (h30 : ∀ s, Lends (c : Thread nD τ) (I s) arg30)
variable (h31 : ∀ s, Lends (c : Thread nD τ) (I s) arg31)
variable (h32 : ∀ s, Lends (c : Thread nD τ) (I s) arg32)
variable (h33 : ∀ s, Lends (c : Thread nD τ) (I s) arg33)
variable (h34 : ∀ s, Lends (c : Thread nD τ) (I s) arg34)
variable (h23 : ∀ s, Shows (c : Thread nD τ) (I s) arg23)
variable (h24 : ∀ s, Shows (c : Thread nD τ) (I s) arg24)
variable (h25 : ∀ s, Shows (c : Thread nD τ) (I s) arg25)
variable (hq : ∀ (g : Fin 4) hx hm, Tr (defs₀ (F := F)) (c : Thread nD τ) (I (3 * g.val)) (Prog.lift (.store arg23 (colT g) (scaled x wq bq g) Finset.univ hx hm)) (I (3 * g.val + 1)) fun _ => True)
variable (hk : ∀ (g : Fin 4) hx hm, Tr (defs₀ (F := F)) (c : Thread nD τ) (I (3 * g.val + 1)) (Prog.lift (.store arg24 (colT g) (plain x wk bk g) Finset.univ hx hm)) (I (3 * g.val + 2)) fun _ => True)
variable (hv : ∀ (g : Fin 4) hx hm, Tr (defs₀ (F := F)) (c : Thread nD τ) (I (3 * g.val + 2)) (Prog.lift (.store arg25 (colT g) (plain x wv bv g) Finset.univ hx hm)) (I (3 * g.val + 3)) fun _ => True)
include h5 h6 h7 h12 h13 h14 h1 h2 h3 h4 h8 h9 h10 h11 h15 h16 h17 h18 h19 h20 h21 h22 h26 h27 h28 h29 h30 h31 h32 h33 h34 h23 h24 h25 hq hk hv

set_option maxHeartbeats 40000000 in
/-- The parts of the body that `k0_part631` calls. -/
theorem part631  : Tr (defs₀ (F := F)) (c : Thread nD τ) (I 0) (k0_part631 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 ) (I 0) (fun r => r.2.2.2.2.2.1 = (k0_pay46 (View.ld x (Rect.unit (s := S8x64x1024) ![0, 0, 0] S8x64x1024.size inb_S8x64x1024_S8x64x1024_0_0_0)))) := by
  rw [k0_part631_eq_skeleton]; unfold k0_part631_skel
  refine tr_bind (I₁ := I 0) (R := fun r => r.2.2.2.2.2.1 = (k0_pay46 (View.ld x (Rect.unit (s := S8x64x1024) ![0, 0, 0] S8x64x1024.size inb_S8x64x1024_S8x64x1024_0_0_0)))) ?_ ?_
  · rw [k0_part8_eq_skeleton]; unfold k0_part8_skel
    dsimp only
    refine tr_dite (fun _ => ?_) (fun _ => ?_)
    · refine tr_bindT ?_ fun _ => ?_
      · rw [k0_part1_eq_skeleton]; unfold k0_part1_skel
        refine ld (h27 _) fun _ => ?_
        refine st (h27 _) fun _ => ?_
        refine ld (h29 _) fun _ => ?_
        refine st (h29 _) fun _ => ?_
        refine ld (h30 _) fun _ => ?_
        refine st (h30 _) fun _ => ?_
        refine ld (h33 _) fun _ => ?_
        refine st (h33 _) fun _ => ?_
        refine ld (h34 _) fun _ => ?_
        refine st (h34 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part2_eq_skeleton]; unfold k0_part2_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part3_eq_skeleton]; unfold k0_part3_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part4_eq_skeleton]; unfold k0_part4_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part5_eq_skeleton]; unfold k0_part5_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part6_eq_skeleton]; unfold k0_part6_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        exact tr_pure trivial
      refine tr_bindT ?_ fun _ => ?_
      · rw [k0_part7_eq_skeleton]; unfold k0_part7_skel
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h16 _) fun _ => ?_
        refine ld (h31 _) fun _ => ?_
        refine st (h31 _) fun _ => ?_
        refine ld (h17 _) fun _ => ?_
        exact tr_pure trivial
      refine ld (h31 _) fun _ => ?_
      refine st (h31 _) fun _ => ?_
      refine tr_bind_in (h1 _) ?_
      iterate 5 first | refine ld (h31 _) fun _ => ?_ | refine ld (h27 _) fun _ => ?_
      exact tr_pure rfl
    · refine tr_bind_in (h1 _) ?_
      iterate 5 first | refine ld (h31 _) fun _ => ?_ | refine ld (h27 _) fun _ => ?_
      exact tr_pure rfl
  rintro ⟨a0, a1, a2, a3, a4, a5, a6, a7, a8⟩ e; obtain rfl := e
  iterate 8
    refine tr_bindT ?_ (fun _ => ?_)
    · first | rw [k0_part9_eq_skeleton]; unfold k0_part9_skel | rw [k0_part10_eq_skeleton]; unfold k0_part10_skel | rw [k0_part11_eq_skeleton]; unfold k0_part11_skel | rw [k0_part12_eq_skeleton]; unfold k0_part12_skel | rw [k0_part13_eq_skeleton]; unfold k0_part13_skel | rw [k0_part14_eq_skeleton]; unfold k0_part14_skel | rw [k0_part15_eq_skeleton]; unfold k0_part15_skel | rw [k0_part16_eq_skeleton]; unfold k0_part16_skel
      iterate 7 first | refine ld (h31 _) fun _ => ?_ | refine ld (h27 _) fun _ => ?_
      exact tr_pure trivial
  refine tr_bindT ?_ (fun _ => ?_)
  · rw [k0_part17_eq_skeleton]; unfold k0_part17_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part18_eq_skeleton]; unfold k0_part18_skel | rw [k0_part19_eq_skeleton]; unfold k0_part19_skel | rw [k0_part20_eq_skeleton]; unfold k0_part20_skel | rw [k0_part21_eq_skeleton]; unfold k0_part21_skel | rw [k0_part22_eq_skeleton]; unfold k0_part22_skel | rw [k0_part23_eq_skeleton]; unfold k0_part23_skel | rw [k0_part24_eq_skeleton]; unfold k0_part24_skel | rw [k0_part25_eq_skeleton]; unfold k0_part25_skel
      iterate 7 first | refine ld (h31 _) fun _ => ?_ | refine ld (h27 _) fun _ => ?_
      exact tr_pure trivial
  refine tr_bindT ?_ (fun _ => ?_)
  · rw [k0_part26_eq_skeleton]; unfold k0_part26_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part27_eq_skeleton]; unfold k0_part27_skel | rw [k0_part28_eq_skeleton]; unfold k0_part28_skel | rw [k0_part29_eq_skeleton]; unfold k0_part29_skel | rw [k0_part30_eq_skeleton]; unfold k0_part30_skel | rw [k0_part31_eq_skeleton]; unfold k0_part31_skel | rw [k0_part32_eq_skeleton]; unfold k0_part32_skel | rw [k0_part33_eq_skeleton]; unfold k0_part33_skel | rw [k0_part34_eq_skeleton]; unfold k0_part34_skel
      iterate 7 first | refine ld (h31 _) fun _ => ?_ | refine ld (h27 _) fun _ => ?_
      exact tr_pure trivial
  refine tr_bindT ?_ (fun _ => ?_)
  · rw [k0_part35_eq_skeleton]; unfold k0_part35_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part36_eq_skeleton]; unfold k0_part36_skel | rw [k0_part37_eq_skeleton]; unfold k0_part37_skel | rw [k0_part38_eq_skeleton]; unfold k0_part38_skel | rw [k0_part39_eq_skeleton]; unfold k0_part39_skel | rw [k0_part40_eq_skeleton]; unfold k0_part40_skel | rw [k0_part41_eq_skeleton]; unfold k0_part41_skel | rw [k0_part42_eq_skeleton]; unfold k0_part42_skel | rw [k0_part43_eq_skeleton]; unfold k0_part43_skel
      iterate 7 first | refine ld (h31 _) fun _ => ?_ | refine ld (h27 _) fun _ => ?_
      exact tr_pure trivial
  refine tr_bindT ?_ (fun _ => ?_)
  · rw [k0_part44_eq_skeleton]; unfold k0_part44_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part45_eq_skeleton]; unfold k0_part45_skel | rw [k0_part46_eq_skeleton]; unfold k0_part46_skel | rw [k0_part47_eq_skeleton]; unfold k0_part47_skel | rw [k0_part48_eq_skeleton]; unfold k0_part48_skel | rw [k0_part49_eq_skeleton]; unfold k0_part49_skel | rw [k0_part50_eq_skeleton]; unfold k0_part50_skel | rw [k0_part51_eq_skeleton]; unfold k0_part51_skel | rw [k0_part52_eq_skeleton]; unfold k0_part52_skel
      iterate 7 first | refine ld (h31 _) fun _ => ?_ | refine ld (h27 _) fun _ => ?_
      exact tr_pure trivial
  refine tr_bindT ?_ (fun _ => ?_)
  · rw [k0_part53_eq_skeleton]; unfold k0_part53_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part54_eq_skeleton]; unfold k0_part54_skel | rw [k0_part55_eq_skeleton]; unfold k0_part55_skel | rw [k0_part56_eq_skeleton]; unfold k0_part56_skel | rw [k0_part57_eq_skeleton]; unfold k0_part57_skel | rw [k0_part58_eq_skeleton]; unfold k0_part58_skel | rw [k0_part59_eq_skeleton]; unfold k0_part59_skel | rw [k0_part60_eq_skeleton]; unfold k0_part60_skel | rw [k0_part61_eq_skeleton]; unfold k0_part61_skel
      iterate 7 first | refine ld (h31 _) fun _ => ?_ | refine ld (h27 _) fun _ => ?_
      exact tr_pure trivial
  refine tr_bindT ?_ (fun _ => ?_)
  · rw [k0_part62_eq_skeleton]; unfold k0_part62_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 5
    refine tr_bindT ?_ (fun _ => ?_)
    · first | rw [k0_part63_eq_skeleton]; unfold k0_part63_skel | rw [k0_part64_eq_skeleton]; unfold k0_part64_skel | rw [k0_part65_eq_skeleton]; unfold k0_part65_skel | rw [k0_part66_eq_skeleton]; unfold k0_part66_skel | rw [k0_part67_eq_skeleton]; unfold k0_part67_skel
      iterate 7 first | refine ld (h31 _) fun _ => ?_ | refine ld (h27 _) fun _ => ?_
      exact tr_pure trivial
  exact tr_pure rfl

set_option maxHeartbeats 40000000 in
/-- The parts of the body that `k0_part632` calls. -/
theorem part632 (v0 : BitVec 32) (v3 : BitVec 32) (v5 : BitVec 32) (v2100 : FVec F S64x128 .f32) (v2103 : FVec F S64x128 .f32) (v2104 : BitVec 32) : Tr (defs₀ (F := F)) (c : Thread nD τ) (I 0) (k0_part632 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v0 v3 v5 (k0_pay46 (View.ld x (Rect.unit (s := S8x64x1024) ![0, 0, 0] S8x64x1024.size inb_S8x64x1024_S8x64x1024_0_0_0))) v2100 v2103 v2104) (I 1) (fun _ => True) := by
  rw [k0_part632_eq_skeleton]; unfold k0_part632_skel
  iterate 3
    refine tr_bindT ?_ (fun _ => ?_)
    · first | rw [k0_part68_eq_skeleton]; unfold k0_part68_skel | rw [k0_part69_eq_skeleton]; unfold k0_part69_skel | rw [k0_part70_eq_skeleton]; unfold k0_part70_skel
      iterate 7 first | refine ld (h31 _) fun _ => ?_ | refine ld (h27 _) fun _ => ?_
      exact tr_pure trivial
  refine tr_bindT ?_ (fun _ => ?_)
  · rw [k0_part71_eq_skeleton]; unfold k0_part71_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part72_eq_skeleton]; unfold k0_part72_skel | rw [k0_part73_eq_skeleton]; unfold k0_part73_skel | rw [k0_part74_eq_skeleton]; unfold k0_part74_skel | rw [k0_part75_eq_skeleton]; unfold k0_part75_skel | rw [k0_part76_eq_skeleton]; unfold k0_part76_skel | rw [k0_part77_eq_skeleton]; unfold k0_part77_skel | rw [k0_part78_eq_skeleton]; unfold k0_part78_skel | rw [k0_part79_eq_skeleton]; unfold k0_part79_skel
      iterate 7 first | refine ld (h31 _) fun _ => ?_ | refine ld (h27 _) fun _ => ?_
      exact tr_pure trivial
  refine tr_bindT ?_ (fun _ => ?_)
  · rw [k0_part80_eq_skeleton]; unfold k0_part80_skel
    iterate 2 first | refine ld (h31 _) fun _ => ?_ | refine ld (h27 _) fun _ => ?_
    refine ld (h28 _) fun _ => ?_
    refine st (h28 _) fun _ => ?_
    refine ld (h2 _) fun _ => ?_
    refine ld (h9 _) fun _ => ?_
    refine ld (h3 _) fun _ => ?_
    refine ld (h10 _) fun _ => ?_
    exact tr_pure trivial
  refine tr_bindT ?_ (fun _ => ?_)
  · rw [k0_part81_eq_skeleton]; unfold k0_part81_skel
    refine ld (h4 _) fun _ => ?_
    refine ld (h11 _) fun _ => ?_
    refine ld (h29 _) fun _ => ?_
    refine st (h29 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part82_eq_skeleton]; unfold k0_part82_skel
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part83_eq_skeleton]; unfold k0_part83_skel
    refine st (h27 _) fun _ => ?_
    iterate 2 first | refine ld (h31 _) fun _ => ?_ | refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part84_eq_skeleton]; unfold k0_part84_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindS (I₁ := I 1) ?_ (fun _ => ?_)
  · rw [k0_part85_eq_skeleton]; unfold k0_part85_skel
    refine ld (h27 _) fun _ => ?_
    refine st (h27 _) fun _ => ?_
    refine tr_bind_in (h5 _) ?_
    refine tr_bind_in (h12 _) ?_
    refine ldo (h23 _) fun _ => ?_
    refine tr_bindS (hq 0 _ _) fun _ => ?_
    iterate 4 first | refine ld (h31 _) fun _ => ?_ | refine ld (h27 _) fun _ => ?_
    exact tr_pure trivial
  iterate 8
    refine tr_bindT ?_ (fun _ => ?_)
    · first | rw [k0_part86_eq_skeleton]; unfold k0_part86_skel | rw [k0_part87_eq_skeleton]; unfold k0_part87_skel | rw [k0_part88_eq_skeleton]; unfold k0_part88_skel | rw [k0_part89_eq_skeleton]; unfold k0_part89_skel | rw [k0_part90_eq_skeleton]; unfold k0_part90_skel | rw [k0_part91_eq_skeleton]; unfold k0_part91_skel | rw [k0_part92_eq_skeleton]; unfold k0_part92_skel | rw [k0_part93_eq_skeleton]; unfold k0_part93_skel
      iterate 7 first | refine ld (h31 _) fun _ => ?_ | refine ld (h27 _) fun _ => ?_
      exact tr_pure trivial
  refine tr_bindT ?_ (fun _ => ?_)
  · rw [k0_part94_eq_skeleton]; unfold k0_part94_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part95_eq_skeleton]; unfold k0_part95_skel | rw [k0_part96_eq_skeleton]; unfold k0_part96_skel | rw [k0_part97_eq_skeleton]; unfold k0_part97_skel | rw [k0_part98_eq_skeleton]; unfold k0_part98_skel | rw [k0_part99_eq_skeleton]; unfold k0_part99_skel | rw [k0_part100_eq_skeleton]; unfold k0_part100_skel | rw [k0_part101_eq_skeleton]; unfold k0_part101_skel | rw [k0_part102_eq_skeleton]; unfold k0_part102_skel
      iterate 7 first | refine ld (h31 _) fun _ => ?_ | refine ld (h27 _) fun _ => ?_
      exact tr_pure trivial
  refine tr_bindT ?_ (fun _ => ?_)
  · rw [k0_part103_eq_skeleton]; unfold k0_part103_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part104_eq_skeleton]; unfold k0_part104_skel | rw [k0_part105_eq_skeleton]; unfold k0_part105_skel | rw [k0_part106_eq_skeleton]; unfold k0_part106_skel | rw [k0_part107_eq_skeleton]; unfold k0_part107_skel | rw [k0_part108_eq_skeleton]; unfold k0_part108_skel | rw [k0_part109_eq_skeleton]; unfold k0_part109_skel | rw [k0_part110_eq_skeleton]; unfold k0_part110_skel | rw [k0_part111_eq_skeleton]; unfold k0_part111_skel
      iterate 7 first | refine ld (h31 _) fun _ => ?_ | refine ld (h27 _) fun _ => ?_
      exact tr_pure trivial
  refine tr_bindT ?_ (fun _ => ?_)
  · rw [k0_part112_eq_skeleton]; unfold k0_part112_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part113_eq_skeleton]; unfold k0_part113_skel | rw [k0_part114_eq_skeleton]; unfold k0_part114_skel | rw [k0_part115_eq_skeleton]; unfold k0_part115_skel | rw [k0_part116_eq_skeleton]; unfold k0_part116_skel | rw [k0_part117_eq_skeleton]; unfold k0_part117_skel | rw [k0_part118_eq_skeleton]; unfold k0_part118_skel | rw [k0_part119_eq_skeleton]; unfold k0_part119_skel | rw [k0_part120_eq_skeleton]; unfold k0_part120_skel
      iterate 7 first | refine ld (h31 _) fun _ => ?_ | refine ld (h27 _) fun _ => ?_
      exact tr_pure trivial
  refine tr_bindT ?_ (fun _ => ?_)
  · rw [k0_part121_eq_skeleton]; unfold k0_part121_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 6
    refine tr_bindT ?_ (fun _ => ?_)
    · first | rw [k0_part122_eq_skeleton]; unfold k0_part122_skel | rw [k0_part123_eq_skeleton]; unfold k0_part123_skel | rw [k0_part124_eq_skeleton]; unfold k0_part124_skel | rw [k0_part125_eq_skeleton]; unfold k0_part125_skel | rw [k0_part126_eq_skeleton]; unfold k0_part126_skel | rw [k0_part127_eq_skeleton]; unfold k0_part127_skel
      iterate 7 first | refine ld (h31 _) fun _ => ?_ | refine ld (h27 _) fun _ => ?_
      exact tr_pure trivial
  exact tr_pure trivial

set_option maxHeartbeats 40000000 in
/-- The parts of the body that `k0_part633` calls. -/
theorem part633 (v5 : BitVec 32) (v4203 : FVec F S64x128 .f32) (v4206 : FVec F S64x128 .f32) (v4207 : BitVec 32) : Tr (defs₀ (F := F)) (c : Thread nD τ) (I 1) (k0_part633 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v5 (k0_pay46 (View.ld x (Rect.unit (s := S8x64x1024) ![0, 0, 0] S8x64x1024.size inb_S8x64x1024_S8x64x1024_0_0_0))) v4203 v4206 v4207) (I 3) (fun _ => True) := by
  rw [k0_part633_eq_skeleton]; unfold k0_part633_skel
  iterate 2
    refine tr_bindT ?_ (fun _ => ?_)
    · first | rw [k0_part128_eq_skeleton]; unfold k0_part128_skel | rw [k0_part129_eq_skeleton]; unfold k0_part129_skel
      iterate 7 first | refine ld (h31 _) fun _ => ?_ | refine ld (h27 _) fun _ => ?_
      exact tr_pure trivial
  refine tr_bindT ?_ (fun _ => ?_)
  · rw [k0_part130_eq_skeleton]; unfold k0_part130_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part131_eq_skeleton]; unfold k0_part131_skel | rw [k0_part132_eq_skeleton]; unfold k0_part132_skel | rw [k0_part133_eq_skeleton]; unfold k0_part133_skel | rw [k0_part134_eq_skeleton]; unfold k0_part134_skel | rw [k0_part135_eq_skeleton]; unfold k0_part135_skel | rw [k0_part136_eq_skeleton]; unfold k0_part136_skel | rw [k0_part137_eq_skeleton]; unfold k0_part137_skel | rw [k0_part138_eq_skeleton]; unfold k0_part138_skel
      iterate 7 first | refine ld (h31 _) fun _ => ?_ | refine ld (h27 _) fun _ => ?_
      exact tr_pure trivial
  refine tr_bindT ?_ (fun _ => ?_)
  · rw [k0_part139_eq_skeleton]; unfold k0_part139_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part140_eq_skeleton]; unfold k0_part140_skel | rw [k0_part141_eq_skeleton]; unfold k0_part141_skel | rw [k0_part142_eq_skeleton]; unfold k0_part142_skel | rw [k0_part143_eq_skeleton]; unfold k0_part143_skel | rw [k0_part144_eq_skeleton]; unfold k0_part144_skel | rw [k0_part145_eq_skeleton]; unfold k0_part145_skel | rw [k0_part146_eq_skeleton]; unfold k0_part146_skel | rw [k0_part147_eq_skeleton]; unfold k0_part147_skel
      iterate 7 first | refine ld (h31 _) fun _ => ?_ | refine ld (h27 _) fun _ => ?_
      exact tr_pure trivial
  refine tr_bindT ?_ (fun _ => ?_)
  · rw [k0_part148_eq_skeleton]; unfold k0_part148_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part149_eq_skeleton]; unfold k0_part149_skel | rw [k0_part150_eq_skeleton]; unfold k0_part150_skel | rw [k0_part151_eq_skeleton]; unfold k0_part151_skel | rw [k0_part152_eq_skeleton]; unfold k0_part152_skel | rw [k0_part153_eq_skeleton]; unfold k0_part153_skel | rw [k0_part154_eq_skeleton]; unfold k0_part154_skel | rw [k0_part155_eq_skeleton]; unfold k0_part155_skel | rw [k0_part156_eq_skeleton]; unfold k0_part156_skel
      iterate 7 first | refine ld (h31 _) fun _ => ?_ | refine ld (h27 _) fun _ => ?_
      exact tr_pure trivial
  refine tr_bind (I₁ := I 2) (R := fun r => r = k0_pay373 (k0_pay46 (View.ld x (Rect.unit (s := S8x64x1024) ![0, 0, 0] S8x64x1024.size inb_S8x64x1024_S8x64x1024_0_0_0))) (View.ld wv (colW 0))) ?_ ?_
  · rw [k0_part157_eq_skeleton]; unfold k0_part157_skel
    iterate 3 first | refine ld (h31 _) fun _ => ?_ | refine ld (h27 _) fun _ => ?_
    refine ld (h28 _) fun _ => ?_
    refine st (h28 _) fun _ => ?_
    refine tr_bind_in (h6 _) ?_
    refine tr_bind_in (h13 _) ?_
    refine ldo (h24 _) fun _ => ?_
    refine tr_bindS (hk 0 _ _) fun _ => ?_
    refine tr_bind_in (h7 _) ?_
    exact tr_pure rfl
  rintro _ rfl
  refine tr_bindS (I₁ := I 3) ?_ (fun _ => ?_)
  · rw [k0_part158_eq_skeleton]; unfold k0_part158_skel
    refine tr_bind_in (h14 _) ?_
    refine ldo (h25 _) fun _ => ?_
    refine tr_bindS (hv 0 _ _) fun _ => ?_
    iterate 6 first | refine ld (h31 _) fun _ => ?_ | refine ld (h27 _) fun _ => ?_
    exact tr_pure trivial
  iterate 8
    refine tr_bindT ?_ (fun _ => ?_)
    · first | rw [k0_part159_eq_skeleton]; unfold k0_part159_skel | rw [k0_part160_eq_skeleton]; unfold k0_part160_skel | rw [k0_part161_eq_skeleton]; unfold k0_part161_skel | rw [k0_part162_eq_skeleton]; unfold k0_part162_skel | rw [k0_part163_eq_skeleton]; unfold k0_part163_skel | rw [k0_part164_eq_skeleton]; unfold k0_part164_skel | rw [k0_part165_eq_skeleton]; unfold k0_part165_skel | rw [k0_part166_eq_skeleton]; unfold k0_part166_skel
      iterate 7 first | refine ld (h31 _) fun _ => ?_ | refine ld (h27 _) fun _ => ?_
      exact tr_pure trivial
  refine tr_bindT ?_ (fun _ => ?_)
  · rw [k0_part167_eq_skeleton]; unfold k0_part167_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part168_eq_skeleton]; unfold k0_part168_skel | rw [k0_part169_eq_skeleton]; unfold k0_part169_skel | rw [k0_part170_eq_skeleton]; unfold k0_part170_skel | rw [k0_part171_eq_skeleton]; unfold k0_part171_skel | rw [k0_part172_eq_skeleton]; unfold k0_part172_skel | rw [k0_part173_eq_skeleton]; unfold k0_part173_skel | rw [k0_part174_eq_skeleton]; unfold k0_part174_skel | rw [k0_part175_eq_skeleton]; unfold k0_part175_skel
      iterate 7 first | refine ld (h31 _) fun _ => ?_ | refine ld (h27 _) fun _ => ?_
      exact tr_pure trivial
  refine tr_bindT ?_ (fun _ => ?_)
  · rw [k0_part176_eq_skeleton]; unfold k0_part176_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part177_eq_skeleton]; unfold k0_part177_skel | rw [k0_part178_eq_skeleton]; unfold k0_part178_skel | rw [k0_part179_eq_skeleton]; unfold k0_part179_skel | rw [k0_part180_eq_skeleton]; unfold k0_part180_skel | rw [k0_part181_eq_skeleton]; unfold k0_part181_skel | rw [k0_part182_eq_skeleton]; unfold k0_part182_skel | rw [k0_part183_eq_skeleton]; unfold k0_part183_skel | rw [k0_part184_eq_skeleton]; unfold k0_part184_skel
      iterate 7 first | refine ld (h31 _) fun _ => ?_ | refine ld (h27 _) fun _ => ?_
      exact tr_pure trivial
  refine tr_bindT ?_ (fun _ => ?_)
  · rw [k0_part185_eq_skeleton]; unfold k0_part185_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 2
    refine tr_bindT ?_ (fun _ => ?_)
    · first | rw [k0_part186_eq_skeleton]; unfold k0_part186_skel | rw [k0_part187_eq_skeleton]; unfold k0_part187_skel
      iterate 7 first | refine ld (h31 _) fun _ => ?_ | refine ld (h27 _) fun _ => ?_
      exact tr_pure trivial
  exact tr_pure trivial

set_option maxHeartbeats 40000000 in
/-- The parts of the body that `k0_part634` calls. -/
theorem part634 (v0 : BitVec 32) (v3 : BitVec 32) (v5 : BitVec 32) (v6305 : FVec F S64x128 .f32) (v6308 : FVec F S64x128 .f32) (c192_i32_4363 : BitVec 32) : Tr (defs₀ (F := F)) (c : Thread nD τ) (I 3) (k0_part634 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v0 v3 v5 (k0_pay46 (View.ld x (Rect.unit (s := S8x64x1024) ![0, 0, 0] S8x64x1024.size inb_S8x64x1024_S8x64x1024_0_0_0))) v6305 v6308 c192_i32_4363) (I 4) (fun _ => True) := by
  rw [k0_part634_eq_skeleton]; unfold k0_part634_skel
  iterate 6
    refine tr_bindT ?_ (fun _ => ?_)
    · first | rw [k0_part188_eq_skeleton]; unfold k0_part188_skel | rw [k0_part189_eq_skeleton]; unfold k0_part189_skel | rw [k0_part190_eq_skeleton]; unfold k0_part190_skel | rw [k0_part191_eq_skeleton]; unfold k0_part191_skel | rw [k0_part192_eq_skeleton]; unfold k0_part192_skel | rw [k0_part193_eq_skeleton]; unfold k0_part193_skel
      iterate 7 first | refine ld (h31 _) fun _ => ?_ | refine ld (h27 _) fun _ => ?_
      exact tr_pure trivial
  refine tr_bindT ?_ (fun _ => ?_)
  · rw [k0_part194_eq_skeleton]; unfold k0_part194_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part195_eq_skeleton]; unfold k0_part195_skel | rw [k0_part196_eq_skeleton]; unfold k0_part196_skel | rw [k0_part197_eq_skeleton]; unfold k0_part197_skel | rw [k0_part198_eq_skeleton]; unfold k0_part198_skel | rw [k0_part199_eq_skeleton]; unfold k0_part199_skel | rw [k0_part200_eq_skeleton]; unfold k0_part200_skel | rw [k0_part201_eq_skeleton]; unfold k0_part201_skel | rw [k0_part202_eq_skeleton]; unfold k0_part202_skel
      iterate 7 first | refine ld (h31 _) fun _ => ?_ | refine ld (h27 _) fun _ => ?_
      exact tr_pure trivial
  refine tr_bindT ?_ (fun _ => ?_)
  · rw [k0_part203_eq_skeleton]; unfold k0_part203_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part204_eq_skeleton]; unfold k0_part204_skel | rw [k0_part205_eq_skeleton]; unfold k0_part205_skel | rw [k0_part206_eq_skeleton]; unfold k0_part206_skel | rw [k0_part207_eq_skeleton]; unfold k0_part207_skel | rw [k0_part208_eq_skeleton]; unfold k0_part208_skel | rw [k0_part209_eq_skeleton]; unfold k0_part209_skel | rw [k0_part210_eq_skeleton]; unfold k0_part210_skel | rw [k0_part211_eq_skeleton]; unfold k0_part211_skel
      iterate 7 first | refine ld (h31 _) fun _ => ?_ | refine ld (h27 _) fun _ => ?_
      exact tr_pure trivial
  refine tr_bindT ?_ (fun _ => ?_)
  · rw [k0_part212_eq_skeleton]; unfold k0_part212_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part213_eq_skeleton]; unfold k0_part213_skel | rw [k0_part214_eq_skeleton]; unfold k0_part214_skel | rw [k0_part215_eq_skeleton]; unfold k0_part215_skel | rw [k0_part216_eq_skeleton]; unfold k0_part216_skel | rw [k0_part217_eq_skeleton]; unfold k0_part217_skel | rw [k0_part218_eq_skeleton]; unfold k0_part218_skel | rw [k0_part219_eq_skeleton]; unfold k0_part219_skel | rw [k0_part220_eq_skeleton]; unfold k0_part220_skel
      iterate 7 first | refine ld (h31 _) fun _ => ?_ | refine ld (h27 _) fun _ => ?_
      exact tr_pure trivial
  refine tr_bindT ?_ (fun _ => ?_)
  · rw [k0_part221_eq_skeleton]; unfold k0_part221_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part222_eq_skeleton]; unfold k0_part222_skel | rw [k0_part223_eq_skeleton]; unfold k0_part223_skel | rw [k0_part224_eq_skeleton]; unfold k0_part224_skel | rw [k0_part225_eq_skeleton]; unfold k0_part225_skel | rw [k0_part226_eq_skeleton]; unfold k0_part226_skel | rw [k0_part227_eq_skeleton]; unfold k0_part227_skel | rw [k0_part228_eq_skeleton]; unfold k0_part228_skel | rw [k0_part229_eq_skeleton]; unfold k0_part229_skel
      iterate 7 first | refine ld (h31 _) fun _ => ?_ | refine ld (h27 _) fun _ => ?_
      exact tr_pure trivial
  refine tr_bindT ?_ (fun _ => ?_)
  · rw [k0_part230_eq_skeleton]; unfold k0_part230_skel
    refine ld (h27 _) fun _ => ?_
    refine ld (h28 _) fun _ => ?_
    refine st (h28 _) fun _ => ?_
    refine ld (h2 _) fun _ => ?_
    refine ld (h9 _) fun _ => ?_
    refine ld (h3 _) fun _ => ?_
    refine ld (h10 _) fun _ => ?_
    refine ld (h4 _) fun _ => ?_
    exact tr_pure trivial
  refine tr_bindT ?_ (fun _ => ?_)
  · rw [k0_part231_eq_skeleton]; unfold k0_part231_skel
    refine ld (h11 _) fun _ => ?_
    refine ld (h29 _) fun _ => ?_
    refine st (h29 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part232_eq_skeleton]; unfold k0_part232_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part233_eq_skeleton]; unfold k0_part233_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part234_eq_skeleton]; unfold k0_part234_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    iterate 2 first | refine ld (h31 _) fun _ => ?_ | refine ld (h27 _) fun _ => ?_
    refine st (h27 _) fun _ => ?_
    exact tr_pure trivial
  refine tr_bindS (I₁ := I 4) ?_ (fun _ => ?_)
  · rw [k0_part235_eq_skeleton]; unfold k0_part235_skel
    refine ld (h30 _) fun _ => ?_
    refine ld (h20 _) fun _ => ?_
    refine ld (h22 _) fun _ => ?_
    refine st (h22 _) fun _ => ?_
    refine tr_bind_in (h5 _) ?_
    refine tr_bind_in (h12 _) ?_
    refine ldo (h23 _) fun _ => ?_
    refine tr_bindS (hq 1 _ _) fun _ => ?_
    iterate 3 first | refine ld (h31 _) fun _ => ?_ | refine ld (h27 _) fun _ => ?_
    exact tr_pure trivial
  iterate 8
    refine tr_bindT ?_ (fun _ => ?_)
    · first | rw [k0_part236_eq_skeleton]; unfold k0_part236_skel | rw [k0_part237_eq_skeleton]; unfold k0_part237_skel | rw [k0_part238_eq_skeleton]; unfold k0_part238_skel | rw [k0_part239_eq_skeleton]; unfold k0_part239_skel | rw [k0_part240_eq_skeleton]; unfold k0_part240_skel | rw [k0_part241_eq_skeleton]; unfold k0_part241_skel | rw [k0_part242_eq_skeleton]; unfold k0_part242_skel | rw [k0_part243_eq_skeleton]; unfold k0_part243_skel
      iterate 7 first | refine ld (h31 _) fun _ => ?_ | refine ld (h27 _) fun _ => ?_
      exact tr_pure trivial
  refine tr_bindT ?_ (fun _ => ?_)
  · rw [k0_part244_eq_skeleton]; unfold k0_part244_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 3
    refine tr_bindT ?_ (fun _ => ?_)
    · first | rw [k0_part245_eq_skeleton]; unfold k0_part245_skel | rw [k0_part246_eq_skeleton]; unfold k0_part246_skel | rw [k0_part247_eq_skeleton]; unfold k0_part247_skel
      iterate 7 first | refine ld (h31 _) fun _ => ?_ | refine ld (h27 _) fun _ => ?_
      exact tr_pure trivial
  exact tr_pure trivial

set_option maxHeartbeats 40000000 in
/-- The parts of the body that `k0_part635` calls. -/
theorem part635 (v5 : BitVec 32) (v8405 : FVec F S64x128 .f32) (v8408 : FVec F S64x128 .f32) (v8409 : BitVec 32) : Tr (defs₀ (F := F)) (c : Thread nD τ) (I 4) (k0_part635 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v5 (k0_pay46 (View.ld x (Rect.unit (s := S8x64x1024) ![0, 0, 0] S8x64x1024.size inb_S8x64x1024_S8x64x1024_0_0_0))) v8405 v8408 v8409) (I 5) (fun _ => True) := by
  rw [k0_part635_eq_skeleton]; unfold k0_part635_skel
  iterate 5
    refine tr_bindT ?_ (fun _ => ?_)
    · first | rw [k0_part248_eq_skeleton]; unfold k0_part248_skel | rw [k0_part249_eq_skeleton]; unfold k0_part249_skel | rw [k0_part250_eq_skeleton]; unfold k0_part250_skel | rw [k0_part251_eq_skeleton]; unfold k0_part251_skel | rw [k0_part252_eq_skeleton]; unfold k0_part252_skel
      iterate 7 first | refine ld (h31 _) fun _ => ?_ | refine ld (h27 _) fun _ => ?_
      exact tr_pure trivial
  refine tr_bindT ?_ (fun _ => ?_)
  · rw [k0_part253_eq_skeleton]; unfold k0_part253_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part254_eq_skeleton]; unfold k0_part254_skel | rw [k0_part255_eq_skeleton]; unfold k0_part255_skel | rw [k0_part256_eq_skeleton]; unfold k0_part256_skel | rw [k0_part257_eq_skeleton]; unfold k0_part257_skel | rw [k0_part258_eq_skeleton]; unfold k0_part258_skel | rw [k0_part259_eq_skeleton]; unfold k0_part259_skel | rw [k0_part260_eq_skeleton]; unfold k0_part260_skel | rw [k0_part261_eq_skeleton]; unfold k0_part261_skel
      iterate 7 first | refine ld (h31 _) fun _ => ?_ | refine ld (h27 _) fun _ => ?_
      exact tr_pure trivial
  refine tr_bindT ?_ (fun _ => ?_)
  · rw [k0_part262_eq_skeleton]; unfold k0_part262_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part263_eq_skeleton]; unfold k0_part263_skel | rw [k0_part264_eq_skeleton]; unfold k0_part264_skel | rw [k0_part265_eq_skeleton]; unfold k0_part265_skel | rw [k0_part266_eq_skeleton]; unfold k0_part266_skel | rw [k0_part267_eq_skeleton]; unfold k0_part267_skel | rw [k0_part268_eq_skeleton]; unfold k0_part268_skel | rw [k0_part269_eq_skeleton]; unfold k0_part269_skel | rw [k0_part270_eq_skeleton]; unfold k0_part270_skel
      iterate 7 first | refine ld (h31 _) fun _ => ?_ | refine ld (h27 _) fun _ => ?_
      exact tr_pure trivial
  refine tr_bindT ?_ (fun _ => ?_)
  · rw [k0_part271_eq_skeleton]; unfold k0_part271_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part272_eq_skeleton]; unfold k0_part272_skel | rw [k0_part273_eq_skeleton]; unfold k0_part273_skel | rw [k0_part274_eq_skeleton]; unfold k0_part274_skel | rw [k0_part275_eq_skeleton]; unfold k0_part275_skel | rw [k0_part276_eq_skeleton]; unfold k0_part276_skel | rw [k0_part277_eq_skeleton]; unfold k0_part277_skel | rw [k0_part278_eq_skeleton]; unfold k0_part278_skel | rw [k0_part279_eq_skeleton]; unfold k0_part279_skel
      iterate 7 first | refine ld (h31 _) fun _ => ?_ | refine ld (h27 _) fun _ => ?_
      exact tr_pure trivial
  refine tr_bindT ?_ (fun _ => ?_)
  · rw [k0_part280_eq_skeleton]; unfold k0_part280_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part281_eq_skeleton]; unfold k0_part281_skel | rw [k0_part282_eq_skeleton]; unfold k0_part282_skel | rw [k0_part283_eq_skeleton]; unfold k0_part283_skel | rw [k0_part284_eq_skeleton]; unfold k0_part284_skel | rw [k0_part285_eq_skeleton]; unfold k0_part285_skel | rw [k0_part286_eq_skeleton]; unfold k0_part286_skel | rw [k0_part287_eq_skeleton]; unfold k0_part287_skel | rw [k0_part288_eq_skeleton]; unfold k0_part288_skel
      iterate 7 first | refine ld (h31 _) fun _ => ?_ | refine ld (h27 _) fun _ => ?_
      exact tr_pure trivial
  refine tr_bindT ?_ (fun _ => ?_)
  · rw [k0_part289_eq_skeleton]; unfold k0_part289_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part290_eq_skeleton]; unfold k0_part290_skel | rw [k0_part291_eq_skeleton]; unfold k0_part291_skel | rw [k0_part292_eq_skeleton]; unfold k0_part292_skel | rw [k0_part293_eq_skeleton]; unfold k0_part293_skel | rw [k0_part294_eq_skeleton]; unfold k0_part294_skel | rw [k0_part295_eq_skeleton]; unfold k0_part295_skel | rw [k0_part296_eq_skeleton]; unfold k0_part296_skel | rw [k0_part297_eq_skeleton]; unfold k0_part297_skel
      iterate 7 first | refine ld (h31 _) fun _ => ?_ | refine ld (h27 _) fun _ => ?_
      exact tr_pure trivial
  refine tr_bindT ?_ (fun _ => ?_)
  · rw [k0_part298_eq_skeleton]; unfold k0_part298_skel
    iterate 4 first | refine ld (h31 _) fun _ => ?_ | refine ld (h27 _) fun _ => ?_
    refine ld (h28 _) fun _ => ?_
    refine st (h28 _) fun _ => ?_
    iterate 3 first | refine ld (h31 _) fun _ => ?_ | refine ld (h27 _) fun _ => ?_
    exact tr_pure trivial
  iterate 8
    refine tr_bindT ?_ (fun _ => ?_)
    · first | rw [k0_part299_eq_skeleton]; unfold k0_part299_skel | rw [k0_part300_eq_skeleton]; unfold k0_part300_skel | rw [k0_part301_eq_skeleton]; unfold k0_part301_skel | rw [k0_part302_eq_skeleton]; unfold k0_part302_skel | rw [k0_part303_eq_skeleton]; unfold k0_part303_skel | rw [k0_part304_eq_skeleton]; unfold k0_part304_skel | rw [k0_part305_eq_skeleton]; unfold k0_part305_skel | rw [k0_part306_eq_skeleton]; unfold k0_part306_skel
      iterate 7 first | refine ld (h31 _) fun _ => ?_ | refine ld (h27 _) fun _ => ?_
      exact tr_pure trivial
  refine tr_bindS (I₁ := I 5) ?_ (fun _ => ?_)
  · rw [k0_part307_eq_skeleton]; unfold k0_part307_skel
    iterate 4 first | refine ld (h31 _) fun _ => ?_ | refine ld (h27 _) fun _ => ?_
    refine ld (h28 _) fun _ => ?_
    refine st (h28 _) fun _ => ?_
    refine tr_bind_in (h6 _) ?_
    refine tr_bind_in (h13 _) ?_
    refine ldo (h24 _) fun _ => ?_
    refine tr_bindS (hk 1 _ _) fun _ => ?_
    exact tr_pure trivial
  exact tr_pure trivial

end Cert.ProjectionsIdeal.Hand

end
-- ==== Proof.ProjectionsIdealPartsB.lean ====
/-
  The body of the projecting branch, part by part. The body holds thirty-four buffers; all but ten are lent to each
  operation and taken back with any contents. The block of tokens, the three weights and the three biases keep theirs,
  and the blocks of queries, keys and values receive four column groups each, in a fixed order: the assertion `I s`
  says that the first `s` of these twelve stores have been made.
-/
module

public import proofs.«01_k».proof.Proof.Steps
public import proofs.«01_k».proof.Proof.ProjectionsIdealColumns
public import proofs.«01_k».proof.Proof.Gen.ProjectionsIdeal.Frame
public import proofs.«01_k».proof.Proof.Gen.ProjectionsIdeal.Skeleton

@[expose] public section

set_option maxRecDepth 65536

noncomputable section

namespace Cert.ProjectionsIdeal.Hand

open Cert.ProjectionsIdeal Cert.ProjectionsIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S8x64x1024 .f32) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x128 .f32) (harg15 : arg15.IsWhole) (arg16 : Memref sig .tc .vmem S31x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S384x128 .bf16) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x64x128 .bf16) (harg26 : arg26.IsWhole) (arg27 : Memref sig .tc .vmem S8x1504x128 .f32) (harg27 : arg27.IsWhole) (arg28 : Memref sig .tc .vmem S8x512x128 .f32) (harg28 : arg28.IsWhole) (arg29 : Memref sig .tc .vmem S2x512x1024 .f32) (harg29 : arg29.IsWhole) (arg30 : Memref sig .tc .vmem S512x1024 .bf16) (harg30 : arg30.IsWhole) (arg31 : Memref sig .tc .vmem S32x8x1024 .f32) (harg31 : arg31.IsWhole) (arg32 : Memref sig .tc .vmem S1x512x128 .f32) (harg32 : arg32.IsWhole) (arg33 : Memref sig .tc .vmem S8x128 .f32) (harg33 : arg33.IsWhole) (arg34 : Memref sig .tc .vmem S8x128 .f32) (harg34 : arg34.IsWhole)
variable (x : Vec F S8x64x1024 .f32) (wq wk wv : Vec F S1x1024x1024 .bf16) (bq bk bv : Vec F S1x1x1024 .f32)
variable (I : ℕ → sProp (Steps.Alg nD τ sig (Elt F)))
variable (h5 : ∀ s, Keeps (c : Thread nD τ) (I s) arg5 wq)
variable (h6 : ∀ s, Keeps (c : Thread nD τ) (I s) arg6 wk)
variable (h7 : ∀ s, Keeps (c : Thread nD τ) (I s) arg7 wv)
variable (h12 : ∀ s, Keeps (c : Thread nD τ) (I s) arg12 bq)
variable (h13 : ∀ s, Keeps (c : Thread nD τ) (I s) arg13 bk)
variable (h14 : ∀ s, Keeps (c : Thread nD τ) (I s) arg14 bv)
variable (h1 : ∀ s, Keeps (c : Thread nD τ) (I s) arg1 x)
variable (h2 : ∀ s, Lends (c : Thread nD τ) (I s) arg2)
variable (h3 : ∀ s, Lends (c : Thread nD τ) (I s) arg3)
variable (h4 : ∀ s, Lends (c : Thread nD τ) (I s) arg4)
variable (h8 : ∀ s, Lends (c : Thread nD τ) (I s) arg8)
variable (h9 : ∀ s, Lends (c : Thread nD τ) (I s) arg9)
variable (h10 : ∀ s, Lends (c : Thread nD τ) (I s) arg10)
variable (h11 : ∀ s, Lends (c : Thread nD τ) (I s) arg11)
variable (h15 : ∀ s, Lends (c : Thread nD τ) (I s) arg15)
variable (h16 : ∀ s, Lends (c : Thread nD τ) (I s) arg16)
variable (h17 : ∀ s, Lends (c : Thread nD τ) (I s) arg17)
variable (h18 : ∀ s, Lends (c : Thread nD τ) (I s) arg18)
variable (h19 : ∀ s, Lends (c : Thread nD τ) (I s) arg19)
variable (h20 : ∀ s, Lends (c : Thread nD τ) (I s) arg20)
variable (h21 : ∀ s, Lends (c : Thread nD τ) (I s) arg21)
variable (h22 : ∀ s, Lends (c : Thread nD τ) (I s) arg22)
variable (h26 : ∀ s, Lends (c : Thread nD τ) (I s) arg26)
variable (h27 : ∀ s, Lends (c : Thread nD τ) (I s) arg27)
variable (h28 : ∀ s, Lends (c : Thread nD τ) (I s) arg28)
variable (h29 : ∀ s, Lends (c : Thread nD τ) (I s) arg29)
variable (h30 : ∀ s, Lends (c : Thread nD τ) (I s) arg30)
variable (h31 : ∀ s, Lends (c : Thread nD τ) (I s) arg31)
variable (h32 : ∀ s, Lends (c : Thread nD τ) (I s) arg32)
variable (h33 : ∀ s, Lends (c : Thread nD τ) (I s) arg33)
variable (h34 : ∀ s, Lends (c : Thread nD τ) (I s) arg34)
variable (h23 : ∀ s, Shows (c : Thread nD τ) (I s) arg23)
variable (h24 : ∀ s, Shows (c : Thread nD τ) (I s) arg24)
variable (h25 : ∀ s, Shows (c : Thread nD τ) (I s) arg25)
variable (hq : ∀ (g : Fin 4) hx hm, Tr (defs₀ (F := F)) (c : Thread nD τ) (I (3 * g.val)) (Prog.lift (.store arg23 (colT g) (scaled x wq bq g) Finset.univ hx hm)) (I (3 * g.val + 1)) fun _ => True)
variable (hk : ∀ (g : Fin 4) hx hm, Tr (defs₀ (F := F)) (c : Thread nD τ) (I (3 * g.val + 1)) (Prog.lift (.store arg24 (colT g) (plain x wk bk g) Finset.univ hx hm)) (I (3 * g.val + 2)) fun _ => True)
variable (hv : ∀ (g : Fin 4) hx hm, Tr (defs₀ (F := F)) (c : Thread nD τ) (I (3 * g.val + 2)) (Prog.lift (.store arg25 (colT g) (plain x wv bv g) Finset.univ hx hm)) (I (3 * g.val + 3)) fun _ => True)
include h5 h6 h7 h12 h13 h14 h1 h2 h3 h4 h8 h9 h10 h11 h15 h16 h17 h18 h19 h20 h21 h22 h26 h27 h28 h29 h30 h31 h32 h33 h34 h23 h24 h25 hq hk hv

set_option maxHeartbeats 40000000 in
/-- The parts of the body that `k0_part636` calls. -/
theorem part636 (v5 : BitVec 32) : Tr (defs₀ (F := F)) (c : Thread nD τ) (I 5) (k0_part636 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v5 (k0_pay46 (View.ld x (Rect.unit (s := S8x64x1024) ![0, 0, 0] S8x64x1024.size inb_S8x64x1024_S8x64x1024_0_0_0)))) (I 6) (fun _ => True) := by
  rw [k0_part636_eq_skeleton]; unfold k0_part636_skel
  refine tr_bindS (I₁ := I 6) ?_ (fun _ => ?_)
  · rw [k0_part308_eq_skeleton]; unfold k0_part308_skel
    refine tr_bind_in (h7 _) ?_
    refine tr_bind_in (h14 _) ?_
    refine ldo (h25 _) fun _ => ?_
    refine tr_bindS (hv 1 _ _) fun _ => ?_
    iterate 5 first | refine ld (h31 _) fun _ => ?_ | refine ld (h27 _) fun _ => ?_
    exact tr_pure trivial
  iterate 8
    refine tr_bindT ?_ (fun _ => ?_)
    · first | rw [k0_part309_eq_skeleton]; unfold k0_part309_skel | rw [k0_part310_eq_skeleton]; unfold k0_part310_skel | rw [k0_part311_eq_skeleton]; unfold k0_part311_skel | rw [k0_part312_eq_skeleton]; unfold k0_part312_skel | rw [k0_part313_eq_skeleton]; unfold k0_part313_skel | rw [k0_part314_eq_skeleton]; unfold k0_part314_skel | rw [k0_part315_eq_skeleton]; unfold k0_part315_skel | rw [k0_part316_eq_skeleton]; unfold k0_part316_skel
      iterate 7 first | refine ld (h31 _) fun _ => ?_ | refine ld (h27 _) fun _ => ?_
      exact tr_pure trivial
  refine tr_bindT ?_ (fun _ => ?_)
  · rw [k0_part317_eq_skeleton]; unfold k0_part317_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part318_eq_skeleton]; unfold k0_part318_skel | rw [k0_part319_eq_skeleton]; unfold k0_part319_skel | rw [k0_part320_eq_skeleton]; unfold k0_part320_skel | rw [k0_part321_eq_skeleton]; unfold k0_part321_skel | rw [k0_part322_eq_skeleton]; unfold k0_part322_skel | rw [k0_part323_eq_skeleton]; unfold k0_part323_skel | rw [k0_part324_eq_skeleton]; unfold k0_part324_skel | rw [k0_part325_eq_skeleton]; unfold k0_part325_skel
      iterate 7 first | refine ld (h31 _) fun _ => ?_ | refine ld (h27 _) fun _ => ?_
      exact tr_pure trivial
  refine tr_bindT ?_ (fun _ => ?_)
  · rw [k0_part326_eq_skeleton]; unfold k0_part326_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part327_eq_skeleton]; unfold k0_part327_skel | rw [k0_part328_eq_skeleton]; unfold k0_part328_skel | rw [k0_part329_eq_skeleton]; unfold k0_part329_skel | rw [k0_part330_eq_skeleton]; unfold k0_part330_skel | rw [k0_part331_eq_skeleton]; unfold k0_part331_skel | rw [k0_part332_eq_skeleton]; unfold k0_part332_skel | rw [k0_part333_eq_skeleton]; unfold k0_part333_skel | rw [k0_part334_eq_skeleton]; unfold k0_part334_skel
      iterate 7 first | refine ld (h31 _) fun _ => ?_ | refine ld (h27 _) fun _ => ?_
      exact tr_pure trivial
  refine tr_bindT ?_ (fun _ => ?_)
  · rw [k0_part335_eq_skeleton]; unfold k0_part335_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part336_eq_skeleton]; unfold k0_part336_skel | rw [k0_part337_eq_skeleton]; unfold k0_part337_skel | rw [k0_part338_eq_skeleton]; unfold k0_part338_skel | rw [k0_part339_eq_skeleton]; unfold k0_part339_skel | rw [k0_part340_eq_skeleton]; unfold k0_part340_skel | rw [k0_part341_eq_skeleton]; unfold k0_part341_skel | rw [k0_part342_eq_skeleton]; unfold k0_part342_skel | rw [k0_part343_eq_skeleton]; unfold k0_part343_skel
      iterate 7 first | refine ld (h31 _) fun _ => ?_ | refine ld (h27 _) fun _ => ?_
      exact tr_pure trivial
  refine tr_bindT ?_ (fun _ => ?_)
  · rw [k0_part344_eq_skeleton]; unfold k0_part344_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part345_eq_skeleton]; unfold k0_part345_skel | rw [k0_part346_eq_skeleton]; unfold k0_part346_skel | rw [k0_part347_eq_skeleton]; unfold k0_part347_skel | rw [k0_part348_eq_skeleton]; unfold k0_part348_skel | rw [k0_part349_eq_skeleton]; unfold k0_part349_skel | rw [k0_part350_eq_skeleton]; unfold k0_part350_skel | rw [k0_part351_eq_skeleton]; unfold k0_part351_skel | rw [k0_part352_eq_skeleton]; unfold k0_part352_skel
      iterate 7 first | refine ld (h31 _) fun _ => ?_ | refine ld (h27 _) fun _ => ?_
      exact tr_pure trivial
  refine tr_bindT ?_ (fun _ => ?_)
  · rw [k0_part353_eq_skeleton]; unfold k0_part353_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part354_eq_skeleton]; unfold k0_part354_skel | rw [k0_part355_eq_skeleton]; unfold k0_part355_skel | rw [k0_part356_eq_skeleton]; unfold k0_part356_skel | rw [k0_part357_eq_skeleton]; unfold k0_part357_skel | rw [k0_part358_eq_skeleton]; unfold k0_part358_skel | rw [k0_part359_eq_skeleton]; unfold k0_part359_skel | rw [k0_part360_eq_skeleton]; unfold k0_part360_skel | rw [k0_part361_eq_skeleton]; unfold k0_part361_skel
      iterate 7 first | refine ld (h31 _) fun _ => ?_ | refine ld (h27 _) fun _ => ?_
      exact tr_pure trivial
  refine tr_bindT ?_ (fun _ => ?_)
  · rw [k0_part362_eq_skeleton]; unfold k0_part362_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 5
    refine tr_bindT ?_ (fun _ => ?_)
    · first | rw [k0_part363_eq_skeleton]; unfold k0_part363_skel | rw [k0_part364_eq_skeleton]; unfold k0_part364_skel | rw [k0_part365_eq_skeleton]; unfold k0_part365_skel | rw [k0_part366_eq_skeleton]; unfold k0_part366_skel | rw [k0_part367_eq_skeleton]; unfold k0_part367_skel
      iterate 7 first | refine ld (h31 _) fun _ => ?_ | refine ld (h27 _) fun _ => ?_
      exact tr_pure trivial
  exact tr_pure trivial

set_option maxHeartbeats 40000000 in
/-- The parts of the body that `k0_part637` calls. -/
theorem part637 (v0 : BitVec 32) (v3 : BitVec 32) (v5 : BitVec 32) (v12613 : FVec F S64x128 .f32) (v12616 : FVec F S64x128 .f32) (v12618 : BitVec 32) : Tr (defs₀ (F := F)) (c : Thread nD τ) (I 6) (k0_part637 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v0 v3 v5 (k0_pay46 (View.ld x (Rect.unit (s := S8x64x1024) ![0, 0, 0] S8x64x1024.size inb_S8x64x1024_S8x64x1024_0_0_0))) v12613 v12616 v12618) (I 7) (fun _ => True) := by
  rw [k0_part637_eq_skeleton]; unfold k0_part637_skel
  iterate 3
    refine tr_bindT ?_ (fun _ => ?_)
    · first | rw [k0_part368_eq_skeleton]; unfold k0_part368_skel | rw [k0_part369_eq_skeleton]; unfold k0_part369_skel | rw [k0_part370_eq_skeleton]; unfold k0_part370_skel
      iterate 7 first | refine ld (h31 _) fun _ => ?_ | refine ld (h27 _) fun _ => ?_
      exact tr_pure trivial
  refine tr_bindT ?_ (fun _ => ?_)
  · rw [k0_part371_eq_skeleton]; unfold k0_part371_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part372_eq_skeleton]; unfold k0_part372_skel | rw [k0_part373_eq_skeleton]; unfold k0_part373_skel | rw [k0_part374_eq_skeleton]; unfold k0_part374_skel | rw [k0_part375_eq_skeleton]; unfold k0_part375_skel | rw [k0_part376_eq_skeleton]; unfold k0_part376_skel | rw [k0_part377_eq_skeleton]; unfold k0_part377_skel | rw [k0_part378_eq_skeleton]; unfold k0_part378_skel | rw [k0_part379_eq_skeleton]; unfold k0_part379_skel
      iterate 7 first | refine ld (h31 _) fun _ => ?_ | refine ld (h27 _) fun _ => ?_
      exact tr_pure trivial
  refine tr_bindT ?_ (fun _ => ?_)
  · rw [k0_part380_eq_skeleton]; unfold k0_part380_skel
    iterate 2 first | refine ld (h31 _) fun _ => ?_ | refine ld (h27 _) fun _ => ?_
    refine ld (h28 _) fun _ => ?_
    refine st (h28 _) fun _ => ?_
    refine ld (h2 _) fun _ => ?_
    refine ld (h9 _) fun _ => ?_
    refine ld (h3 _) fun _ => ?_
    refine ld (h10 _) fun _ => ?_
    exact tr_pure trivial
  refine tr_bindT ?_ (fun _ => ?_)
  · rw [k0_part381_eq_skeleton]; unfold k0_part381_skel
    refine ld (h4 _) fun _ => ?_
    refine ld (h11 _) fun _ => ?_
    refine ld (h29 _) fun _ => ?_
    refine st (h29 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part382_eq_skeleton]; unfold k0_part382_skel
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part383_eq_skeleton]; unfold k0_part383_skel
    refine st (h27 _) fun _ => ?_
    iterate 2 first | refine ld (h31 _) fun _ => ?_ | refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part384_eq_skeleton]; unfold k0_part384_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindS (I₁ := I 7) ?_ (fun _ => ?_)
  · rw [k0_part385_eq_skeleton]; unfold k0_part385_skel
    refine ld (h27 _) fun _ => ?_
    refine st (h27 _) fun _ => ?_
    refine tr_bind_in (h5 _) ?_
    refine tr_bind_in (h12 _) ?_
    refine ldo (h23 _) fun _ => ?_
    refine tr_bindS (hq 2 _ _) fun _ => ?_
    iterate 4 first | refine ld (h31 _) fun _ => ?_ | refine ld (h27 _) fun _ => ?_
    exact tr_pure trivial
  iterate 8
    refine tr_bindT ?_ (fun _ => ?_)
    · first | rw [k0_part386_eq_skeleton]; unfold k0_part386_skel | rw [k0_part387_eq_skeleton]; unfold k0_part387_skel | rw [k0_part388_eq_skeleton]; unfold k0_part388_skel | rw [k0_part389_eq_skeleton]; unfold k0_part389_skel | rw [k0_part390_eq_skeleton]; unfold k0_part390_skel | rw [k0_part391_eq_skeleton]; unfold k0_part391_skel | rw [k0_part392_eq_skeleton]; unfold k0_part392_skel | rw [k0_part393_eq_skeleton]; unfold k0_part393_skel
      iterate 7 first | refine ld (h31 _) fun _ => ?_ | refine ld (h27 _) fun _ => ?_
      exact tr_pure trivial
  refine tr_bindT ?_ (fun _ => ?_)
  · rw [k0_part394_eq_skeleton]; unfold k0_part394_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part395_eq_skeleton]; unfold k0_part395_skel | rw [k0_part396_eq_skeleton]; unfold k0_part396_skel | rw [k0_part397_eq_skeleton]; unfold k0_part397_skel | rw [k0_part398_eq_skeleton]; unfold k0_part398_skel | rw [k0_part399_eq_skeleton]; unfold k0_part399_skel | rw [k0_part400_eq_skeleton]; unfold k0_part400_skel | rw [k0_part401_eq_skeleton]; unfold k0_part401_skel | rw [k0_part402_eq_skeleton]; unfold k0_part402_skel
      iterate 7 first | refine ld (h31 _) fun _ => ?_ | refine ld (h27 _) fun _ => ?_
      exact tr_pure trivial
  refine tr_bindT ?_ (fun _ => ?_)
  · rw [k0_part403_eq_skeleton]; unfold k0_part403_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part404_eq_skeleton]; unfold k0_part404_skel | rw [k0_part405_eq_skeleton]; unfold k0_part405_skel | rw [k0_part406_eq_skeleton]; unfold k0_part406_skel | rw [k0_part407_eq_skeleton]; unfold k0_part407_skel | rw [k0_part408_eq_skeleton]; unfold k0_part408_skel | rw [k0_part409_eq_skeleton]; unfold k0_part409_skel | rw [k0_part410_eq_skeleton]; unfold k0_part410_skel | rw [k0_part411_eq_skeleton]; unfold k0_part411_skel
      iterate 7 first | refine ld (h31 _) fun _ => ?_ | refine ld (h27 _) fun _ => ?_
      exact tr_pure trivial
  refine tr_bindT ?_ (fun _ => ?_)
  · rw [k0_part412_eq_skeleton]; unfold k0_part412_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part413_eq_skeleton]; unfold k0_part413_skel | rw [k0_part414_eq_skeleton]; unfold k0_part414_skel | rw [k0_part415_eq_skeleton]; unfold k0_part415_skel | rw [k0_part416_eq_skeleton]; unfold k0_part416_skel | rw [k0_part417_eq_skeleton]; unfold k0_part417_skel | rw [k0_part418_eq_skeleton]; unfold k0_part418_skel | rw [k0_part419_eq_skeleton]; unfold k0_part419_skel | rw [k0_part420_eq_skeleton]; unfold k0_part420_skel
      iterate 7 first | refine ld (h31 _) fun _ => ?_ | refine ld (h27 _) fun _ => ?_
      exact tr_pure trivial
  refine tr_bindT ?_ (fun _ => ?_)
  · rw [k0_part421_eq_skeleton]; unfold k0_part421_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 6
    refine tr_bindT ?_ (fun _ => ?_)
    · first | rw [k0_part422_eq_skeleton]; unfold k0_part422_skel | rw [k0_part423_eq_skeleton]; unfold k0_part423_skel | rw [k0_part424_eq_skeleton]; unfold k0_part424_skel | rw [k0_part425_eq_skeleton]; unfold k0_part425_skel | rw [k0_part426_eq_skeleton]; unfold k0_part426_skel | rw [k0_part427_eq_skeleton]; unfold k0_part427_skel
      iterate 7 first | refine ld (h31 _) fun _ => ?_ | refine ld (h27 _) fun _ => ?_
      exact tr_pure trivial
  exact tr_pure trivial

set_option maxHeartbeats 40000000 in
/-- The parts of the body that `k0_part638` calls. -/
theorem part638 (v5 : BitVec 32) (v14716 : FVec F S64x128 .f32) (v14719 : FVec F S64x128 .f32) (v14721 : BitVec 32) : Tr (defs₀ (F := F)) (c : Thread nD τ) (I 7) (k0_part638 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v5 (k0_pay46 (View.ld x (Rect.unit (s := S8x64x1024) ![0, 0, 0] S8x64x1024.size inb_S8x64x1024_S8x64x1024_0_0_0))) v14716 v14719 v14721) (I 9) (fun _ => True) := by
  rw [k0_part638_eq_skeleton]; unfold k0_part638_skel
  iterate 2
    refine tr_bindT ?_ (fun _ => ?_)
    · first | rw [k0_part428_eq_skeleton]; unfold k0_part428_skel | rw [k0_part429_eq_skeleton]; unfold k0_part429_skel
      iterate 7 first | refine ld (h31 _) fun _ => ?_ | refine ld (h27 _) fun _ => ?_
      exact tr_pure trivial
  refine tr_bindT ?_ (fun _ => ?_)
  · rw [k0_part430_eq_skeleton]; unfold k0_part430_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part431_eq_skeleton]; unfold k0_part431_skel | rw [k0_part432_eq_skeleton]; unfold k0_part432_skel | rw [k0_part433_eq_skeleton]; unfold k0_part433_skel | rw [k0_part434_eq_skeleton]; unfold k0_part434_skel | rw [k0_part435_eq_skeleton]; unfold k0_part435_skel | rw [k0_part436_eq_skeleton]; unfold k0_part436_skel | rw [k0_part437_eq_skeleton]; unfold k0_part437_skel | rw [k0_part438_eq_skeleton]; unfold k0_part438_skel
      iterate 7 first | refine ld (h31 _) fun _ => ?_ | refine ld (h27 _) fun _ => ?_
      exact tr_pure trivial
  refine tr_bindT ?_ (fun _ => ?_)
  · rw [k0_part439_eq_skeleton]; unfold k0_part439_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part440_eq_skeleton]; unfold k0_part440_skel | rw [k0_part441_eq_skeleton]; unfold k0_part441_skel | rw [k0_part442_eq_skeleton]; unfold k0_part442_skel | rw [k0_part443_eq_skeleton]; unfold k0_part443_skel | rw [k0_part444_eq_skeleton]; unfold k0_part444_skel | rw [k0_part445_eq_skeleton]; unfold k0_part445_skel | rw [k0_part446_eq_skeleton]; unfold k0_part446_skel | rw [k0_part447_eq_skeleton]; unfold k0_part447_skel
      iterate 7 first | refine ld (h31 _) fun _ => ?_ | refine ld (h27 _) fun _ => ?_
      exact tr_pure trivial
  refine tr_bindT ?_ (fun _ => ?_)
  · rw [k0_part448_eq_skeleton]; unfold k0_part448_skel
    iterate 3 first | refine ld (h31 _) fun _ => ?_ | refine ld (h27 _) fun _ => ?_
    refine ld (h28 _) fun _ => ?_
    refine st (h28 _) fun _ => ?_
    iterate 4 first | refine ld (h31 _) fun _ => ?_ | refine ld (h27 _) fun _ => ?_
    exact tr_pure trivial
  iterate 8
    refine tr_bindT ?_ (fun _ => ?_)
    · first | rw [k0_part449_eq_skeleton]; unfold k0_part449_skel | rw [k0_part450_eq_skeleton]; unfold k0_part450_skel | rw [k0_part451_eq_skeleton]; unfold k0_part451_skel | rw [k0_part452_eq_skeleton]; unfold k0_part452_skel | rw [k0_part453_eq_skeleton]; unfold k0_part453_skel | rw [k0_part454_eq_skeleton]; unfold k0_part454_skel | rw [k0_part455_eq_skeleton]; unfold k0_part455_skel | rw [k0_part456_eq_skeleton]; unfold k0_part456_skel
      iterate 7 first | refine ld (h31 _) fun _ => ?_ | refine ld (h27 _) fun _ => ?_
      exact tr_pure trivial
  refine tr_bind (I₁ := I 8) (R := fun r => r = k0_pay373 (k0_pay46 (View.ld x (Rect.unit (s := S8x64x1024) ![0, 0, 0] S8x64x1024.size inb_S8x64x1024_S8x64x1024_0_0_0))) (View.ld wv (colW 2))) ?_ ?_
  · rw [k0_part457_eq_skeleton]; unfold k0_part457_skel
    iterate 3 first | refine ld (h31 _) fun _ => ?_ | refine ld (h27 _) fun _ => ?_
    refine ld (h28 _) fun _ => ?_
    refine st (h28 _) fun _ => ?_
    refine tr_bind_in (h6 _) ?_
    refine tr_bind_in (h13 _) ?_
    refine ldo (h24 _) fun _ => ?_
    refine tr_bindS (hk 2 _ _) fun _ => ?_
    refine tr_bind_in (h7 _) ?_
    exact tr_pure rfl
  rintro _ rfl
  refine tr_bindS (I₁ := I 9) ?_ (fun _ => ?_)
  · rw [k0_part458_eq_skeleton]; unfold k0_part458_skel
    refine tr_bind_in (h14 _) ?_
    refine ldo (h25 _) fun _ => ?_
    refine tr_bindS (hv 2 _ _) fun _ => ?_
    iterate 6 first | refine ld (h31 _) fun _ => ?_ | refine ld (h27 _) fun _ => ?_
    exact tr_pure trivial
  iterate 8
    refine tr_bindT ?_ (fun _ => ?_)
    · first | rw [k0_part459_eq_skeleton]; unfold k0_part459_skel | rw [k0_part460_eq_skeleton]; unfold k0_part460_skel | rw [k0_part461_eq_skeleton]; unfold k0_part461_skel | rw [k0_part462_eq_skeleton]; unfold k0_part462_skel | rw [k0_part463_eq_skeleton]; unfold k0_part463_skel | rw [k0_part464_eq_skeleton]; unfold k0_part464_skel | rw [k0_part465_eq_skeleton]; unfold k0_part465_skel | rw [k0_part466_eq_skeleton]; unfold k0_part466_skel
      iterate 7 first | refine ld (h31 _) fun _ => ?_ | refine ld (h27 _) fun _ => ?_
      exact tr_pure trivial
  refine tr_bindT ?_ (fun _ => ?_)
  · rw [k0_part467_eq_skeleton]; unfold k0_part467_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part468_eq_skeleton]; unfold k0_part468_skel | rw [k0_part469_eq_skeleton]; unfold k0_part469_skel | rw [k0_part470_eq_skeleton]; unfold k0_part470_skel | rw [k0_part471_eq_skeleton]; unfold k0_part471_skel | rw [k0_part472_eq_skeleton]; unfold k0_part472_skel | rw [k0_part473_eq_skeleton]; unfold k0_part473_skel | rw [k0_part474_eq_skeleton]; unfold k0_part474_skel | rw [k0_part475_eq_skeleton]; unfold k0_part475_skel
      iterate 7 first | refine ld (h31 _) fun _ => ?_ | refine ld (h27 _) fun _ => ?_
      exact tr_pure trivial
  refine tr_bindT ?_ (fun _ => ?_)
  · rw [k0_part476_eq_skeleton]; unfold k0_part476_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part477_eq_skeleton]; unfold k0_part477_skel | rw [k0_part478_eq_skeleton]; unfold k0_part478_skel | rw [k0_part479_eq_skeleton]; unfold k0_part479_skel | rw [k0_part480_eq_skeleton]; unfold k0_part480_skel | rw [k0_part481_eq_skeleton]; unfold k0_part481_skel | rw [k0_part482_eq_skeleton]; unfold k0_part482_skel | rw [k0_part483_eq_skeleton]; unfold k0_part483_skel | rw [k0_part484_eq_skeleton]; unfold k0_part484_skel
      iterate 7 first | refine ld (h31 _) fun _ => ?_ | refine ld (h27 _) fun _ => ?_
      exact tr_pure trivial
  refine tr_bindT ?_ (fun _ => ?_)
  · rw [k0_part485_eq_skeleton]; unfold k0_part485_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 2
    refine tr_bindT ?_ (fun _ => ?_)
    · first | rw [k0_part486_eq_skeleton]; unfold k0_part486_skel | rw [k0_part487_eq_skeleton]; unfold k0_part487_skel
      iterate 7 first | refine ld (h31 _) fun _ => ?_ | refine ld (h27 _) fun _ => ?_
      exact tr_pure trivial
  exact tr_pure trivial

set_option maxHeartbeats 40000000 in
/-- The parts of the body that `k0_part639` calls. -/
theorem part639 (v0 : BitVec 32) (v3 : BitVec 32) (v5 : BitVec 32) (v16818 : FVec F S64x128 .f32) (v16821 : FVec F S64x128 .f32) (v16822 : BitVec 32) (c72_i32_11769 : BitVec 32) : Tr (defs₀ (F := F)) (c : Thread nD τ) (I 9) (k0_part639 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v0 v3 v5 (k0_pay46 (View.ld x (Rect.unit (s := S8x64x1024) ![0, 0, 0] S8x64x1024.size inb_S8x64x1024_S8x64x1024_0_0_0))) v16818 v16821 v16822 c72_i32_11769) (I 10) (fun _ => True) := by
  rw [k0_part639_eq_skeleton]; unfold k0_part639_skel
  iterate 6
    refine tr_bindT ?_ (fun _ => ?_)
    · first | rw [k0_part488_eq_skeleton]; unfold k0_part488_skel | rw [k0_part489_eq_skeleton]; unfold k0_part489_skel | rw [k0_part490_eq_skeleton]; unfold k0_part490_skel | rw [k0_part491_eq_skeleton]; unfold k0_part491_skel | rw [k0_part492_eq_skeleton]; unfold k0_part492_skel | rw [k0_part493_eq_skeleton]; unfold k0_part493_skel
      iterate 7 first | refine ld (h31 _) fun _ => ?_ | refine ld (h27 _) fun _ => ?_
      exact tr_pure trivial
  refine tr_bindT ?_ (fun _ => ?_)
  · rw [k0_part494_eq_skeleton]; unfold k0_part494_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part495_eq_skeleton]; unfold k0_part495_skel | rw [k0_part496_eq_skeleton]; unfold k0_part496_skel | rw [k0_part497_eq_skeleton]; unfold k0_part497_skel | rw [k0_part498_eq_skeleton]; unfold k0_part498_skel | rw [k0_part499_eq_skeleton]; unfold k0_part499_skel | rw [k0_part500_eq_skeleton]; unfold k0_part500_skel | rw [k0_part501_eq_skeleton]; unfold k0_part501_skel | rw [k0_part502_eq_skeleton]; unfold k0_part502_skel
      iterate 7 first | refine ld (h31 _) fun _ => ?_ | refine ld (h27 _) fun _ => ?_
      exact tr_pure trivial
  refine tr_bindT ?_ (fun _ => ?_)
  · rw [k0_part503_eq_skeleton]; unfold k0_part503_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part504_eq_skeleton]; unfold k0_part504_skel | rw [k0_part505_eq_skeleton]; unfold k0_part505_skel | rw [k0_part506_eq_skeleton]; unfold k0_part506_skel | rw [k0_part507_eq_skeleton]; unfold k0_part507_skel | rw [k0_part508_eq_skeleton]; unfold k0_part508_skel | rw [k0_part509_eq_skeleton]; unfold k0_part509_skel | rw [k0_part510_eq_skeleton]; unfold k0_part510_skel | rw [k0_part511_eq_skeleton]; unfold k0_part511_skel
      iterate 7 first | refine ld (h31 _) fun _ => ?_ | refine ld (h27 _) fun _ => ?_
      exact tr_pure trivial
  refine tr_bindT ?_ (fun _ => ?_)
  · rw [k0_part512_eq_skeleton]; unfold k0_part512_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part513_eq_skeleton]; unfold k0_part513_skel | rw [k0_part514_eq_skeleton]; unfold k0_part514_skel | rw [k0_part515_eq_skeleton]; unfold k0_part515_skel | rw [k0_part516_eq_skeleton]; unfold k0_part516_skel | rw [k0_part517_eq_skeleton]; unfold k0_part517_skel | rw [k0_part518_eq_skeleton]; unfold k0_part518_skel | rw [k0_part519_eq_skeleton]; unfold k0_part519_skel | rw [k0_part520_eq_skeleton]; unfold k0_part520_skel
      iterate 7 first | refine ld (h31 _) fun _ => ?_ | refine ld (h27 _) fun _ => ?_
      exact tr_pure trivial
  refine tr_bindT ?_ (fun _ => ?_)
  · rw [k0_part521_eq_skeleton]; unfold k0_part521_skel
    refine ld (h27 _) fun _ => ?_
    refine ld (h28 _) fun _ => ?_
    refine st (h28 _) fun _ => ?_
    iterate 6 first | refine ld (h31 _) fun _ => ?_ | refine ld (h27 _) fun _ => ?_
    exact tr_pure trivial
  iterate 8
    refine tr_bindT ?_ (fun _ => ?_)
    · first | rw [k0_part522_eq_skeleton]; unfold k0_part522_skel | rw [k0_part523_eq_skeleton]; unfold k0_part523_skel | rw [k0_part524_eq_skeleton]; unfold k0_part524_skel | rw [k0_part525_eq_skeleton]; unfold k0_part525_skel | rw [k0_part526_eq_skeleton]; unfold k0_part526_skel | rw [k0_part527_eq_skeleton]; unfold k0_part527_skel | rw [k0_part528_eq_skeleton]; unfold k0_part528_skel | rw [k0_part529_eq_skeleton]; unfold k0_part529_skel
      iterate 7 first | refine ld (h31 _) fun _ => ?_ | refine ld (h27 _) fun _ => ?_
      exact tr_pure trivial
  refine tr_bindT ?_ (fun _ => ?_)
  · rw [k0_part530_eq_skeleton]; unfold k0_part530_skel
    refine ld (h27 _) fun _ => ?_
    refine ld (h28 _) fun _ => ?_
    refine st (h28 _) fun _ => ?_
    refine ld (h2 _) fun _ => ?_
    refine ld (h9 _) fun _ => ?_
    refine ld (h3 _) fun _ => ?_
    refine ld (h10 _) fun _ => ?_
    refine ld (h4 _) fun _ => ?_
    exact tr_pure trivial
  refine tr_bindT ?_ (fun _ => ?_)
  · rw [k0_part531_eq_skeleton]; unfold k0_part531_skel
    refine ld (h11 _) fun _ => ?_
    refine ld (h29 _) fun _ => ?_
    refine st (h29 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part532_eq_skeleton]; unfold k0_part532_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    exact tr_pure trivial
  refine tr_bindT ?_ (fun _ => ?_)
  · rw [k0_part533_eq_skeleton]; unfold k0_part533_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    exact tr_pure trivial
  refine tr_bindT ?_ (fun _ => ?_)
  · rw [k0_part534_eq_skeleton]; unfold k0_part534_skel
    refine ld (h27 _) fun _ => ?_
    refine st (h27 _) fun _ => ?_
    refine ld (h27 _) fun _ => ?_
    refine st (h27 _) fun _ => ?_
    refine ld (h27 _) fun _ => ?_
    refine st (h27 _) fun _ => ?_
    refine ld (h27 _) fun _ => ?_
    refine st (h27 _) fun _ => ?_
    iterate 2 first | refine ld (h31 _) fun _ => ?_ | refine ld (h27 _) fun _ => ?_
    refine st (h27 _) fun _ => ?_
    exact tr_pure trivial
  refine tr_bindS (I₁ := I 10) ?_ (fun _ => ?_)
  · rw [k0_part535_eq_skeleton]; unfold k0_part535_skel
    refine tr_bind_in (h5 _) ?_
    refine tr_bind_in (h12 _) ?_
    refine ldo (h23 _) fun _ => ?_
    refine tr_bindS (hq 3 _ _) fun _ => ?_
    iterate 5 first | refine ld (h31 _) fun _ => ?_ | refine ld (h27 _) fun _ => ?_
    exact tr_pure trivial
  iterate 8
    refine tr_bindT ?_ (fun _ => ?_)
    · first | rw [k0_part536_eq_skeleton]; unfold k0_part536_skel | rw [k0_part537_eq_skeleton]; unfold k0_part537_skel | rw [k0_part538_eq_skeleton]; unfold k0_part538_skel | rw [k0_part539_eq_skeleton]; unfold k0_part539_skel | rw [k0_part540_eq_skeleton]; unfold k0_part540_skel | rw [k0_part541_eq_skeleton]; unfold k0_part541_skel | rw [k0_part542_eq_skeleton]; unfold k0_part542_skel | rw [k0_part543_eq_skeleton]; unfold k0_part543_skel
      iterate 7 first | refine ld (h31 _) fun _ => ?_ | refine ld (h27 _) fun _ => ?_
      exact tr_pure trivial
  refine tr_bindT ?_ (fun _ => ?_)
  · rw [k0_part544_eq_skeleton]; unfold k0_part544_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 3
    refine tr_bindT ?_ (fun _ => ?_)
    · first | rw [k0_part545_eq_skeleton]; unfold k0_part545_skel | rw [k0_part546_eq_skeleton]; unfold k0_part546_skel | rw [k0_part547_eq_skeleton]; unfold k0_part547_skel
      iterate 7 first | refine ld (h31 _) fun _ => ?_ | refine ld (h27 _) fun _ => ?_
      exact tr_pure trivial
  exact tr_pure trivial

set_option maxHeartbeats 40000000 in
/-- The parts of the body that `k0_part640` calls. -/
theorem part640 (v5 : BitVec 32) (v18921 : FVec F S64x128 .f32) (v18924 : FVec F S64x128 .f32) (v18925 : BitVec 32) (c96_i32_13239 : BitVec 32) : Tr (defs₀ (F := F)) (c : Thread nD τ) (I 10) (k0_part640 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 v5 (k0_pay46 (View.ld x (Rect.unit (s := S8x64x1024) ![0, 0, 0] S8x64x1024.size inb_S8x64x1024_S8x64x1024_0_0_0))) v18921 v18924 v18925 c96_i32_13239) (I 11) (fun r => r = plain x wv bv 3) := by
  rw [k0_part640_eq_skeleton]; unfold k0_part640_skel
  iterate 5
    refine tr_bindT ?_ (fun _ => ?_)
    · first | rw [k0_part548_eq_skeleton]; unfold k0_part548_skel | rw [k0_part549_eq_skeleton]; unfold k0_part549_skel | rw [k0_part550_eq_skeleton]; unfold k0_part550_skel | rw [k0_part551_eq_skeleton]; unfold k0_part551_skel | rw [k0_part552_eq_skeleton]; unfold k0_part552_skel
      iterate 7 first | refine ld (h31 _) fun _ => ?_ | refine ld (h27 _) fun _ => ?_
      exact tr_pure trivial
  refine tr_bindT ?_ (fun _ => ?_)
  · rw [k0_part553_eq_skeleton]; unfold k0_part553_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part554_eq_skeleton]; unfold k0_part554_skel | rw [k0_part555_eq_skeleton]; unfold k0_part555_skel | rw [k0_part556_eq_skeleton]; unfold k0_part556_skel | rw [k0_part557_eq_skeleton]; unfold k0_part557_skel | rw [k0_part558_eq_skeleton]; unfold k0_part558_skel | rw [k0_part559_eq_skeleton]; unfold k0_part559_skel | rw [k0_part560_eq_skeleton]; unfold k0_part560_skel | rw [k0_part561_eq_skeleton]; unfold k0_part561_skel
      iterate 7 first | refine ld (h31 _) fun _ => ?_ | refine ld (h27 _) fun _ => ?_
      exact tr_pure trivial
  refine tr_bindT ?_ (fun _ => ?_)
  · rw [k0_part562_eq_skeleton]; unfold k0_part562_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part563_eq_skeleton]; unfold k0_part563_skel | rw [k0_part564_eq_skeleton]; unfold k0_part564_skel | rw [k0_part565_eq_skeleton]; unfold k0_part565_skel | rw [k0_part566_eq_skeleton]; unfold k0_part566_skel | rw [k0_part567_eq_skeleton]; unfold k0_part567_skel | rw [k0_part568_eq_skeleton]; unfold k0_part568_skel | rw [k0_part569_eq_skeleton]; unfold k0_part569_skel | rw [k0_part570_eq_skeleton]; unfold k0_part570_skel
      iterate 7 first | refine ld (h31 _) fun _ => ?_ | refine ld (h27 _) fun _ => ?_
      exact tr_pure trivial
  refine tr_bindT ?_ (fun _ => ?_)
  · rw [k0_part571_eq_skeleton]; unfold k0_part571_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part572_eq_skeleton]; unfold k0_part572_skel | rw [k0_part573_eq_skeleton]; unfold k0_part573_skel | rw [k0_part574_eq_skeleton]; unfold k0_part574_skel | rw [k0_part575_eq_skeleton]; unfold k0_part575_skel | rw [k0_part576_eq_skeleton]; unfold k0_part576_skel | rw [k0_part577_eq_skeleton]; unfold k0_part577_skel | rw [k0_part578_eq_skeleton]; unfold k0_part578_skel | rw [k0_part579_eq_skeleton]; unfold k0_part579_skel
      iterate 7 first | refine ld (h31 _) fun _ => ?_ | refine ld (h27 _) fun _ => ?_
      exact tr_pure trivial
  refine tr_bindT ?_ (fun _ => ?_)
  · rw [k0_part580_eq_skeleton]; unfold k0_part580_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part581_eq_skeleton]; unfold k0_part581_skel | rw [k0_part582_eq_skeleton]; unfold k0_part582_skel | rw [k0_part583_eq_skeleton]; unfold k0_part583_skel | rw [k0_part584_eq_skeleton]; unfold k0_part584_skel | rw [k0_part585_eq_skeleton]; unfold k0_part585_skel | rw [k0_part586_eq_skeleton]; unfold k0_part586_skel | rw [k0_part587_eq_skeleton]; unfold k0_part587_skel | rw [k0_part588_eq_skeleton]; unfold k0_part588_skel
      iterate 7 first | refine ld (h31 _) fun _ => ?_ | refine ld (h27 _) fun _ => ?_
      exact tr_pure trivial
  refine tr_bindT ?_ (fun _ => ?_)
  · rw [k0_part589_eq_skeleton]; unfold k0_part589_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part590_eq_skeleton]; unfold k0_part590_skel | rw [k0_part591_eq_skeleton]; unfold k0_part591_skel | rw [k0_part592_eq_skeleton]; unfold k0_part592_skel | rw [k0_part593_eq_skeleton]; unfold k0_part593_skel | rw [k0_part594_eq_skeleton]; unfold k0_part594_skel | rw [k0_part595_eq_skeleton]; unfold k0_part595_skel | rw [k0_part596_eq_skeleton]; unfold k0_part596_skel | rw [k0_part597_eq_skeleton]; unfold k0_part597_skel
      iterate 7 first | refine ld (h31 _) fun _ => ?_ | refine ld (h27 _) fun _ => ?_
      exact tr_pure trivial
  refine tr_bindT ?_ (fun _ => ?_)
  · rw [k0_part598_eq_skeleton]; unfold k0_part598_skel
    iterate 2 first | refine ld (h31 _) fun _ => ?_ | refine ld (h27 _) fun _ => ?_
    refine ld (h28 _) fun _ => ?_
    refine st (h28 _) fun _ => ?_
    iterate 5 first | refine ld (h31 _) fun _ => ?_ | refine ld (h27 _) fun _ => ?_
    exact tr_pure trivial
  iterate 8
    refine tr_bindT ?_ (fun _ => ?_)
    · first | rw [k0_part599_eq_skeleton]; unfold k0_part599_skel | rw [k0_part600_eq_skeleton]; unfold k0_part600_skel | rw [k0_part601_eq_skeleton]; unfold k0_part601_skel | rw [k0_part602_eq_skeleton]; unfold k0_part602_skel | rw [k0_part603_eq_skeleton]; unfold k0_part603_skel | rw [k0_part604_eq_skeleton]; unfold k0_part604_skel | rw [k0_part605_eq_skeleton]; unfold k0_part605_skel | rw [k0_part606_eq_skeleton]; unfold k0_part606_skel
      iterate 7 first | refine ld (h31 _) fun _ => ?_ | refine ld (h27 _) fun _ => ?_
      exact tr_pure trivial
  rw [k0_part607_eq_skeleton]; unfold k0_part607_skel
  iterate 2 first | refine ld (h31 _) fun _ => ?_ | refine ld (h27 _) fun _ => ?_
  refine ld (h28 _) fun _ => ?_
  refine st (h28 _) fun _ => ?_
  refine tr_bind_in (h6 _) ?_
  refine tr_bind_in (h13 _) ?_
  refine ldo (h24 _) fun _ => ?_
  refine tr_bindS (hk 3 _ _) fun _ => ?_
  refine tr_bind_in (h7 _) ?_
  refine tr_bind_in (h14 _) ?_
  exact tr_pure rfl

end Cert.ProjectionsIdeal.Hand

end
-- ==== Proof.ProjectionsIdealStep.lean ====
/-
  One step of the projecting branch: from the block of tokens, the weights and the biases at known contents and every
  other buffer at any, it ends with the blocks of queries, keys and values filled and the known contents in place.
-/
module

public import proofs.«01_k».proof.Proof.ProjectionsIdealColumns
public import proofs.«01_k».proof.Proof.ProjectionsIdealPartsA
public import proofs.«01_k».proof.Proof.ProjectionsIdealPartsB
public import proofs.«01_k».proof.Proof.Gen.ProjectionsIdeal.Frame
public import proofs.«01_k».proof.Proof.Gen.ProjectionsIdeal.Skeleton

@[expose] public section

set_option maxRecDepth 65536

noncomputable section

namespace Cert.ProjectionsIdeal.Hand

open Cert.ProjectionsIdeal Cert.ProjectionsIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (c : Dev nD) (i : grid0.Coords) (arg1 : Memref sig .tc .vmem S8x64x1024 .f32) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x128 .f32) (harg15 : arg15.IsWhole) (arg16 : Memref sig .tc .vmem S31x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S384x128 .bf16) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x64x128 .bf16) (harg26 : arg26.IsWhole) (arg27 : Memref sig .tc .vmem S8x1504x128 .f32) (harg27 : arg27.IsWhole) (arg28 : Memref sig .tc .vmem S8x512x128 .f32) (harg28 : arg28.IsWhole) (arg29 : Memref sig .tc .vmem S2x512x1024 .f32) (harg29 : arg29.IsWhole) (arg30 : Memref sig .tc .vmem S512x1024 .bf16) (harg30 : arg30.IsWhole) (arg31 : Memref sig .tc .vmem S32x8x1024 .f32) (harg31 : arg31.IsWhole) (arg32 : Memref sig .tc .vmem S1x512x128 .f32) (harg32 : arg32.IsWhole) (arg33 : Memref sig .tc .vmem S8x128 .f32) (harg33 : arg33.IsWhole) (arg34 : Memref sig .tc .vmem S8x128 .f32) (harg34 : arg34.IsWhole)
variable (x : Vec F S8x64x1024 .f32) (wq wk wv : Vec F S1x1024x1024 .bf16) (bq bk bv : Vec F S1x1x1024 .f32)
variable (I : ℕ → sProp (Steps.Alg nD τ sig (Elt F)))
variable (h5 : ∀ s, Keeps (c : Thread nD τ) (I s) arg5 wq)
variable (h6 : ∀ s, Keeps (c : Thread nD τ) (I s) arg6 wk)
variable (h7 : ∀ s, Keeps (c : Thread nD τ) (I s) arg7 wv)
variable (h12 : ∀ s, Keeps (c : Thread nD τ) (I s) arg12 bq)
variable (h13 : ∀ s, Keeps (c : Thread nD τ) (I s) arg13 bk)
variable (h14 : ∀ s, Keeps (c : Thread nD τ) (I s) arg14 bv)
variable (h1 : ∀ s, Keeps (c : Thread nD τ) (I s) arg1 x)
variable (h2 : ∀ s, Lends (c : Thread nD τ) (I s) arg2)
variable (h3 : ∀ s, Lends (c : Thread nD τ) (I s) arg3)
variable (h4 : ∀ s, Lends (c : Thread nD τ) (I s) arg4)
variable (h8 : ∀ s, Lends (c : Thread nD τ) (I s) arg8)
variable (h9 : ∀ s, Lends (c : Thread nD τ) (I s) arg9)
variable (h10 : ∀ s, Lends (c : Thread nD τ) (I s) arg10)
variable (h11 : ∀ s, Lends (c : Thread nD τ) (I s) arg11)
variable (h15 : ∀ s, Lends (c : Thread nD τ) (I s) arg15)
variable (h16 : ∀ s, Lends (c : Thread nD τ) (I s) arg16)
variable (h17 : ∀ s, Lends (c : Thread nD τ) (I s) arg17)
variable (h18 : ∀ s, Lends (c : Thread nD τ) (I s) arg18)
variable (h19 : ∀ s, Lends (c : Thread nD τ) (I s) arg19)
variable (h20 : ∀ s, Lends (c : Thread nD τ) (I s) arg20)
variable (h21 : ∀ s, Lends (c : Thread nD τ) (I s) arg21)
variable (h22 : ∀ s, Lends (c : Thread nD τ) (I s) arg22)
variable (h26 : ∀ s, Lends (c : Thread nD τ) (I s) arg26)
variable (h27 : ∀ s, Lends (c : Thread nD τ) (I s) arg27)
variable (h28 : ∀ s, Lends (c : Thread nD τ) (I s) arg28)
variable (h29 : ∀ s, Lends (c : Thread nD τ) (I s) arg29)
variable (h30 : ∀ s, Lends (c : Thread nD τ) (I s) arg30)
variable (h31 : ∀ s, Lends (c : Thread nD τ) (I s) arg31)
variable (h32 : ∀ s, Lends (c : Thread nD τ) (I s) arg32)
variable (h33 : ∀ s, Lends (c : Thread nD τ) (I s) arg33)
variable (h34 : ∀ s, Lends (c : Thread nD τ) (I s) arg34)
variable (h23 : ∀ s, Shows (c : Thread nD τ) (I s) arg23)
variable (h24 : ∀ s, Shows (c : Thread nD τ) (I s) arg24)
variable (h25 : ∀ s, Shows (c : Thread nD τ) (I s) arg25)
variable (hq : ∀ (g : Fin 4) hx hm, Tr (defs₀ (F := F)) (c : Thread nD τ) (I (3 * g.val)) (Prog.lift (.store arg23 (colT g) (scaled x wq bq g) Finset.univ hx hm)) (I (3 * g.val + 1)) fun _ => True)
variable (hk : ∀ (g : Fin 4) hx hm, Tr (defs₀ (F := F)) (c : Thread nD τ) (I (3 * g.val + 1)) (Prog.lift (.store arg24 (colT g) (plain x wk bk g) Finset.univ hx hm)) (I (3 * g.val + 2)) fun _ => True)
variable (hv : ∀ (g : Fin 4) hx hm, Tr (defs₀ (F := F)) (c : Thread nD τ) (I (3 * g.val + 2)) (Prog.lift (.store arg25 (colT g) (plain x wv bv g) Finset.univ hx hm)) (I (3 * g.val + 3)) fun _ => True)
include h5 h6 h7 h12 h13 h14 h1 h2 h3 h4 h8 h9 h10 h11 h15 h16 h17 h18 h19 h20 h21 h22 h26 h27 h28 h29 h30 h31 h32 h33 h34 h23 h24 h25 hq hk hv

set_option maxHeartbeats 40000000 in
/-- A whole step, of any assertion that holds the buffers. -/
theorem body_tr : Tr (defs₀ (F := F)) (c : Thread nD τ) (I 0) (cc0_branch_bc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) (I 12) (fun _ => True) := by
  rw [cc0_branch_bc_eq_skeleton]; unfold cc0_branch_bc_skel
  refine tr_bind (part631 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv ) ?_
  rintro ⟨a0, a1, a2, a3, a4, a5, a6, a7, a8⟩ e; obtain rfl := e
  refine tr_bindS (part632 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ _ _ ) fun _ => ?_
  refine tr_bindS (part633 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ ) fun _ => ?_
  refine tr_bindS (part634 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ _ _ ) fun _ => ?_
  refine tr_bindS (part635 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ ) fun _ => ?_
  refine tr_bindS (part636 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ ) fun _ => ?_
  refine tr_bindS (part637 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ _ _ ) fun _ => ?_
  refine tr_bindS (part638 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ ) fun _ => ?_
  refine tr_bindS (part639 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ _ _ _ ) fun _ => ?_
  refine tr_bind (part640 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x wq wk wv bq bk bv I h5 h6 h7 h12 h13 h14 h1 h2 h3 h4 h8 h9 h10 h11 h15 h16 h17 h18 h19 h20 h21 h22 h26 h27 h28 h29 h30 h31 h32 h33 h34 h23 h24 h25 hq hk hv _ _ _ _ _ ) ?_
  rintro _ rfl
  refine tr_bindS (I₁ := I 12) ?_ (fun _ => ?_)
  · rw [k0_part608_eq_skeleton]; unfold k0_part608_skel
    refine ldo (h25 _) fun _ => ?_
    refine tr_bindS (hv 3 _ _) fun _ => ?_
    refine ld (h8 _) fun _ => ?_
    refine ld (h15 _) fun _ => ?_
    refine ld (h32 _) fun _ => ?_
    refine st (h32 _) fun _ => ?_
    refine ld (h32 _) fun _ => ?_
    refine st (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part609_eq_skeleton]; unfold k0_part609_skel
    refine st (h32 _) fun _ => ?_
    refine ld (h32 _) fun _ => ?_
    refine st (h32 _) fun _ => ?_
    refine ld (h32 _) fun _ => ?_
    refine st (h32 _) fun _ => ?_
    refine ld (h32 _) fun _ => ?_
    refine st (h32 _) fun _ => ?_
    refine ld (h32 _) fun _ => ?_
    refine st (h32 _) fun _ => ?_
    refine ld (h33 _) fun _ => ?_
    refine ld (h34 _) fun _ => ?_
    refine ld (h34 _) fun _ => ?_
    refine st (h34 _) fun _ => ?_
    refine ld (h32 _) fun _ => ?_
    refine ld (h32 _) fun _ => ?_
    exact tr_pure trivial
  refine tr_bindS (I₁ := I 12) ?_ (fun _ => ?_)
  · rw [k0_part610_eq_skeleton]; unfold k0_part610_skel
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part611_eq_skeleton]; unfold k0_part611_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    exact tr_pure trivial
  refine tr_bindS (I₁ := I 12) ?_ (fun _ => ?_)
  · rw [k0_part612_eq_skeleton]; unfold k0_part612_skel
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part613_eq_skeleton]; unfold k0_part613_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part614_eq_skeleton]; unfold k0_part614_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    exact tr_pure trivial
  refine tr_bindS (I₁ := I 12) ?_ (fun _ => ?_)
  · rw [k0_part615_eq_skeleton]; unfold k0_part615_skel
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part616_eq_skeleton]; unfold k0_part616_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    exact tr_pure trivial
  refine tr_bindS (I₁ := I 12) ?_ (fun _ => ?_)
  · rw [k0_part617_eq_skeleton]; unfold k0_part617_skel
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    exact tr_pure trivial
  refine tr_bindS (I₁ := I 12) ?_ (fun _ => ?_)
  · rw [k0_part618_eq_skeleton]; unfold k0_part618_skel
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part619_eq_skeleton]; unfold k0_part619_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    exact tr_pure trivial
  refine tr_bindS (I₁ := I 12) ?_ (fun _ => ?_)
  · rw [k0_part620_eq_skeleton]; unfold k0_part620_skel
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    exact tr_pure trivial
  refine tr_bindS (I₁ := I 12) ?_ (fun _ => ?_)
  · rw [k0_part621_eq_skeleton]; unfold k0_part621_skel
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    exact tr_pure trivial
  refine tr_bindS (I₁ := I 12) ?_ (fun _ => ?_)
  · rw [k0_part622_eq_skeleton]; unfold k0_part622_skel
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    exact tr_pure trivial
  refine tr_bindS (I₁ := I 12) ?_ (fun _ => ?_)
  · rw [k0_part623_eq_skeleton]; unfold k0_part623_skel
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h32 _) fun _ => ?_
    refine ld (h32 _) fun _ => ?_
    refine st (h32 _) fun _ => ?_
    refine ld (h33 _) fun _ => ?_
    refine st (h33 _) fun _ => ?_
    refine ld (h32 _) fun _ => ?_
    refine ld (h32 _) fun _ => ?_
    exact tr_pure trivial
  refine tr_bindS (I₁ := I 12) ?_ (fun _ => ?_)
  · rw [k0_part624_eq_skeleton]; unfold k0_part624_skel
    refine ld (h32 _) fun _ => ?_
    refine ld (h32 _) fun _ => ?_
    refine ld (h32 _) fun _ => ?_
    refine ld (h32 _) fun _ => ?_
    refine ld (h32 _) fun _ => ?_
    refine ld (h32 _) fun _ => ?_
    refine ld (h21 _) fun _ => ?_
    refine ld (h26 _) fun _ => ?_
    refine st (h26 _) fun _ => ?_
    refine ld (h28 _) fun _ => ?_
    refine ld (h28 _) fun _ => ?_
    exact tr_pure trivial
  refine tr_bindS (I₁ := I 12) ?_ (fun _ => ?_)
  · rw [k0_part625_eq_skeleton]; unfold k0_part625_skel
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    exact tr_pure trivial
  refine tr_bindS (I₁ := I 12) ?_ (fun _ => ?_)
  · rw [k0_part626_eq_skeleton]; unfold k0_part626_skel
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    exact tr_pure trivial
  refine tr_bindS (I₁ := I 12) ?_ (fun _ => ?_)
  · rw [k0_part627_eq_skeleton]; unfold k0_part627_skel
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    exact tr_pure trivial
  refine tr_bindS (I₁ := I 12) ?_ (fun _ => ?_)
  · rw [k0_part628_eq_skeleton]; unfold k0_part628_skel
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    exact tr_pure trivial
  refine tr_bindS (I₁ := I 12) ?_ (fun _ => ?_)
  · rw [k0_part629_eq_skeleton]; unfold k0_part629_skel
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    refine ld (h28 _) fun _ => ?_
    exact tr_pure trivial
  refine tr_bindS (I₁ := I 12) ?_ (fun _ => ?_)
  · rw [k0_part630_eq_skeleton]; unfold k0_part630_skel
    refine ld (h28 _) fun _ => ?_
    refine ld (h28 _) fun _ => ?_
    refine ld (h28 _) fun _ => ?_
    refine ld (h18 _) fun _ => ?_
    refine ld (h19 _) fun _ => ?_
    refine ld (h29 _) fun _ => ?_
    exact tr_pure trivial
  refine ld (h30 _) fun _ => ?_
  refine st (h30 _) fun _ => ?_
  exact tr_pure trivial

end

section

variable (c : Dev nD) (i : grid0.Coords) (arg1 : Memref sig .tc .vmem S8x64x1024 .f32) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x128 .f32) (harg15 : arg15.IsWhole) (arg16 : Memref sig .tc .vmem S31x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S384x128 .bf16) (harg21 : arg21.IsWhole) (arg22 : Memref sig .tc .vmem S8x64x1024 .bf16) (harg22 : arg22.IsWhole) (arg23 : Memref sig .tc .vmem S8x64x1024 .bf16) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x64x128 .bf16) (harg26 : arg26.IsWhole) (arg27 : Memref sig .tc .vmem S8x1504x128 .f32) (harg27 : arg27.IsWhole) (arg28 : Memref sig .tc .vmem S8x512x128 .f32) (harg28 : arg28.IsWhole) (arg29 : Memref sig .tc .vmem S2x512x1024 .f32) (harg29 : arg29.IsWhole) (arg30 : Memref sig .tc .vmem S512x1024 .bf16) (harg30 : arg30.IsWhole) (arg31 : Memref sig .tc .vmem S32x8x1024 .f32) (harg31 : arg31.IsWhole) (arg32 : Memref sig .tc .vmem S1x512x128 .f32) (harg32 : arg32.IsWhole) (arg33 : Memref sig .tc .vmem S8x128 .f32) (harg33 : arg33.IsWhole) (arg34 : Memref sig .tc .vmem S8x128 .f32) (harg34 : arg34.IsWhole)
variable (x : Vec F S8x64x1024 .f32) (wq wk wv : Vec F S1x1024x1024 .bf16) (bq bk bv : Vec F S1x1x1024 .f32)

/-- Every buffer of a step: seven at known contents, the three outputs filled by the first `s` stores, the others at any contents. -/
def Inv (s : ℕ) : sProp (Steps.Alg nD τ sig (Elt F)) :=
  iprop(owns (c : Thread nD τ) arg1 fullShare x ∗ owns (c : Thread nD τ) arg5 fullShare wq ∗ owns (c : Thread nD τ) arg6 fullShare wk ∗ owns (c : Thread nD τ) arg7 fullShare wv ∗ owns (c : Thread nD τ) arg12 fullShare bq ∗ owns (c : Thread nD τ) arg13 fullShare bk ∗ owns (c : Thread nD τ) arg14 fullShare bv ∗ (∃ X, ⌜Good s 0 (scaled x wq bq) X⌝ ∗ owns (c : Thread nD τ) arg23 fullShare X) ∗ (∃ X, ⌜Good s 1 (plain x wk bk) X⌝ ∗ owns (c : Thread nD τ) arg24 fullShare X) ∗ (∃ X, ⌜Good s 2 (plain x wv bv) X⌝ ∗ owns (c : Thread nD τ) arg25 fullShare X) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d))

theorem put_q (g : Fin 4) (hx) (hm) : Tr (defs₀ (F := F)) (c : Thread nD τ) ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 0)) (Prog.lift (.store arg23 (colT g) (scaled x wq bq g) Finset.univ hx hm))
    ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 0 + 1)) fun _ => True := by
  refine tr_put (P := Good (3 * g.val + 0) 0 (scaled x wq bq)) ?_
  unfold Inv
  iintro ⟨H1, H5, H6, H7, H12, H13, H14, ⟨%X0, %hX0, Q0⟩, ⟨%X1, %hX1, Q1⟩, ⟨%X2, %hX2, Q2⟩, HR⟩
  iexists X0
  isplitr; · ipureintro; exact hX0
  isplitl [Q0]; · iexact Q0
  iintro %f %hf Q0
  isplitl [H1]; · iexact H1
  isplitl [H5]; · iexact H5
  isplitl [H6]; · iexact H6
  isplitl [H7]; · iexact H7
  isplitl [H12]; · iexact H12
  isplitl [H13]; · iexact H13
  isplitl [H14]; · iexact H14
  isplitl [Q0]
  · iexists _; isplitr; swap; · iexact Q0
    ipureintro; exact good_put arg23 f _ 0 g rfl _ (hf ▸ hX0)
  isplitl [Q1]
  · iexists _; isplitr; swap; · iexact Q1
    ipureintro; exact good_skip _ 1 _ _ (fun g' => by omega) hX1
  isplitl [Q2]
  · iexists _; isplitr; swap; · iexact Q2
    ipureintro; exact good_skip _ 2 _ _ (fun g' => by omega) hX2
  iexact HR

theorem put_k (g : Fin 4) (hx) (hm) : Tr (defs₀ (F := F)) (c : Thread nD τ) ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 1)) (Prog.lift (.store arg24 (colT g) (plain x wk bk g) Finset.univ hx hm))
    ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 1 + 1)) fun _ => True := by
  refine tr_put (P := Good (3 * g.val + 1) 1 (plain x wk bk)) ?_
  unfold Inv
  iintro ⟨H1, H5, H6, H7, H12, H13, H14, ⟨%X0, %hX0, Q0⟩, ⟨%X1, %hX1, Q1⟩, ⟨%X2, %hX2, Q2⟩, HR⟩
  iexists X1
  isplitr; · ipureintro; exact hX1
  isplitl [Q1]; · iexact Q1
  iintro %f %hf Q1
  isplitl [H1]; · iexact H1
  isplitl [H5]; · iexact H5
  isplitl [H6]; · iexact H6
  isplitl [H7]; · iexact H7
  isplitl [H12]; · iexact H12
  isplitl [H13]; · iexact H13
  isplitl [H14]; · iexact H14
  isplitl [Q0]
  · iexists _; isplitr; swap; · iexact Q0
    ipureintro; exact good_skip _ 0 _ _ (fun g' => by omega) hX0
  isplitl [Q1]
  · iexists _; isplitr; swap; · iexact Q1
    ipureintro; exact good_put arg24 f _ 1 g rfl _ (hf ▸ hX1)
  isplitl [Q2]
  · iexists _; isplitr; swap; · iexact Q2
    ipureintro; exact good_skip _ 2 _ _ (fun g' => by omega) hX2
  iexact HR

theorem put_v (g : Fin 4) (hx) (hm) : Tr (defs₀ (F := F)) (c : Thread nD τ) ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 2)) (Prog.lift (.store arg25 (colT g) (plain x wv bv g) Finset.univ hx hm))
    ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) (3 * g.val + 2 + 1)) fun _ => True := by
  refine tr_put (P := Good (3 * g.val + 2) 2 (plain x wv bv)) ?_
  unfold Inv
  iintro ⟨H1, H5, H6, H7, H12, H13, H14, ⟨%X0, %hX0, Q0⟩, ⟨%X1, %hX1, Q1⟩, ⟨%X2, %hX2, Q2⟩, HR⟩
  iexists X2
  isplitr; · ipureintro; exact hX2
  isplitl [Q2]; · iexact Q2
  iintro %f %hf Q2
  isplitl [H1]; · iexact H1
  isplitl [H5]; · iexact H5
  isplitl [H6]; · iexact H6
  isplitl [H7]; · iexact H7
  isplitl [H12]; · iexact H12
  isplitl [H13]; · iexact H13
  isplitl [H14]; · iexact H14
  isplitl [Q0]
  · iexists _; isplitr; swap; · iexact Q0
    ipureintro; exact good_skip _ 0 _ _ (fun g' => by omega) hX0
  isplitl [Q1]
  · iexists _; isplitr; swap; · iexact Q1
    ipureintro; exact good_skip _ 1 _ _ (fun g' => by omega) hX1
  isplitl [Q2]
  · iexists _; isplitr; swap; · iexact Q2
    ipureintro; exact good_put arg25 f _ 2 g rfl _ (hf ▸ hX2)
  iexact HR

/-- A step. -/
theorem step_run (K : PUnit → sProp (Steps.Alg nD τ sig (Elt F))) :
    iprop((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) 0 ∗ ((Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv) 12 -∗ K ⟨⟩)) ⊢ wp frame (wpE (defs₀ (F := F)) Variants.none c none) Set.univ (cc0_branch_bc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  have h := body_tr c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x wq wk wv bq bk bv (Inv c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv)
    (fun _ => by unfold Inv; exact keeps_there (keeps_here))
    (fun _ => by unfold Inv; exact keeps_there (keeps_there (keeps_here)))
    (fun _ => by unfold Inv; exact keeps_there (keeps_there (keeps_there (keeps_here))))
    (fun _ => by unfold Inv; exact keeps_there (keeps_there (keeps_there (keeps_there (keeps_here)))))
    (fun _ => by unfold Inv; exact keeps_there (keeps_there (keeps_there (keeps_there (keeps_there (keeps_here))))))
    (fun _ => by unfold Inv; exact keeps_there (keeps_there (keeps_there (keeps_there (keeps_there (keeps_there (keeps_here)))))))
    (fun _ => by unfold Inv; exact keeps_here)
    (fun _ => by unfold Inv; exact lends_there (lends_there (lends_there (lends_there (lends_there (lends_there (lends_there (lends_there (lends_there (lends_there (lends_here)))))))))))
    (fun _ => by unfold Inv; exact lends_there (lends_there (lends_there (lends_there (lends_there (lends_there (lends_there (lends_there (lends_there (lends_there (lends_there (lends_here))))))))))))
    (fun _ => by unfold Inv; exact lends_there (lends_there (lends_there (lends_there (lends_there (lends_there (lends_there (lends_there (lends_there (lends_there (lends_there (lends_there (lends_here)))))))))))))
    (fun _ => by unfold Inv; exact lends_there (lends_there (lends_there (lends_there (lends_there (lends_there (lends_there (lends_there (lends_there (lends_there (lends_there (lends_there (lends_there (lends_here))))))))))))))
    (fun _ => by unfold Inv; exact lends_there (lends_there (lends_there (lends_there (lends_there (lends_there (lends_there (lends_there (lends_there (lends_there (lends_there (lends_there (lends_there (lends_there (lends_here)))))))))))))))
    (fun _ => by unfold Inv; exact lends_there (lends_there (lends_there (lends_there (lends_there (lends_there (lends_there (lends_there (lends_there (lends_there (lends_there (lends_there (lends_there (lends_there (lends_there (lends_here))))))))))))))))
    (fun _ => by unfold Inv; exact lends_there (lends_there (lends_there (lends_there (lends_there (lends_there (lends_there (lends_there (lends_there (lends_there (lends_there (lends_there (lends_there (lends_there (lends_there (lends_there (lends_here)))))))))))))))))
    (fun _ => by unfold Inv; exact lends_there (lends_there (lends_there (lends_there (lends_there (lends_there (lends_there (lends_there (lends_there (lends_there (lends_there (lends_there (lends_there (lends_there (lends_there (lends_there (lends_there (lends_here))))))))))))))))))
    (fun _ => by unfold Inv; exact lends_there (lends_there (lends_there (lends_there (lends_there (lends_there (lends_there (lends_there (lends_there (lends_there (lends_there (lends_there (lends_there (lends_there (lends_there (lends_there (lends_there (lends_there (lends_here)))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_here))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_here)))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_here))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_here))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here))))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here))))))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_here)))))))))))))))))))))))))))))))))
    (fun _ => by unfold Inv; exact lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_there (lends_last))))))))))))))))))))))))))))))))))
    (fun _ => by unfold Inv; exact shows_there (shows_there (shows_there (shows_there (shows_there (shows_there (shows_there (shows_here))))))))
    (fun _ => by unfold Inv; exact shows_there (shows_there (shows_there (shows_there (shows_there (shows_there (shows_there (shows_there (shows_here)))))))))
    (fun _ => by unfold Inv; exact shows_there (shows_there (shows_there (shows_there (shows_there (shows_there (shows_there (shows_there (shows_there (shows_here))))))))))
    (put_q c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv)
    (put_k c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv)
    (put_v c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 x wq wk wv bq bk bv)
  unfold Tr at h
  refine (sep_mono_left h).trans ((wp_frame_r _ _ _).trans (wp_mono _ _ _ fun _ => ?_))
  iintro ⟨⟨-, H⟩, Hk⟩
  iapply Hk; iexact H

end

end Cert.ProjectionsIdeal.Hand

end
-- ==== Proof.ProjectionsIdealFrame.lean ====
/-
  The frame of the projecting branch. Each grid step is run once from any contents of the buffers it only works in, and
  from the known contents of the block of tokens, the weights and the biases: it leaves the blocks of queries, keys and
  values filled with the projections of the tokens, which is what the relation of the run says of those three outputs.
-/
module

public import proofs.«01_k».proof.Proof.ProjectionsIdealStep
public import proofs.«01_k».proof.Proof.Gen.ProjectionsIdeal.Launch
public import proofs.«01_k».proof.Proof.Gen.ProjectionsIdeal.Points
public import Idealize.ShloMosaic.Lib.Pipeline.Frame
public import Idealize.ShloMosaic.Lib.Pipeline.ArrRel

@[expose] public section

set_option maxRecDepth 65536

noncomputable section

namespace Cert.ProjectionsIdeal.Hand

open Cert.ProjectionsIdeal Cert.ProjectionsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]
variable (m : (ℓ : Loc nD τ sig) → Buf (Elt F) ℓ) (ρ : Dev nD → PrngReg)

/-- What a step leaves in a window's buffer: seven inputs as they were, three outputs filled; of the others nothing is said. -/
def rel (c : Dev nD) (w : Fin cfg0.W) (t : Fin cfg0.N) : (Y X : (cfg0.win w).block.Idx → Elt F (cfg0.win w).elt) → Prop :=
  match w with
  | ⟨0, _⟩ => fun Y X => X = Y
  | ⟨1, _⟩ => fun _ _ => True
  | ⟨2, _⟩ => fun _ _ => True
  | ⟨3, _⟩ => fun _ _ => True
  | ⟨4, _⟩ => fun Y X => X = Y
  | ⟨5, _⟩ => fun Y X => X = Y
  | ⟨6, _⟩ => fun Y X => X = Y
  | ⟨7, _⟩ => fun _ _ => True
  | ⟨8, _⟩ => fun _ _ => True
  | ⟨9, _⟩ => fun _ _ => True
  | ⟨10, _⟩ => fun _ _ => True
  | ⟨11, _⟩ => fun Y X => X = Y
  | ⟨12, _⟩ => fun Y X => X = Y
  | ⟨13, _⟩ => fun Y X => X = Y
  | ⟨14, _⟩ => fun _ _ => True
  | ⟨15, _⟩ => fun _ _ => True
  | ⟨16, _⟩ => fun _ _ => True
  | ⟨17, _⟩ => fun _ _ => True
  | ⟨18, _⟩ => fun _ _ => True
  | ⟨19, _⟩ => fun _ _ => True
  | ⟨20, _⟩ => fun _ _ => True
  | ⟨21, _⟩ => fun _ _ => True
  | ⟨22, _⟩ => fun _ X => Good 12 0 (scaled (iblk m c 0 t) (X0_4 m c t) (X0_11 m c t)) X
  | ⟨23, _⟩ => fun _ X => Good 12 1 (plain (iblk m c 0 t) (X0_5 m c t) (X0_12 m c t)) X
  | ⟨24, _⟩ => fun _ X => Good 12 2 (plain (iblk m c 0 t) (X0_6 m c t) (X0_13 m c t)) X
  | ⟨_ + 25, _⟩ => fun _ _ => True

/-- The proof data. -/
def rdat (c : Dev nD) : RDat τ (Elt F) Unit ℕ (UR sig nD τ) ℕ cfg0 c where
  A w := V m c (Pipeline.arrRef spec0 w)
  after := rel m c
  Φ _ := Pipeline.ΦA spec0 c
  q w := Pipeline.shareOf spec0 w
  owed _ := 0

theorem found0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rfl

theorem found4 (c : Dev nD) (t : Fin cfg0.N) (Y) (h : (rdat m c).Finds 4 t Y) : Y = X0_4 m c t := by
  obtain ⟨d, rfl⟩ := RDat.finds_in_eq_fetched (rdat m c) 4 rfl
    (fun t t' h => funext fun a => congrArg (fun n => Pipeline.Clip.of n ((cfg0.win 4).size a) (S1x1024x12304.size a)) (congrFun h a)) (fun _ _ _ h => h) t Y h
  unfold RDat.fetched X0_4; rw [fill0_4 t d dflt0_4]; unfold RDat.blockOf iblk; rfl

theorem found5 (c : Dev nD) (t : Fin cfg0.N) (Y) (h : (rdat m c).Finds 5 t Y) : Y = X0_5 m c t := by
  obtain ⟨d, rfl⟩ := RDat.finds_in_eq_fetched (rdat m c) 5 rfl
    (fun t t' h => funext fun a => congrArg (fun n => Pipeline.Clip.of n ((cfg0.win 5).size a) (S1x1024x12304.size a)) (congrFun h a)) (fun _ _ _ h => h) t Y h
  unfold RDat.fetched X0_5; rw [fill0_5 t d dflt0_5]; unfold RDat.blockOf iblk; rfl

theorem found6 (c : Dev nD) (t : Fin cfg0.N) (Y) (h : (rdat m c).Finds 6 t Y) : Y = X0_6 m c t := by
  obtain ⟨d, rfl⟩ := RDat.finds_in_eq_fetched (rdat m c) 6 rfl
    (fun t t' h => funext fun a => congrArg (fun n => Pipeline.Clip.of n ((cfg0.win 6).size a) (S1x1024x12304.size a)) (congrFun h a)) (fun _ _ _ h => h) t Y h
  unfold RDat.fetched X0_6; rw [fill0_6 t d dflt0_6]; unfold RDat.blockOf iblk; rfl

theorem found11 (c : Dev nD) (t : Fin cfg0.N) (Y) (h : (rdat m c).Finds 11 t Y) : Y = X0_11 m c t := by
  obtain ⟨d, rfl⟩ := RDat.finds_in_eq_fetched (rdat m c) 11 rfl
    (fun t t' h => funext fun a => congrArg (fun n => Pipeline.Clip.of n ((cfg0.win 11).size a) (S1x1x12304.size a)) (congrFun h a)) (fun _ _ _ h => h) t Y h
  unfold RDat.fetched X0_11; rw [fill0_11 t d dflt0_11]; unfold RDat.blockOf iblk; rfl

theorem found12 (c : Dev nD) (t : Fin cfg0.N) (Y) (h : (rdat m c).Finds 12 t Y) : Y = X0_12 m c t := by
  obtain ⟨d, rfl⟩ := RDat.finds_in_eq_fetched (rdat m c) 12 rfl
    (fun t t' h => funext fun a => congrArg (fun n => Pipeline.Clip.of n ((cfg0.win 12).size a) (S1x1x12304.size a)) (congrFun h a)) (fun _ _ _ h => h) t Y h
  unfold RDat.fetched X0_12; rw [fill0_12 t d dflt0_12]; unfold RDat.blockOf iblk; rfl

theorem found13 (c : Dev nD) (t : Fin cfg0.N) (Y) (h : (rdat m c).Finds 13 t Y) : Y = X0_13 m c t := by
  obtain ⟨d, rfl⟩ := RDat.finds_in_eq_fetched (rdat m c) 13 rfl
    (fun t t' h => funext fun a => congrArg (fun n => Pipeline.Clip.of n ((cfg0.win 13).size a) (S1x1x12304.size a)) (congrFun h a)) (fun _ _ _ h => h) t Y h
  unfold RDat.fetched X0_13; rw [fill0_13 t d dflt0_13]; unfold RDat.blockOf iblk; rfl

/-- The scratch buffers at some contents, one by one, and the generator register. -/
theorem scratch_eq (c : Dev nD) :
    (Pipeline.ΦA spec0 c : sProp (Steps.Alg nD τ sig (Elt F))) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ ∃ r, prngReg c r) := by
  unfold Pipeline.ΦA; rw [scopedRest0_eq]; simp only [owns_whole]; try rfl

/-- What a step is handed at point `t`. -/
def stepPre (c : Dev nD) (t : Fin cfg0.N) (Y : (w : Fin cfg0.W) → (cfg0.win w).block.Idx → Elt F (cfg0.win w).elt) : sProp (Steps.Alg nD τ sig (Elt F)) :=
  iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23) ∗ owns (c : Thread nD τ) (st0_24 t) fullShare (Y 24) ∗ owns (c : Thread nD τ) (st0_25 t) fullShare (Y 25))

/-- What a step hands back. -/
def stepPost (c : Dev nD) (t : Fin cfg0.N) (Y : (w : Fin cfg0.W) → (cfg0.win w).block.Idx → Elt F (cfg0.win w).elt) : sProp (Steps.Alg nD τ sig (Elt F)) :=
  iprop((rdat m c).Φ t.succ ∗ (rdat m c).owesAt () t.succ ∗ (∃ X, ⌜rel m c 0 t (Y 0) X⌝ ∗ owns (c : Thread nD τ) (st0_0 t) fullShare X) ∗ (∃ X, ⌜rel m c 1 t (Y 1) X⌝ ∗ owns (c : Thread nD τ) (st0_1 t) fullShare X) ∗ (∃ X, ⌜rel m c 2 t (Y 2) X⌝ ∗ owns (c : Thread nD τ) (st0_2 t) fullShare X) ∗ (∃ X, ⌜rel m c 3 t (Y 3) X⌝ ∗ owns (c : Thread nD τ) (st0_3 t) fullShare X) ∗ (∃ X, ⌜rel m c 4 t (Y 4) X⌝ ∗ owns (c : Thread nD τ) (st0_4 t) fullShare X) ∗ (∃ X, ⌜rel m c 5 t (Y 5) X⌝ ∗ owns (c : Thread nD τ) (st0_5 t) fullShare X) ∗ (∃ X, ⌜rel m c 6 t (Y 6) X⌝ ∗ owns (c : Thread nD τ) (st0_6 t) fullShare X) ∗ (∃ X, ⌜rel m c 7 t (Y 7) X⌝ ∗ owns (c : Thread nD τ) (st0_7 t) fullShare X) ∗ (∃ X, ⌜rel m c 8 t (Y 8) X⌝ ∗ owns (c : Thread nD τ) (st0_8 t) fullShare X) ∗ (∃ X, ⌜rel m c 9 t (Y 9) X⌝ ∗ owns (c : Thread nD τ) (st0_9 t) fullShare X) ∗ (∃ X, ⌜rel m c 10 t (Y 10) X⌝ ∗ owns (c : Thread nD τ) (st0_10 t) fullShare X) ∗ (∃ X, ⌜rel m c 11 t (Y 11) X⌝ ∗ owns (c : Thread nD τ) (st0_11 t) fullShare X) ∗ (∃ X, ⌜rel m c 12 t (Y 12) X⌝ ∗ owns (c : Thread nD τ) (st0_12 t) fullShare X) ∗ (∃ X, ⌜rel m c 13 t (Y 13) X⌝ ∗ owns (c : Thread nD τ) (st0_13 t) fullShare X) ∗ (∃ X, ⌜rel m c 14 t (Y 14) X⌝ ∗ owns (c : Thread nD τ) (st0_14 t) fullShare X) ∗ (∃ X, ⌜rel m c 15 t (Y 15) X⌝ ∗ owns (c : Thread nD τ) (st0_15 t) fullShare X) ∗ (∃ X, ⌜rel m c 16 t (Y 16) X⌝ ∗ owns (c : Thread nD τ) (st0_16 t) fullShare X) ∗ (∃ X, ⌜rel m c 17 t (Y 17) X⌝ ∗ owns (c : Thread nD τ) (st0_17 t) fullShare X) ∗ (∃ X, ⌜rel m c 18 t (Y 18) X⌝ ∗ owns (c : Thread nD τ) (st0_18 t) fullShare X) ∗ (∃ X, ⌜rel m c 19 t (Y 19) X⌝ ∗ owns (c : Thread nD τ) (st0_19 t) fullShare X) ∗ (∃ X, ⌜rel m c 20 t (Y 20) X⌝ ∗ owns (c : Thread nD τ) (st0_20 t) fullShare X) ∗ (∃ X, ⌜rel m c 21 t (Y 21) X⌝ ∗ owns (c : Thread nD τ) (st0_21 t) fullShare X) ∗ (∃ X, ⌜rel m c 22 t (Y 22) X⌝ ∗ owns (c : Thread nD τ) (st0_22 t) fullShare X) ∗ (∃ X, ⌜rel m c 23 t (Y 23) X⌝ ∗ owns (c : Thread nD τ) (st0_23 t) fullShare X) ∗ (∃ X, ⌜rel m c 24 t (Y 24) X⌝ ∗ owns (c : Thread nD τ) (st0_24 t) fullShare X) ∗ (∃ X, ⌜rel m c 25 t (Y 25) X⌝ ∗ owns (c : Thread nD τ) (st0_25 t) fullShare X))

set_option maxHeartbeats 4000000 in
/-- A step meets its specification. -/
theorem sound_step (c : Dev nD) (t : Fin cfg0.N) (Y : (w : Fin cfg0.W) → (cfg0.win w).block.Idx → Elt F (cfg0.win w).elt)
    (hY : ∀ w, (rdat m c).Finds w t (Y w)) :
    stepPre m c t Y ⊢ wp frame (wpE (defs₀ (F := F)) Variants.none c none) Set.univ (bodyAt0 t) (fun _ => stepPost m c t Y) := by
  have e0 := found0 m c t _ (hY 0)
  have e4 := found4 m c t _ (hY 4)
  have e5 := found5 m c t _ (hY 5)
  have e6 := found6 m c t _ (hY 6)
  have e11 := found11 m c t _ (hY 11)
  have e12 := found12 m c t _ (hY 12)
  have e13 := found13 m c t _ (hY 13)
  unfold stepPre stepPost bodyAt0
  rw [show (rdat m c).Φ t.succ = Pipeline.ΦA spec0 c from rfl, show (rdat m c).Φ t.castSucc = Pipeline.ΦA spec0 c from rfl,
    show (rdat m c).owesAt () t.succ = (rdat m c).owesAt () t.castSucc from rfl, scratch_eq, e0, e4, e5, e6, e11, e12, e13]
  iintro ⟨⟨⟨S0, S1, S2, S3, S4, S5, S6, S7⟩, Hg⟩, HO, H0, H1, H2, H3, H4, H5, H6, H7, H8, H9, H10, H11, H12, H13, H14, H15, H16, H17, H18, H19, H20, H21, H22, H23, H24, H25⟩
  iapply (step_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (X0_4 m c t) (X0_5 m c t) (X0_6 m c t) (X0_11 m c t) (X0_12 m c t) (X0_13 m c t) _)
  isplitl [H0 H1 H2 H3 H4 H5 H6 H7 H8 H9 H10 H11 H12 H13 H14 H15 H16 H17 H18 H19 H20 H21 H22 H23 H24 H25 S0 S1 S2 S3 S4 S5 S6 S7]
  · unfold Inv
    isplitl [H0]; · iexact H0
    isplitl [H4]; · iexact H4
    isplitl [H5]; · iexact H5
    isplitl [H6]; · iexact H6
    isplitl [H11]; · iexact H11
    isplitl [H12]; · iexact H12
    isplitl [H13]; · iexact H13
    isplitl [H22]
    · iexists _; isplitr; swap; · iexact H22
      ipureintro; exact fun g hg => absurd hg (by omega)
    isplitl [H23]
    · iexists _; isplitr; swap; · iexact H23
      ipureintro; exact fun g hg => absurd hg (by omega)
    isplitl [H24]
    · iexists _; isplitr; swap; · iexact H24
      ipureintro; exact fun g hg => absurd hg (by omega)
    isplitl [H1]; · iexists _; iexact H1
    isplitl [H2]; · iexists _; iexact H2
    isplitl [H3]; · iexists _; iexact H3
    isplitl [H7]; · iexists _; iexact H7
    isplitl [H8]; · iexists _; iexact H8
    isplitl [H9]; · iexists _; iexact H9
    isplitl [H10]; · iexists _; iexact H10
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H25]; · iexists _; iexact H25
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  unfold Inv
  iintro ⟨H0, H4, H5, H6, H11, H12, H13, ⟨%d22, %g22, H22⟩, ⟨%d23, %g23, H23⟩, ⟨%d24, %g24, H24⟩, ⟨%d1, H1⟩, ⟨%d2, H2⟩, ⟨%d3, H3⟩, ⟨%d7, H7⟩, ⟨%d8, H8⟩, ⟨%d9, H9⟩, ⟨%d10, H10⟩, ⟨%d14, H14⟩, ⟨%d15, H15⟩, ⟨%d16, H16⟩, ⟨%d17, H17⟩, ⟨%d18, H18⟩, ⟨%d19, H19⟩, ⟨%d20, H20⟩, ⟨%d21, H21⟩, ⟨%d25, H25⟩, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [H0]
  · iexists _; isplitr; swap; · iexact H0
    ipureintro; exact rfl
  isplitl [H1]
  · iexists _; isplitr; swap; · iexact H1
    ipureintro; exact trivial
  isplitl [H2]
  · iexists _; isplitr; swap; · iexact H2
    ipureintro; exact trivial
  isplitl [H3]
  · iexists _; isplitr; swap; · iexact H3
    ipureintro; exact trivial
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact trivial
  isplitl [H8]
  · iexists _; isplitr; swap; · iexact H8
    ipureintro; exact trivial
  isplitl [H9]
  · iexists _; isplitr; swap; · iexact H9
    ipureintro; exact trivial
  isplitl [H10]
  · iexists _; isplitr; swap; · iexact H10
    ipureintro; exact trivial
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact trivial
  isplitl [H15]
  · iexists _; isplitr; swap; · iexact H15
    ipureintro; exact trivial
  isplitl [H16]
  · iexists _; isplitr; swap; · iexact H16
    ipureintro; exact trivial
  isplitl [H17]
  · iexists _; isplitr; swap; · iexact H17
    ipureintro; exact trivial
  isplitl [H18]
  · iexists _; isplitr; swap; · iexact H18
    ipureintro; exact trivial
  isplitl [H19]
  · iexists _; isplitr; swap; · iexact H19
    ipureintro; exact trivial
  isplitl [H20]
  · iexists _; isplitr; swap; · iexact H20
    ipureintro; exact trivial
  isplitl [H21]
  · iexists _; isplitr; swap; · iexact H21
    ipureintro; exact trivial
  isplitl [H22]
  · iexists _; isplitr; swap; · iexact H22
    ipureintro; exact g22
  isplitl [H23]
  · iexists _; isplitr; swap; · iexact H23
    ipureintro; exact g23
  isplitl [H24]
  · iexists _; isplitr; swap; · iexact H24
    ipureintro; exact g24
  iexists _; isplitr; swap; · iexact H25
  ipureintro; exact trivial

/-- The body table's row at a point is the step. -/
theorem row (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : (rdat m c).BodyObligation (defs₀ (F := F)) Variants.none () Set.univ := fun t Y hY => by
  rw [bigSep_W0, bigSep_W0, row]
  exact triple_restated (sound_step m c t Y hY) rfl .rfl fun _ => .rfl

set_option backward.isDefEq.respectTransparency.types false in
/-- The program runs to its end, every counter at zero, its arrays as the relation says. -/
theorem run_main :
    θ_run defs (onTc (τ := τ) (main (F := F))) (s₀ m ρ)
      (fun r => RDat.FramePost (cfgs 0) (fun c => rdat m c) (V m) r ∧ r.2.sem = fun _ => 0) :=
  RDat.θ_run_frame_track_shared (Q' := _) cfgs (0 : Fin 1) launch₀0 defs₀ Variants.none (fun c => rdat m c) m ρ main
    (hbody := fun c => obligation m c) (hq := fun _ _ _ => rfl)
    (howed := fun _ _ => rfl) (V := V m) (hmain := hmain m Variants.none) (hA := fun _ _ => rfl) (hin := fun _ => .rfl) (hout := fun _ => .rfl) (hQ' := fun _ h => h)

/-- What the run leaves of the arguments. -/
theorem args_eq {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 15 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The program runs to its end with every argument unchanged and every counter at zero. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_eq m h.1 c, h.2⟩) (run_main m ρ)

end Cert.ProjectionsIdeal.Hand

end
-- ==== Proof.ProjectionsValue.lean ====
module

public import proofs.«01_k».proof.Proof.ProjectionsIdealFrame
public import Idealize.ShloMosaic.Lib.Pointwise
public import Idealize.ShloMosaic.Lib.IdealHost
public import Idealize.ShloMosaic.Lib.Pipeline.ValueKit

/-!
The queries, the keys and the values, from the program's arguments.
-/

@[expose] public section
set_option maxRecDepth 16384
noncomputable section
namespace Cert.ProjectionsIdeal.Val
open Idealize.ShloMosaic.Pipeline (RDat)
open Cert.ProjectionsIdeal Cert.ProjectionsIdeal.Gen Cert.ProjectionsIdeal.Hand Idealize.ShloMosaic Idealize.ShloMosaic.TcCoe Idealize.SL.Sem

/-- The scale of the queries. -/
abbrev scale : EReal := Ideal.ofBits .f32 0x3E38AA3B#32

theorem pay46_apply (x : Vec Ideal S8x64x1024 .f32) (b : Fin 8) (r : Fin 64) (e : Fin 1024) (q : Fin 512) (hq : q.val = b.val * 64 + r.val) :
    k0_pay46 x (ix2 q e) = x (ix3 b r e) := by
  unfold k0_pay46
  pointwise
  have h1 : (⟨q.val / 64, by omega⟩ : Fin 8) = b := Fin.ext (by show q.val / 64 = b.val; omega)
  have h2 : (⟨q.val % 64, by omega⟩ : Fin 64) = r := Fin.ext (by show q.val % 64 = r.val; omega)
  exact congrArg x (congrArg₂ (fun u v => ix3 u v e) h1 h2)

theorem pay219_apply (v : FVec Ideal S512x1024 .bf16) (w : Vec Ideal S1x1024x256 .bf16) (bb : Vec Ideal S1x1x256 .f32) (b : Fin 8) (r : Fin 64) (z : Fin 256) :
    k0_pay219 v w bb (ix3 b r z) =
      ((∑ e : Fin 1024, v (ix2 ⟨b.val * 64 + r.val, by omega⟩ e) * w (ix3 0 e z)) + bb (ix3 0 0 z)) * scale := by
  unfold k0_pay219
  pointwise

theorem pay372_apply (v : FVec Ideal S512x1024 .bf16) (w : Vec Ideal S1x1024x256 .bf16) (bb : Vec Ideal S1x1x256 .f32) (b : Fin 8) (r : Fin 64) (z : Fin 256) :
    k0_pay372 v w bb (ix3 b r z) =
      ((∑ e : Fin 1024, v (ix2 ⟨b.val * 64 + r.val, by omega⟩ e) * w (ix3 0 e z)) + bb (ix3 0 0 z)) := by
  unfold k0_pay372
  pointwise

/-- A column of a block, from its group and its place there. -/
def colOf (g : Fin 4) (z : Fin 256) : Fin 1024 := ⟨256 * g.val + z.val, by omega⟩

theorem ldX (x : Vec Ideal S8x64x1024 .f32) :
    View.ld x (Rect.unit (s := S8x64x1024) ![0, 0, 0] S8x64x1024.size inb_S8x64x1024_S8x64x1024_0_0_0) = x :=
  View.ld_unit_lit _ x (by decide)

theorem ldW (w : Vec Ideal S1x1024x1024 .bf16) (g : Fin 4) (e : Fin 1024) (z : Fin 256) :
    View.ld w (colW g) (ix3 0 e z) = w (ix3 0 e (colOf g z)) := by
  refine congrArg w (funext fun a => Fin.ext ?_)
  match a with
  | ⟨0, _⟩ => rfl
  | ⟨1, _⟩ => show 0 + 1 * e.val = e.val; omega
  | ⟨2, _⟩ => show 256 * g.val + 1 * z.val = 256 * g.val + z.val; omega

theorem ldB (w : Vec Ideal S1x1x1024 .f32) (g : Fin 4) (z : Fin 256) :
    View.ld w (colB g) (ix3 0 0 z) = w (ix3 0 0 (colOf g z)) := by
  refine congrArg w (funext fun a => Fin.ext ?_)
  match a with
  | ⟨0, _⟩ => rfl
  | ⟨1, _⟩ => rfl
  | ⟨2, _⟩ => show 256 * g.val + 1 * z.val = 256 * g.val + z.val; omega

theorem colT_emb (g : Fin 4) (b : Fin 8) (r : Fin 64) (z : Fin 256) : (colT g).emb (ix3 b r z) = ix3 b r (colOf g z) := by
  refine funext fun a => Fin.ext ?_
  match a with
  | ⟨0, _⟩ => show 0 + 1 * b.val = b.val; omega
  | ⟨1, _⟩ => show 0 + 1 * r.val = r.val; omega
  | ⟨2, _⟩ => show 256 * g.val + 1 * z.val = 256 * g.val + z.val; omega

theorem plain_apply (x : Vec Ideal S8x64x1024 .f32) (w : Vec Ideal S1x1024x1024 .bf16) (bb : Vec Ideal S1x1x1024 .f32) (g : Fin 4) (b : Fin 8) (r : Fin 64) (z : Fin 256) :
    plain x w bb g (ix3 b r z) = (∑ e : Fin 1024, x (ix3 b r e) * w (ix3 0 e (colOf g z))) + bb (ix3 0 0 (colOf g z)) := by
  refine (pay372_apply _ _ _ b r z).trans ?_
  rw [ldX, ldB]
  refine congrArg (· + _) (Finset.sum_congr rfl fun e _ => ?_)
  rw [pay46_apply x b r e _ rfl, ldW]

theorem scaled_apply (x : Vec Ideal S8x64x1024 .f32) (w : Vec Ideal S1x1024x1024 .bf16) (bb : Vec Ideal S1x1x1024 .f32) (g : Fin 4) (b : Fin 8) (r : Fin 64) (z : Fin 256) :
    scaled x w bb g (ix3 b r z) = ((∑ e : Fin 1024, x (ix3 b r e) * w (ix3 0 e (colOf g z))) + bb (ix3 0 0 (colOf g z))) * scale := by
  refine (pay219_apply _ _ _ b r z).trans ?_
  rw [ldX, ldB]
  refine congrArg (fun u => (u + _) * scale) (Finset.sum_congr rfl fun e _ => ?_)
  rw [pay46_apply x b r e _ rfl, ldW]

/-- Every column lies in a group. -/
theorem col_cases (o : Fin 1024) : ∃ (g : Fin 4) (z : Fin 256), o = colOf g z :=
  ⟨⟨o.val / 256, by omega⟩, ⟨o.val % 256, by omega⟩, Fin.ext (by show o.val = 256 * (o.val / 256) + o.val % 256; omega)⟩

theorem good_plain {j : ℕ} (hj : j < 3) {x : Vec Ideal S8x64x1024 .f32} {w : Vec Ideal S1x1024x1024 .bf16} {bb : Vec Ideal S1x1x1024 .f32} {X : S8x64x1024.Idx → Elt Ideal .bf16}
    (h : Good 12 j (plain x w bb) X) (b : Fin 8) (r : Fin 64) (o : Fin 1024) :
    X (ix3 b r o) = (∑ e : Fin 1024, x (ix3 b r e) * w (ix3 0 e o)) + bb (ix3 0 0 o) := by
  obtain ⟨g, z, rfl⟩ := col_cases o
  exact (congrArg X (colT_emb g b r z)).symm.trans ((h g (by omega) (ix3 b r z)).trans (plain_apply x w bb g b r z))

theorem good_scaled {j : ℕ} (hj : j < 3) {x : Vec Ideal S8x64x1024 .f32} {w : Vec Ideal S1x1024x1024 .bf16} {bb : Vec Ideal S1x1x1024 .f32} {X : S8x64x1024.Idx → Elt Ideal .bf16}
    (h : Good 12 j (scaled x w bb) X) (b : Fin 8) (r : Fin 64) (o : Fin 1024) :
    X (ix3 b r o) = ((∑ e : Fin 1024, x (ix3 b r e) * w (ix3 0 e o)) + bb (ix3 0 0 o)) * scale := by
  obtain ⟨g, z, rfl⟩ := col_cases o
  exact (congrArg X (colT_emb g b r z)).symm.trans ((h g (by omega) (ix3 b r z)).trans (scaled_apply x w bb g b r z))

variable (m : (ℓ : Loc nD τ sig) → Buf (Elt Ideal) ℓ) (ρ : Dev nD → PrngReg) (c : Dev nD)

/-- The tile of tokens of a grid step. -/
def tile (i : grid0.Coords) : ℕ := min (i 0).val 31

theorem tile_lt (i : grid0.Coords) : tile i < 32 := by unfold tile; omega

/-- The token, in the array, of a row of a block. -/
def token (i : grid0.Coords) (r : Fin 64) : Fin 2048 := ⟨64 * tile i + r.val, by have := tile_lt i; omega⟩

theorem word_eq : ∀ n : Fin 34, (Scalar.minsi (BitVec.ofNat 32 n.val) (31#32)).toNat = min n.val 31 := by decide

theorem place_eq (i : grid0.Coords) (b : Fin 8) (r : Fin 64) (e : Fin 1024) (z : S8x2048x1024.Idx)
    (h0 : (z 0).val = 0 * 8 + b.val) (h1 : (z 1).val = tile i * 64 + r.val) (h2 : (z 2).val = 0 * 1024 + e.val) : z = ix3 b (token i r) e := by
  refine funext fun a => Fin.ext ?_
  match a with
  | ⟨0, _⟩ => exact h0.trans (by show 0 * 8 + b.val = b.val; omega)
  | ⟨1, _⟩ => exact h1.trans (by show tile i * 64 + r.val = 64 * tile i + r.val; omega)
  | ⟨2, _⟩ => exact h2.trans (by show 0 * 1024 + e.val = e.val; omega)

theorem block0 (t : Fin cfg0.N) (b : Fin 8) (r : Fin 64) (e : Fin 1024) :
    iblk m c 0 t (ix3 b r e) = V m c main_arg0 (ix3 b (token (grid0.coords t) r) e) := by
  blk_simp [iblk]
  refine congrArg _ (place_eq _ b r e _ ?_ ?_ ?_)
  · blk_simp
    exact Nat.add_eq_right.mpr rfl
  · blk_simp
    exact congrArg (· * 64 + r.val) (word_eq (grid0.coords t 0))
  · blk_simp
    exact Nat.add_eq_right.mpr rfl

theorem block4 (t : Fin cfg0.N) (e o : Fin 1024) :
    X0_4 m c t (ix3 0 e o) = V m c main_v1 (ix3 0 e ⟨5120 + o.val, by omega⟩) := by
  unfold X0_4 Pipeline.Window.fill
  rw [dif_pos (moved0_4 t _)]
  blk_simp [iblk]
  refine congrArg _ (funext fun a => Fin.ext ?_)
  match a with
  | ⟨0, _⟩ => blk_simp; rfl
  | ⟨1, _⟩ => blk_simp; show 0 * 1024 + e.val = e.val; omega
  | ⟨2, _⟩ => blk_simp; show 5 * 1024 + o.val = 5120 + o.val; omega

theorem block5 (t : Fin cfg0.N) (e o : Fin 1024) :
    X0_5 m c t (ix3 0 e o) = V m c main_v1 (ix3 0 e ⟨6144 + o.val, by omega⟩) := by
  unfold X0_5 Pipeline.Window.fill
  rw [dif_pos (moved0_5 t _)]
  blk_simp [iblk]
  refine congrArg _ (funext fun a => Fin.ext ?_)
  match a with
  | ⟨0, _⟩ => blk_simp; rfl
  | ⟨1, _⟩ => blk_simp; show 0 * 1024 + e.val = e.val; omega
  | ⟨2, _⟩ => blk_simp; show 6 * 1024 + o.val = 6144 + o.val; omega

theorem block6 (t : Fin cfg0.N) (e o : Fin 1024) :
    X0_6 m c t (ix3 0 e o) = V m c main_v1 (ix3 0 e ⟨7168 + o.val, by omega⟩) := by
  unfold X0_6 Pipeline.Window.fill
  rw [dif_pos (moved0_6 t _)]
  blk_simp [iblk]
  refine congrArg _ (funext fun a => Fin.ext ?_)
  match a with
  | ⟨0, _⟩ => blk_simp; rfl
  | ⟨1, _⟩ => blk_simp; show 0 * 1024 + e.val = e.val; omega
  | ⟨2, _⟩ => blk_simp; show 7 * 1024 + o.val = 7168 + o.val; omega

theorem block11 (t : Fin cfg0.N) (o : Fin 1024) :
    X0_11 m c t (ix3 0 0 o) = V m c main_v2 (ix3 0 0 ⟨5120 + o.val, by omega⟩) := by
  unfold X0_11 Pipeline.Window.fill
  rw [dif_pos (moved0_11 t _)]
  blk_simp [iblk]
  refine congrArg _ (funext fun a => Fin.ext ?_)
  match a with
  | ⟨0, _⟩ => blk_simp; rfl
  | ⟨1, _⟩ => blk_simp; rfl
  | ⟨2, _⟩ => blk_simp; show 5 * 1024 + o.val = 5120 + o.val; omega

theorem block12 (t : Fin cfg0.N) (o : Fin 1024) :
    X0_12 m c t (ix3 0 0 o) = V m c main_v2 (ix3 0 0 ⟨6144 + o.val, by omega⟩) := by
  unfold X0_12 Pipeline.Window.fill
  rw [dif_pos (moved0_12 t _)]
  blk_simp [iblk]
  refine congrArg _ (funext fun a => Fin.ext ?_)
  match a with
  | ⟨0, _⟩ => blk_simp; rfl
  | ⟨1, _⟩ => blk_simp; rfl
  | ⟨2, _⟩ => blk_simp; show 6 * 1024 + o.val = 6144 + o.val; omega

theorem block13 (t : Fin cfg0.N) (o : Fin 1024) :
    X0_13 m c t (ix3 0 0 o) = V m c main_v2 (ix3 0 0 ⟨7168 + o.val, by omega⟩) := by
  unfold X0_13 Pipeline.Window.fill
  rw [dif_pos (moved0_13 t _)]
  blk_simp [iblk]
  refine congrArg _ (funext fun a => Fin.ext ?_)
  match a with
  | ⟨0, _⟩ => blk_simp; rfl
  | ⟨1, _⟩ => blk_simp; rfl
  | ⟨2, _⟩ => blk_simp; show 7 * 1024 + o.val = 7168 + o.val; omega

theorem v1_eq (e : Fin 1024) (o : Fin 12304) :
    V m c main_v1 (ix3 0 e o) = m ((c.tc : Thread nD τ).loc main_arg1) (ix2 e o) := by
  have h : V m c main_v1 = (broadcastInDim S1x1024x12304 ![1, 2] bcast_S1024x12304_S1x1024x12304_1_2 (truncf .bf16 (m ((c.tc : Thread nD τ).loc main_arg1) : FVec Ideal S1024x12304 .f32) bitsLt_bf16_f32 : FVec Ideal S1024x12304 .bf16) : FVec Ideal S1x1024x12304 .bf16) := rfl
  rw [h]
  pointwise

theorem v2_eq (o : Fin 12304) :
    V m c main_v2 (ix3 0 0 o) = m ((c.tc : Thread nD τ).loc main_arg2) (ix1 o) := by
  have h : V m c main_v2 = (shapeCast S1x1x12304 (m ((c.tc : Thread nD τ).loc main_arg2) : FVec Ideal S12304 .f32) shapeCasts_S12304_S1x1x12304 : FVec Ideal S1x1x12304 .f32) := rfl
  rw [h]
  refine shapeCast_apply (s := S12304) _ _ _ _ ?_
  rw [Shape.rowMajor_val_one, Shape.rowMajor_val_three]
  show o.val = (0 * 1 + 0) * 12304 + o.val
  omega

theorem place22 (t : Fin cfg0.N) (b : Fin 8) (r : Fin 64) (o : Fin 1024) :
    (win0_22.blk t).view.emb (ix3 b r o) = ix3 b (token (grid0.coords t) r) o := by
  refine place_eq _ b r o _ ?_ ?_ ?_
  · blk_simp
    exact Nat.add_eq_right.mpr rfl
  · blk_simp
    exact congrArg (· * 64 + r.val) (word_eq (grid0.coords t 0))
  · blk_simp
    exact Nat.add_eq_right.mpr rfl

theorem place23 (t : Fin cfg0.N) (b : Fin 8) (r : Fin 64) (o : Fin 1024) :
    (win0_23.blk t).view.emb (ix3 b r o) = ix3 b (token (grid0.coords t) r) o := by
  refine place_eq _ b r o _ ?_ ?_ ?_
  · blk_simp
    exact Nat.add_eq_right.mpr rfl
  · blk_simp
    exact congrArg (· * 64 + r.val) (word_eq (grid0.coords t 0))
  · blk_simp
    exact Nat.add_eq_right.mpr rfl

theorem place24 (t : Fin cfg0.N) (b : Fin 8) (r : Fin 64) (o : Fin 1024) :
    (win0_24.blk t).view.emb (ix3 b r o) = ix3 b (token (grid0.coords t) r) o := by
  refine place_eq _ b r o _ ?_ ?_ ?_
  · blk_simp
    exact Nat.add_eq_right.mpr rfl
  · blk_simp
    exact congrArg (· * 64 + r.val) (word_eq (grid0.coords t 0))
  · blk_simp
    exact Nat.add_eq_right.mpr rfl

/-- A projection of a token, at a column. -/
def proj (x : Vec Ideal S8x2048x1024 .f32) (w : FVec Ideal S1024x12304 .f32) (bb : FVec Ideal S12304 .f32) (off : ℕ) (hoff : off ≤ 11264) (b : Fin 8) (t : Fin 2048) (o : Fin 1024) : EReal :=
  (∑ e : Fin 1024, x (ix3 b t e) * w (ix2 e ⟨off + o.val, by omega⟩)) + bb (ix1 ⟨off + o.val, by omega⟩)

/-- The queries of the program's arguments. -/
def queries (x : Vec Ideal S8x2048x1024 .f32) (w : FVec Ideal S1024x12304 .f32) (bb : FVec Ideal S12304 .f32) : FVec Ideal S8x2048x1024 .bf16 :=
  fun y => proj x w bb 5120 (by decide) (y 0) (y 1) (y 2) * scale
/-- The keys. -/
def keys (x : Vec Ideal S8x2048x1024 .f32) (w : FVec Ideal S1024x12304 .f32) (bb : FVec Ideal S12304 .f32) : FVec Ideal S8x2048x1024 .bf16 :=
  fun y => proj x w bb 6144 (by decide) (y 0) (y 1) (y 2)
/-- The values. -/
def vals (x : Vec Ideal S8x2048x1024 .f32) (w : FVec Ideal S1024x12304 .f32) (bb : FVec Ideal S12304 .f32) : FVec Ideal S8x2048x1024 .bf16 :=
  fun y => proj x w bb 7168 (by decide) (y 0) (y 1) (y 2)

theorem queries_eq {r : PUnit × MemSt nD τ sig (Elt Ideal)} (h : RDat.FramePost (cfgs 0) (fun c => rdat m c) (V m) r) (c : Dev nD) :
    r.2.mem ((c.tc : Thread nD τ).loc main_v7_1) =
      queries (m ((c.tc : Thread nD τ).loc main_arg0)) (m ((c.tc : Thread nD τ).loc main_arg1)) (m ((c.tc : Thread nD τ).loc main_arg2)) := by
  obtain ⟨after, hL, hA⟩ := RDat.FramePost.exists_exact h c
  refine (hA 22).trans (((rdat m c).withAfter after).arrAt_eq_of_covers 22 _ (by decide +kernel) fun t hf y => ?_)
  obtain ⟨Y, -, hg⟩ := hL 22 t hf
  obtain ⟨b, q, o, rfl⟩ : ∃ (b : Fin 8) (q : Fin 64) (o : Fin 1024), y = ix3 b q o := ⟨y 0, y 1, y 2, eq_ix3 y⟩
  refine Eq.trans ?_ (congrArg _ (place22 t b q o)).symm
  refine (good_scaled (by decide) (x := iblk m c 0 t) (w := X0_4 m c t) (bb := X0_11 m c t) (X := after 22 t) hg b q o).trans ?_
  show _ = _
  refine congrArg (· * scale) (congrArg₂ (· + ·) (Finset.sum_congr rfl fun e _ => ?_) ?_)
  · rw [block0, block4, v1_eq, V_main_arg0]
    rfl
  · rw [block11, v2_eq]
    rfl

theorem keys_eq {r : PUnit × MemSt nD τ sig (Elt Ideal)} (h : RDat.FramePost (cfgs 0) (fun c => rdat m c) (V m) r) (c : Dev nD) :
    r.2.mem ((c.tc : Thread nD τ).loc main_v7_2) =
      keys (m ((c.tc : Thread nD τ).loc main_arg0)) (m ((c.tc : Thread nD τ).loc main_arg1)) (m ((c.tc : Thread nD τ).loc main_arg2)) := by
  obtain ⟨after, hL, hA⟩ := RDat.FramePost.exists_exact h c
  refine (hA 23).trans (((rdat m c).withAfter after).arrAt_eq_of_covers 23 _ (by decide +kernel) fun t hf y => ?_)
  obtain ⟨Y, -, hg⟩ := hL 23 t hf
  obtain ⟨b, q, o, rfl⟩ : ∃ (b : Fin 8) (q : Fin 64) (o : Fin 1024), y = ix3 b q o := ⟨y 0, y 1, y 2, eq_ix3 y⟩
  refine Eq.trans ?_ (congrArg _ (place23 t b q o)).symm
  refine (good_plain (by decide) (x := iblk m c 0 t) (w := X0_5 m c t) (bb := X0_12 m c t) (X := after 23 t) hg b q o).trans ?_
  show _ = _
  refine (congrArg₂ (· + ·) (Finset.sum_congr rfl fun e _ => ?_) ?_)
  · rw [block0, block5, v1_eq, V_main_arg0]
    rfl
  · rw [block12, v2_eq]
    rfl

theorem vals_eq {r : PUnit × MemSt nD τ sig (Elt Ideal)} (h : RDat.FramePost (cfgs 0) (fun c => rdat m c) (V m) r) (c : Dev nD) :
    r.2.mem ((c.tc : Thread nD τ).loc main_v7_3) =
      vals (m ((c.tc : Thread nD τ).loc main_arg0)) (m ((c.tc : Thread nD τ).loc main_arg1)) (m ((c.tc : Thread nD τ).loc main_arg2)) := by
  obtain ⟨after, hL, hA⟩ := RDat.FramePost.exists_exact h c
  refine (hA 24).trans (((rdat m c).withAfter after).arrAt_eq_of_covers 24 _ (by decide +kernel) fun t hf y => ?_)
  obtain ⟨Y, -, hg⟩ := hL 24 t hf
  obtain ⟨b, q, o, rfl⟩ : ∃ (b : Fin 8) (q : Fin 64) (o : Fin 1024), y = ix3 b q o := ⟨y 0, y 1, y 2, eq_ix3 y⟩
  refine Eq.trans ?_ (congrArg _ (place24 t b q o)).symm
  refine (good_plain (by decide) (x := iblk m c 0 t) (w := X0_6 m c t) (bb := X0_13 m c t) (X := after 24 t) hg b q o).trans ?_
  show _ = _
  refine (congrArg₂ (· + ·) (Finset.sum_congr rfl fun e _ => ?_) ?_)
  · rw [block0, block6, v1_eq, V_main_arg0]
    rfl
  · rw [block13, v2_eq]
    rfl

end Cert.ProjectionsIdeal.Val

end
-- ==== Proof.ProjectionsRef.lean ====
module

public import proofs.«01_k».proof.Proof.ProjectionsValue
public import proofs.«01_k».proof.Proof.Gen.ProjectionsReferenceIdeal.Run

/-!
The reference's queries, keys and values at an index.
-/

@[expose] public section
set_option maxRecDepth 16384
noncomputable section
namespace Cert.ProjectionsReferenceIdeal.Val
open Cert.ProjectionsReferenceIdeal Cert.ProjectionsReferenceIdeal.Gen Idealize.ShloMosaic Idealize.ShloMosaic.TcCoe Idealize.SL.Sem
open Cert.ProjectionsIdeal.Val (proj queries keys vals scale)

variable (x : FVec Ideal S8x2048x1024 .f32) (w : FVec Ideal S1024x12304 .f32) (b : FVec Ideal S12304 .f32)

/-- The projection of the layer's input. -/
def inProj : FVec Ideal S8x2048x12304 .f32 :=
  addf (Host.dotGeneral dot_S8x2048x1024_S1024x12304_S8x2048x12304_2_0_01_1_n_n none x w) (broadcastInDim S8x2048x12304 ![0, 1, 2] bcast_S1x1x12304_S8x2048x12304_0_1_2 (broadcastInDim S1x1x12304 ![2] bcast_S12304_S1x1x12304_2 b))

theorem inProj_apply (n : Fin 8) (t : Fin 2048) (o : Fin 12304) :
    inProj x w b (ix3 n t o) = (∑ e : Fin 1024, x (ix3 n t e) * w (ix2 e o)) + b (ix1 o) := by
  unfold inProj
  pointwise

theorem queries_ref : (truncf .bf16 (mulf (extractStridedSlice S8x2048x1024 ![0, 0, 5120] (inProj x w b) slices_S8x2048x12304_S8x2048x1024_0_0_5120) (broadcastInDim S8x2048x1024 ![] bcast_S_S8x2048x1024 (constant S_ .f32 0x3E38AA3B#32))) bitsLt_bf16_f32 : FVec Ideal S8x2048x1024 .bf16) = queries x w b := by
  funext y
  obtain ⟨n, t, o, rfl⟩ : ∃ (n : Fin 8) (t : Fin 2048) (o : Fin 1024), y = ix3 n t o := ⟨y 0, y 1, y 2, eq_ix3 y⟩
  pointwise
  rw [inProj_apply]
  rfl

theorem keys_ref : (truncf .bf16 (extractStridedSlice S8x2048x1024 ![0, 0, 6144] (inProj x w b) slices_S8x2048x12304_S8x2048x1024_0_0_6144) bitsLt_bf16_f32 : FVec Ideal S8x2048x1024 .bf16) = keys x w b := by
  funext y
  obtain ⟨n, t, o, rfl⟩ : ∃ (n : Fin 8) (t : Fin 2048) (o : Fin 1024), y = ix3 n t o := ⟨y 0, y 1, y 2, eq_ix3 y⟩
  pointwise
  rw [inProj_apply]
  rfl

theorem vals_ref : (truncf .bf16 (extractStridedSlice S8x2048x1024 ![0, 0, 7168] (inProj x w b) slices_S8x2048x12304_S8x2048x1024_0_0_7168) bitsLt_bf16_f32 : FVec Ideal S8x2048x1024 .bf16) = vals x w b := by
  funext y
  obtain ⟨n, t, o, rfl⟩ : ∃ (n : Fin 8) (t : Fin 2048) (o : Fin 1024), y = ix3 n t o := ⟨y 0, y 1, y 2, eq_ix3 y⟩
  pointwise
  rw [inProj_apply]
  rfl

end Cert.ProjectionsReferenceIdeal.Val

end
-- ==== Proof.lean ====
module

public import proofs.«01_k».proof.Defs
public import proofs.«01_k».proof.Proof.Join
public import proofs.«01_k».proof.Proof.RecurrentFrame
public import proofs.«01_k».proof.Proof.RecurrentIdealFrame
public import proofs.«01_k».proof.Proof.MergeJoin
public import proofs.«01_k».proof.Proof.ProjectionsRef
public import proofs.«01_k».proof.Proof.ProjectionsFrame
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Merge.Frame
public import proofs.«01_k».proof.Proof.Gen.MergeIdeal.Value
public import proofs.«01_k».proof.Proof.Gen.MergeReferenceIdeal.Run
public import Idealize.ShloMosaic.Lib.Quiescent

@[expose] public section

noncomputable section

namespace Cert.Proof

open Idealize.ShloMosaic Idealize.ShloMosaic.TcCoe Idealize.SL.Sem

/-- The reference runs, keeps its arguments and leaves no semaphore counted up. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The array the kernel leaves is the reference's function of the arguments. -/
theorem kernel_result (m : (ℓ : Loc Cert.KernelIdeal.nD Cert.KernelIdeal.τ Cert.KernelIdeal.sig) → Buf (Elt Ideal) ℓ)
    (c : Dev Cert.KernelIdeal.nD)
    (h : Cert.Pre_finite.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) = fun _ => 1#1) :
    (Cert.KernelIdeal.Gen.dats m 0 c).arrAt 4 Cert.KernelIdeal.cfg0.N
      = Cert.ReferenceIdeal.Val.whole (m (c.tc.loc Cert.KernelIdeal.main_arg0)) (m (c.tc.loc Cert.KernelIdeal.main_arg1))
          (m (c.tc.loc Cert.KernelIdeal.main_arg2)) (m (c.tc.loc Cert.KernelIdeal.main_arg3)) := by
  obtain ⟨hq, hk, hf⟩ := Cert.Join.finite_args _ _ _ _ h
  choose qr hq using hq
  choose kr hk using hk
  choose fr hf using hf
  refine (Cert.KernelIdeal.Val.arr_eq m c).trans ?_
  rw [Cert.KernelIdeal.Val.v35_eq, Cert.KernelIdeal.Val.v32_eq, funext (Cert.KernelIdeal.Val.v36_eq m c),
    funext (Cert.KernelIdeal.Val.v37_eq m c)]
  exact Cert.Join.out_eq _ _ _ _ qr kr fr hq hk hf

/-- On finite queries, keys and forget gates kernel and reference end with one array. -/
theorem values : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (kernel_result m c (hpre c)).symm
  rw [Cert.ReferenceIdeal.Val.res_eq, (hagree c).1, (hagree c).2.1, (hagree c).2.2.1, (hagree c).2.2.2]

/-- The merge's reference runs, keeps its arguments and leaves no semaphore counted up. -/
theorem merge_reference_frame : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge and its reference end with one array, whatever the arguments. -/
theorem merge_values : Cert.algebraic_MergeIdeal_MergeReferenceIdeal := by
  intro m ρ m' ρ' _ hagree
  refine ⟨_, Cert.MergeIdeal.Value.run_blocks m ρ, ?_⟩
  refine (θ_run Cert.MergeReferenceIdeal.defs _ _).mono (fun _ h c => ⟨(h c).1.trans ?_, (h c).2⟩)
    (Cert.MergeReferenceIdeal.Value.run (F := Ideal) m' ρ')
  refine Eq.trans ?_ (Cert.MergeJoin.arr_eq_whole m c).symm
  obtain ⟨h0, h1, h2, h3, h4, h5, h6, h7, h8, h9, h10⟩ := hagree c
  rw [Cert.MergeReferenceIdeal.Val.res_eq, h0, h1, h2, h3, h4, h5, h6, h7, h8, h9, h10]

/-- The projections' reference runs, keeps its arguments and leaves no semaphore counted up. -/
theorem projections_reference_frame : Cert.quiescent_ProjectionsReferenceIdeal := fun m ρ _ =>
  (θ_run Cert.ProjectionsReferenceIdeal.defs _ _).mono (fun r h => ⟨fun c => (h c).2.2.2, sem_eq_zero_of_no_sems (by decide) r.2⟩)
    (Cert.ProjectionsReferenceIdeal.Value.run (F := Ideal) m ρ)

/-- The projections and their reference end with the same queries, keys and values, whatever the arguments. -/
theorem projections_values : Cert.algebraic_ProjectionsIdeal_ProjectionsReferenceIdeal := by
  intro m ρ m' ρ' _ hagree
  refine ⟨_, _, _, (θ_run Cert.ProjectionsIdeal.defs _ _).mono (fun r h c =>
    ⟨Cert.ProjectionsIdeal.Val.queries_eq m h.1 c, Cert.ProjectionsIdeal.Val.keys_eq m h.1 c, Cert.ProjectionsIdeal.Val.vals_eq m h.1 c,
      Cert.ProjectionsIdeal.Hand.args_eq m h.1 c⟩) (Cert.ProjectionsIdeal.Hand.run_main m ρ), ?_⟩
  refine (θ_run Cert.ProjectionsReferenceIdeal.defs _ _).mono (fun _ h c =>
    ⟨(h c).1.trans ?_, (h c).2.1.trans ?_, (h c).2.2.1.trans ?_, (h c).2.2.2⟩)
    (Cert.ProjectionsReferenceIdeal.Value.run (F := Ideal) m' ρ')
  all_goals obtain ⟨h0, h1, h2, -⟩ := hagree c
  · rw [h0, h1, h2]
    exact Cert.ProjectionsReferenceIdeal.Val.queries_ref _ _ _
  · rw [h0, h1, h2]
    exact Cert.ProjectionsReferenceIdeal.Val.keys_ref _ _ _
  · rw [h0, h1, h2]
    exact Cert.ProjectionsReferenceIdeal.Val.vals_ref _ _ _

theorem claim : Cert.Claim :=
  ⟨Cert.Kernel.Gen.facts, Cert.KernelIdeal.Gen.facts, Cert.ReferenceIdeal.Gen.facts,
    Cert.Merge.Gen.facts, Cert.MergeIdeal.Gen.facts, Cert.MergeReferenceIdeal.Gen.facts,
    Cert.Recurrent.Gen.facts, Cert.RecurrentIdeal.Gen.facts,
    Cert.Projections.Gen.facts, Cert.ProjectionsIdeal.Gen.facts, Cert.ProjectionsReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Merge.Gen.frame m ρ,
    fun m ρ _ => Cert.MergeIdeal.Gen.frame m ρ,
    merge_reference_frame,
    fun m ρ _ => Cert.Recurrent.Hand.frame_all m ρ,
    fun m ρ _ => Cert.RecurrentIdeal.Hand.frame_all m ρ,
    fun m ρ _ => Cert.Projections.Hand.frame_all m ρ,
    fun m ρ _ => Cert.ProjectionsIdeal.Hand.frame_all m ρ,
    projections_reference_frame,
    IdealRules.named_const.statement Cert.KernelIdeal.κ "mask" .f32 0xF149F2CA#32 ⊥ rfl,
    values, trivial, merge_values, trivial, trivial, projections_values⟩

end Cert.Proof

end
